-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_contiguous [hPre_segments_contiguous : Cert.Pre_segments_contiguous.Facts] (m : (ℓ : Loc Cert.KernelIdeal.nD Cert.KernelIdeal.τ Cert.KernelIdeal.sig) → Buf (Elt Ideal) ℓ) : Prop :=
  ∀ c : Dev Cert.KernelIdeal.nD,
    (Cert.Pre_segments_contiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_contiguous [hPre_segments_contiguous : Cert.Pre_segments_contiguous.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_contiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Merge [hPre_block_starts : Cert.Pre_block_starts.Facts] (m : (ℓ : Loc Cert.Merge.nD Cert.Merge.τ Cert.Merge.sig) → Buf (Elt Bits) ℓ) : Prop :=
  ∀ c : Dev Cert.Merge.nD,
    (Cert.Pre_block_starts.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3))) = (fun _ => 1#1)

def Pre_MergeReference (m : (ℓ : Loc Cert.MergeReference.nD Cert.MergeReference.τ Cert.MergeReference.sig) → Buf (Elt Bits) ℓ) : Prop :=
  True

def Pre_MergeReference_block_starts [hPre_block_starts : Cert.Pre_block_starts.Facts] (m : (ℓ : Loc Cert.MergeReference.nD Cert.MergeReference.τ Cert.MergeReference.sig) → Buf (Elt Bits) ℓ) : Prop :=
  ∀ c : Dev Cert.MergeReference.nD,
    (Cert.Pre_block_starts.fn (F := Bits) (m ((c.tc : Thread Cert.MergeReference.nD Cert.MergeReference.τ).loc Cert.MergeReference.main_arg0)) (m ((c.tc : Thread Cert.MergeReference.nD Cert.MergeReference.τ).loc Cert.MergeReference.main_arg1)) (m ((c.tc : Thread Cert.MergeReference.nD Cert.MergeReference.τ).loc Cert.MergeReference.main_arg2)) (m ((c.tc : Thread Cert.MergeReference.nD Cert.MergeReference.τ).loc Cert.MergeReference.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_segments_contiguous [hKernelIdeal : Cert.KernelIdeal.Facts] [hPre_segments_contiguous : Cert.Pre_segments_contiguous.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_contiguous m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_segments_contiguous [hReferenceIdeal : Cert.ReferenceIdeal.Facts] [hPre_segments_contiguous : Cert.Pre_segments_contiguous.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_contiguous m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Merge [hMerge : Cert.Merge.Facts] [hPre_block_starts : Cert.Pre_block_starts.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeReference [hMergeReference : Cert.MergeReference.Facts] : Prop :=
  ∀ (m : (ℓ : Loc Cert.MergeReference.nD Cert.MergeReference.τ Cert.MergeReference.sig) → Buf (Elt Bits) ℓ) (g : Dev Cert.MergeReference.nD → PrngReg), Pre_MergeReference m →
    θ_run (Cert.MergeReference.defs (F := Bits)) (onTc (τ := Cert.MergeReference.τ) (Cert.MergeReference.main (F := Bits))) ⟨m, fun _ => 0, g⟩ (fun r => (∀ c : Dev Cert.MergeReference.nD,
      r.2.mem ((c.tc : Thread Cert.MergeReference.nD Cert.MergeReference.τ).loc Cert.MergeReference.main_arg0) = m ((c.tc : Thread Cert.MergeReference.nD Cert.MergeReference.τ).loc Cert.MergeReference.main_arg0)
      ∧ r.2.mem ((c.tc : Thread Cert.MergeReference.nD Cert.MergeReference.τ).loc Cert.MergeReference.main_arg1) = m ((c.tc : Thread Cert.MergeReference.nD Cert.MergeReference.τ).loc Cert.MergeReference.main_arg1)
      ∧ r.2.mem ((c.tc : Thread Cert.MergeReference.nD Cert.MergeReference.τ).loc Cert.MergeReference.main_arg2) = m ((c.tc : Thread Cert.MergeReference.nD Cert.MergeReference.τ).loc Cert.MergeReference.main_arg2)
      ∧ r.2.mem ((c.tc : Thread Cert.MergeReference.nD Cert.MergeReference.τ).loc Cert.MergeReference.main_arg3) = m ((c.tc : Thread Cert.MergeReference.nD Cert.MergeReference.τ).loc Cert.MergeReference.main_arg3))
      ∧ r.2.sem = fun _ => 0)

def quiescent_MergeReference_pre_block_starts [hMergeReference : Cert.MergeReference.Facts] [hPre_block_starts : Cert.Pre_block_starts.Facts] : Prop :=
  ∀ (m : (ℓ : Loc Cert.MergeReference.nD Cert.MergeReference.τ Cert.MergeReference.sig) → Buf (Elt Bits) ℓ) (g : Dev Cert.MergeReference.nD → PrngReg), Pre_MergeReference_block_starts m →
    θ_run (Cert.MergeReference.defs (F := Bits)) (onTc (τ := Cert.MergeReference.τ) (Cert.MergeReference.main (F := Bits))) ⟨m, fun _ => 0, g⟩ (fun r => (∀ c : Dev Cert.MergeReference.nD,
      r.2.mem ((c.tc : Thread Cert.MergeReference.nD Cert.MergeReference.τ).loc Cert.MergeReference.main_arg0) = m ((c.tc : Thread Cert.MergeReference.nD Cert.MergeReference.τ).loc Cert.MergeReference.main_arg0)
      ∧ r.2.mem ((c.tc : Thread Cert.MergeReference.nD Cert.MergeReference.τ).loc Cert.MergeReference.main_arg1) = m ((c.tc : Thread Cert.MergeReference.nD Cert.MergeReference.τ).loc Cert.MergeReference.main_arg1)
      ∧ r.2.mem ((c.tc : Thread Cert.MergeReference.nD Cert.MergeReference.τ).loc Cert.MergeReference.main_arg2) = m ((c.tc : Thread Cert.MergeReference.nD Cert.MergeReference.τ).loc Cert.MergeReference.main_arg2)
      ∧ r.2.mem ((c.tc : Thread Cert.MergeReference.nD Cert.MergeReference.τ).loc Cert.MergeReference.main_arg3) = m ((c.tc : Thread Cert.MergeReference.nD Cert.MergeReference.τ).loc Cert.MergeReference.main_arg3))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal_pre_segments_contiguous [hKernelIdeal : Cert.KernelIdeal.Facts] [hReferenceIdeal : Cert.ReferenceIdeal.Facts] [hPre_segments_contiguous : Cert.Pre_segments_contiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_contiguous m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Merge_MergeReference [hMerge : Cert.Merge.Facts] [hMergeReference : Cert.MergeReference.Facts] [hPre_block_starts : Cert.Pre_block_starts.Facts] : Prop :=
  ∀ (m : (ℓ : Loc Cert.Merge.nD Cert.Merge.τ Cert.Merge.sig) → Buf (Elt Bits) ℓ) (g : Dev Cert.Merge.nD → PrngReg)
    (m' : (ℓ : Loc Cert.MergeReference.nD Cert.MergeReference.τ Cert.MergeReference.sig) → Buf (Elt Bits) ℓ) (g' : Dev Cert.MergeReference.nD → PrngReg), Pre_Merge m →
    (∀ c : Dev Cert.Merge.nD,
      m' ((c.tc : Thread Cert.MergeReference.nD Cert.MergeReference.τ).loc Cert.MergeReference.main_arg0) = m ((c.tc : Thread Cert.Merge.nD Cert.Merge.τ).loc Cert.Merge.main_arg0)
      ∧ m' ((c.tc : Thread Cert.MergeReference.nD Cert.MergeReference.τ).loc Cert.MergeReference.main_arg1) = m ((c.tc : Thread Cert.Merge.nD Cert.Merge.τ).loc Cert.Merge.main_arg1)
      ∧ m' ((c.tc : Thread Cert.MergeReference.nD Cert.MergeReference.τ).loc Cert.MergeReference.main_arg2) = m ((c.tc : Thread Cert.Merge.nD Cert.Merge.τ).loc Cert.Merge.main_arg2)
      ∧ m' ((c.tc : Thread Cert.MergeReference.nD Cert.MergeReference.τ).loc Cert.MergeReference.main_arg3) = m ((c.tc : Thread Cert.Merge.nD Cert.Merge.τ).loc Cert.Merge.main_arg3)) →
    ∃ (v0 : (c : Dev Cert.Merge.nD) → Buf (Elt Bits) ((c.tc : Thread Cert.Merge.nD Cert.Merge.τ).loc Cert.Merge.main_v0)),
      θ_run (Cert.Merge.defs (F := Bits)) (onTc (τ := Cert.Merge.τ) (Cert.Merge.main (F := Bits))) ⟨m, fun _ => 0, g⟩ (fun r => ∀ c : Dev Cert.Merge.nD,
          r.2.mem ((c.tc : Thread Cert.Merge.nD Cert.Merge.τ).loc Cert.Merge.main_v0) = v0 c
          ∧ r.2.mem ((c.tc : Thread Cert.Merge.nD Cert.Merge.τ).loc Cert.Merge.main_arg0) = m ((c.tc : Thread Cert.Merge.nD Cert.Merge.τ).loc Cert.Merge.main_arg0)
          ∧ r.2.mem ((c.tc : Thread Cert.Merge.nD Cert.Merge.τ).loc Cert.Merge.main_arg1) = m ((c.tc : Thread Cert.Merge.nD Cert.Merge.τ).loc Cert.Merge.main_arg1)
          ∧ r.2.mem ((c.tc : Thread Cert.Merge.nD Cert.Merge.τ).loc Cert.Merge.main_arg2) = m ((c.tc : Thread Cert.Merge.nD Cert.Merge.τ).loc Cert.Merge.main_arg2)
          ∧ r.2.mem ((c.tc : Thread Cert.Merge.nD Cert.Merge.τ).loc Cert.Merge.main_arg3) = m ((c.tc : Thread Cert.Merge.nD Cert.Merge.τ).loc Cert.Merge.main_arg3))
      ∧ θ_run (Cert.MergeReference.defs (F := Bits)) (onTc (τ := Cert.MergeReference.τ) (Cert.MergeReference.main (F := Bits))) ⟨m', fun _ => 0, g'⟩ (fun r => ∀ c : Dev Cert.MergeReference.nD,
          r.2.mem ((c.tc : Thread Cert.MergeReference.nD Cert.MergeReference.τ).loc Cert.MergeReference.main_v68) = v0 c
          ∧ r.2.mem ((c.tc : Thread Cert.MergeReference.nD Cert.MergeReference.τ).loc Cert.MergeReference.main_arg0) = m' ((c.tc : Thread Cert.MergeReference.nD Cert.MergeReference.τ).loc Cert.MergeReference.main_arg0)
          ∧ r.2.mem ((c.tc : Thread Cert.MergeReference.nD Cert.MergeReference.τ).loc Cert.MergeReference.main_arg1) = m' ((c.tc : Thread Cert.MergeReference.nD Cert.MergeReference.τ).loc Cert.MergeReference.main_arg1)
          ∧ r.2.mem ((c.tc : Thread Cert.MergeReference.nD Cert.MergeReference.τ).loc Cert.MergeReference.main_arg2) = m' ((c.tc : Thread Cert.MergeReference.nD Cert.MergeReference.τ).loc Cert.MergeReference.main_arg2)
          ∧ r.2.mem ((c.tc : Thread Cert.MergeReference.nD Cert.MergeReference.τ).loc Cert.MergeReference.main_arg3) = m' ((c.tc : Thread Cert.MergeReference.nD Cert.MergeReference.τ).loc Cert.MergeReference.main_arg3))

def Claim : Prop :=
  ∃ (hKernel : Cert.Kernel.Facts) (hKernelIdeal : Cert.KernelIdeal.Facts) (hReferenceIdeal : Cert.ReferenceIdeal.Facts) (hMerge : Cert.Merge.Facts) (hMergeReference : Cert.MergeReference.Facts) (hPre_segments_contiguous : Cert.Pre_segments_contiguous.Facts) (hPre_block_starts : Cert.Pre_block_starts.Facts),
    quiescent_Kernel (hKernel := hKernel)
    ∧ quiescent_KernelIdeal (hKernelIdeal := hKernelIdeal)
    ∧ quiescent_KernelIdeal_pre_segments_contiguous (hKernelIdeal := hKernelIdeal) (hPre_segments_contiguous := hPre_segments_contiguous)
    ∧ quiescent_ReferenceIdeal (hReferenceIdeal := hReferenceIdeal)
    ∧ quiescent_ReferenceIdeal_pre_segments_contiguous (hReferenceIdeal := hReferenceIdeal) (hPre_segments_contiguous := hPre_segments_contiguous)
    ∧ quiescent_Merge (hMerge := hMerge) (hPre_block_starts := hPre_block_starts)
    ∧ quiescent_MergeReference (hMergeReference := hMergeReference)
    ∧ quiescent_MergeReference_pre_block_starts (hMergeReference := hMergeReference) (hPre_block_starts := hPre_block_starts)
    ∧ preserves_Kernel_KernelIdeal
    ∧ algebraic_KernelIdeal_ReferenceIdeal_pre_segments_contiguous (hKernelIdeal := hKernelIdeal) (hReferenceIdeal := hReferenceIdeal) (hPre_segments_contiguous := hPre_segments_contiguous)
    ∧ bitexact_Merge_MergeReference (hMerge := hMerge) (hMergeReference := hMergeReference) (hPre_block_starts := hPre_block_starts)
-- ==== Pre_block_starts.lean ====
abbrev S128 : Shape := ⟨1, ![128]⟩
abbrev S16384 : Shape := ⟨1, ![16384]⟩
abbrev S500000x128 : Shape := ⟨2, ![500000, 128]⟩
abbrev S4096x128 : Shape := ⟨2, ![4096, 128]⟩
abbrev S101 : Shape := ⟨1, ![101]⟩
abbrev S101x1 : Shape := ⟨2, ![101, 1]⟩
abbrev S1x16384 : Shape := ⟨2, ![1, 16384]⟩
abbrev S101x16384 : Shape := ⟨2, ![101, 16384]⟩
abbrev S_ : Shape := ⟨0, ![]⟩

class Facts : Prop where
  bcast_S101_S101x1_0 : S101.BroadcastsInDim S101x1 (![0] : Fin 1 → Fin S101x1.rank)
  slices_S128_S101_0 : S128.Slices ![0] S101
  bcast_S16384_S1x16384_1 : S16384.BroadcastsInDim S1x16384 (![1] : Fin 1 → Fin S1x16384.rank)
  bcast_S1x16384_S101x16384_0_1 : S1x16384.BroadcastsInDim S101x16384 (![0, 1] : Fin 2 → Fin S101x16384.rank)
  bcast_S101x1_S101x16384_0_1 : S101x1.BroadcastsInDim S101x16384 (![0, 1] : Fin 2 → Fin S101x16384.rank)
  bcast_S_S101x1 : S_.BroadcastsInDim S101x1 (![] : Fin 0 → Fin S101x1.rank)
  bcast_S_S1x16384 : S_.BroadcastsInDim S1x16384 (![] : Fin 0 → Fin S1x16384.rank)

variable [Facts]

def fn_part1 {F : FTy → Type} [FloatOps F] (main_v3 : IVec S101x1 32) (main_v20 : IVec S101x16384 1) (main_c_1 : IVec S_ 32) : IVec S101x16384 1 :=
  let main_v21 : IVec S101x1 32 := broadcastInDim S101x1 ![] bcast_S_S101x1 main_c_1
  let main_v22 : IVec S101x1 1 := cmpi .sge main_v3 main_v21
  let main_v23 : IVec S101x16384 1 := broadcastInDim S101x16384 ![0, 1] bcast_S101x1_S101x16384_0_1 main_v22
  let main_v24 : IVec S101x16384 1 := andi main_v20 main_v23
  let main_c_2 : IVec S_ 32 := constantI S_ 32 16384#32
  let main_v25 : IVec S101x1 32 := broadcastInDim S101x1 ![] bcast_S_S101x1 main_c_2
  let main_v26 : IVec S101x1 1 := cmpi .sle main_v3 main_v25
  let main_v27 : IVec S101x16384 1 := broadcastInDim S101x16384 ![0, 1] bcast_S101x1_S101x16384_0_1 main_v26
  let main_v28 : IVec S101x16384 1 := andi main_v24 main_v27
  main_v28

def fn {F : FTy → Type} [FloatOps F] (main_arg0 : IVec S128 32) (main_arg1 : IVec S16384 32) (main_arg2 : IVec S500000x128 32) (main_arg3 : IVec S4096x128 32) : IVec S101x16384 1 :=
  let main_v0 : IVec S101 32 := iotaInDim S101 32 0
  let main_v1 : IVec S101x1 32 := broadcastInDim S101x1 ![0] bcast_S101_S101x1_0 main_v0
  let main_v2 : IVec S101 32 := (extractStridedSlice S101 ![0] · slices_S128_S101_0) main_arg0
  let main_v3 : IVec S101x1 32 := broadcastInDim S101x1 ![0] bcast_S101_S101x1_0 main_v2
  let main_v4 : IVec S16384 32 := iotaInDim S16384 32 0
  let main_v5 : IVec S1x16384 32 := broadcastInDim S1x16384 ![1] bcast_S16384_S1x16384_1 main_v4
  let main_v6 : IVec S101x16384 32 := broadcastInDim S101x16384 ![0, 1] bcast_S1x16384_S101x16384_0_1 main_v5
  let main_v7 : IVec S101x16384 32 := broadcastInDim S101x16384 ![0, 1] bcast_S101x1_S101x16384_0_1 main_v3
  let main_v8 : IVec S101x16384 1 := cmpi .slt main_v6 main_v7
  let main_v9 : IVec S1x16384 32 := broadcastInDim S1x16384 ![1] bcast_S16384_S1x16384_1 main_arg1
  let main_c : IVec S_ 32 := constantI S_ 32 20000#32
  let main_v10 : IVec S101x1 32 := broadcastInDim S101x1 ![] bcast_S_S101x1 main_c
  let main_v11 : IVec S101x1 32 := muli main_v1 main_v10
  let main_v12 : IVec S101x16384 32 := broadcastInDim S101x16384 ![0, 1] bcast_S1x16384_S101x16384_0_1 main_v9
  let main_v13 : IVec S101x16384 32 := broadcastInDim S101x16384 ![0, 1] bcast_S101x1_S101x16384_0_1 main_v11
  let main_v14 : IVec S101x16384 1 := cmpi .slt main_v12 main_v13
  let main_v15 : IVec S101x16384 1 := cmpi .eq main_v8 main_v14
  let main_v16 : IVec S1x16384 32 := broadcastInDim S1x16384 ![1] bcast_S16384_S1x16384_1 main_arg1
  let main_c_0 : IVec S_ 32 := constantI S_ 32 0#32
  let main_v17 : IVec S1x16384 32 := broadcastInDim S1x16384 ![] bcast_S_S1x16384 main_c_0
  let main_v18 : IVec S1x16384 1 := cmpi .sge main_v16 main_v17
  let main_v19 : IVec S101x16384 1 := broadcastInDim S101x16384 ![0, 1] bcast_S1x16384_S101x16384_0_1 main_v18
  let main_v20 : IVec S101x16384 1 := andi main_v15 main_v19
  let main_c_1 : IVec S_ 32 := constantI S_ 32 0#32
  fn_part1 (F := F) main_v3 main_v20 main_c_1
-- ==== Pre_segments_contiguous.lean ====
abbrev S1 : Shape := ⟨1, ![1]⟩
abbrev S512 : Shape := ⟨1, ![512]⟩
abbrev S16448x128 : Shape := ⟨2, ![16448, 128]⟩
abbrev S16384x128 : Shape := ⟨2, ![16384, 128]⟩
abbrev S128x128 : Shape := ⟨2, ![128, 128]⟩
abbrev S32x16 : Shape := ⟨2, ![32, 16]⟩
abbrev S32x2 : Shape := ⟨2, ![32, 2]⟩
abbrev S64 : Shape := ⟨1, ![64]⟩
abbrev S64x1x1 : Shape := ⟨3, ![64, 1, 1]⟩
abbrev S1x64x1 : Shape := ⟨3, ![1, 64, 1]⟩
abbrev S1x1x64 : Shape := ⟨3, ![1, 1, 64]⟩
abbrev S64x64x1 : Shape := ⟨3, ![64, 64, 1]⟩
abbrev S1x64x64 : Shape := ⟨3, ![1, 64, 64]⟩
abbrev S64x64x64 : Shape := ⟨3, ![64, 64, 64]⟩
abbrev S_ : Shape := ⟨0, ![]⟩
abbrev S64x1x64 : Shape := ⟨3, ![64, 1, 64]⟩

class Facts : Prop where
  shapeCasts_S512_S32x16 : S512.ShapeCasts S32x16
  slices_S32x16_S32x2_0_0 : S32x16.Slices ![0, 0] S32x2
  shapeCasts_S32x2_S64 : S32x2.ShapeCasts S64
  bcast_S64_S64x1x1_0 : S64.BroadcastsInDim S64x1x1 (![0] : Fin 1 → Fin S64x1x1.rank)
  bcast_S64_S1x64x1_1 : S64.BroadcastsInDim S1x64x1 (![1] : Fin 1 → Fin S1x64x1.rank)
  bcast_S64_S1x1x64_2 : S64.BroadcastsInDim S1x1x64 (![2] : Fin 1 → Fin S1x1x64.rank)
  bcast_S64x1x1_S64x64x1_0_1_2 : S64x1x1.BroadcastsInDim S64x64x1 (![0, 1, 2] : Fin 3 → Fin S64x64x1.rank)
  bcast_S1x64x1_S64x64x1_0_1_2 : S1x64x1.BroadcastsInDim S64x64x1 (![0, 1, 2] : Fin 3 → Fin S64x64x1.rank)
  bcast_S1x64x1_S1x64x64_0_1_2 : S1x64x1.BroadcastsInDim S1x64x64 (![0, 1, 2] : Fin 3 → Fin S1x64x64.rank)
  bcast_S1x1x64_S1x64x64_0_1_2 : S1x1x64.BroadcastsInDim S1x64x64 (![0, 1, 2] : Fin 3 → Fin S1x64x64.rank)
  bcast_S64x64x1_S64x64x64_0_1_2 : S64x64x1.BroadcastsInDim S64x64x64 (![0, 1, 2] : Fin 3 → Fin S64x64x64.rank)
  bcast_S1x64x64_S64x64x64_0_1_2 : S1x64x64.BroadcastsInDim S64x64x64 (![0, 1, 2] : Fin 3 → Fin S64x64x64.rank)
  bcast_S_S64x1x1 : S_.BroadcastsInDim S64x1x1 (![] : Fin 0 → Fin S64x1x1.rank)
  bcast_S64x1x1_S64x64x64_0_1_2 : S64x1x1.BroadcastsInDim S64x64x64 (![0, 1, 2] : Fin 3 → Fin S64x64x64.rank)
  bcast_S_S1x64x1 : S_.BroadcastsInDim S1x64x1 (![] : Fin 0 → Fin S1x64x1.rank)
  bcast_S1x64x1_S64x64x64_0_1_2 : S1x64x1.BroadcastsInDim S64x64x64 (![0, 1, 2] : Fin 3 → Fin S64x64x64.rank)
  bcast_S64x1x1_S64x1x64_0_1_2 : S64x1x1.BroadcastsInDim S64x1x64 (![0, 1, 2] : Fin 3 → Fin S64x1x64.rank)
  bcast_S1x1x64_S64x1x64_0_1_2 : S1x1x64.BroadcastsInDim S64x1x64 (![0, 1, 2] : Fin 3 → Fin S64x1x64.rank)
  bcast_S64x1x64_S64x64x64_0_1_2 : S64x1x64.BroadcastsInDim S64x64x64 (![0, 1, 2] : Fin 3 → Fin S64x64x64.rank)

variable [Facts]

def fn_part1 {F : FTy → Type} [FloatOps F] (main_v4 : IVec S64x1x1 32) (main_v5 : IVec S1x64x1 32) (main_v6 : IVec S1x1x64 32) (main_v19 : IVec S64x64x64 1) (main_v22 : IVec S64x64x64 1) : IVec S64x64x64 1 :=
  let main_v23 : IVec S64x64x64 1 := andi main_v19 main_v22
  let main_c_0 : IVec S_ 32 := constantI S_ 32 0#32
  let main_v24 : IVec S1x64x1 32 := broadcastInDim S1x64x1 ![] bcast_S_S1x64x1 main_c_0
  let main_v25 : IVec S1x64x1 1 := cmpi .sge main_v5 main_v24
  let main_v26 : IVec S64x64x64 1 := broadcastInDim S64x64x64 ![0, 1, 2] bcast_S1x64x1_S64x64x64_0_1_2 main_v25
  let main_v27 : IVec S64x64x64 1 := andi main_v23 main_v26
  let main_v28 : IVec S64x1x64 32 := broadcastInDim S64x1x64 ![0, 1, 2] bcast_S64x1x1_S64x1x64_0_1_2 main_v4
  let main_v29 : IVec S64x1x64 32 := broadcastInDim S64x1x64 ![0, 1, 2] bcast_S1x1x64_S64x1x64_0_1_2 main_v6
  let main_v30 : IVec S64x1x64 1 := cmpi .eq main_v28 main_v29
  let main_v31 : IVec S64x64x64 1 := broadcastInDim S64x64x64 ![0, 1, 2] bcast_S64x1x64_S64x64x64_0_1_2 main_v30
  let main_v32 : IVec S64x64x64 1 := andi main_v27 main_v31
  let main_v33 : IVec S64x64x64 1 := noti main_v32
  let main_v34 : IVec S64x64x1 32 := broadcastInDim S64x64x1 ![0, 1, 2] bcast_S64x1x1_S64x64x1_0_1_2 main_v4
  let main_v35 : IVec S64x64x1 32 := broadcastInDim S64x64x1 ![0, 1, 2] bcast_S1x64x1_S64x64x1_0_1_2 main_v5
  let main_v36 : IVec S64x64x1 1 := cmpi .eq main_v34 main_v35
  let main_v37 : IVec S64x64x64 1 := broadcastInDim S64x64x64 ![0, 1, 2] bcast_S64x64x1_S64x64x64_0_1_2 main_v36
  let main_v38 : IVec S64x64x64 1 := ori main_v33 main_v37
  main_v38

def fn {F : FTy → Type} [FloatOps F] (main_arg0 : IVec S1 32) (main_arg1 : IVec S512 32) (main_arg2 : FVec F S16448x128 .f32) (main_arg3 : IVec S16384x128 32) (main_arg4 : FVec F S128x128 .f32) (main_arg5 : IVec S128x128 32) : IVec S64x64x64 1 :=
  let main_v0 : IVec S32x16 32 := shapeCast S32x16 main_arg1 shapeCasts_S512_S32x16
  let main_v1 : IVec S32x2 32 := (extractStridedSlice S32x2 ![0, 0] · slices_S32x16_S32x2_0_0) main_v0
  let main_v2 : IVec S64 32 := shapeCast S64 main_v1 shapeCasts_S32x2_S64
  let main_v3 : IVec S64 32 := iotaInDim S64 32 0
  let main_v4 : IVec S64x1x1 32 := broadcastInDim S64x1x1 ![0] bcast_S64_S64x1x1_0 main_v2
  let main_v5 : IVec S1x64x1 32 := broadcastInDim S1x64x1 ![1] bcast_S64_S1x64x1_1 main_v2
  let main_v6 : IVec S1x1x64 32 := broadcastInDim S1x1x64 ![2] bcast_S64_S1x1x64_2 main_v2
  let main_v7 : IVec S64x1x1 32 := broadcastInDim S64x1x1 ![0] bcast_S64_S64x1x1_0 main_v3
  let main_v8 : IVec S1x64x1 32 := broadcastInDim S1x64x1 ![1] bcast_S64_S1x64x1_1 main_v3
  let main_v9 : IVec S64x64x1 32 := broadcastInDim S64x64x1 ![0, 1, 2] bcast_S64x1x1_S64x64x1_0_1_2 main_v7
  let main_v10 : IVec S64x64x1 32 := broadcastInDim S64x64x1 ![0, 1, 2] bcast_S1x64x1_S64x64x1_0_1_2 main_v8
  let main_v11 : IVec S64x64x1 1 := cmpi .slt main_v9 main_v10
  let main_v12 : IVec S1x64x1 32 := broadcastInDim S1x64x1 ![1] bcast_S64_S1x64x1_1 main_v3
  let main_v13 : IVec S1x1x64 32 := broadcastInDim S1x1x64 ![2] bcast_S64_S1x1x64_2 main_v3
  let main_v14 : IVec S1x64x64 32 := broadcastInDim S1x64x64 ![0, 1, 2] bcast_S1x64x1_S1x64x64_0_1_2 main_v12
  let main_v15 : IVec S1x64x64 32 := broadcastInDim S1x64x64 ![0, 1, 2] bcast_S1x1x64_S1x64x64_0_1_2 main_v13
  let main_v16 : IVec S1x64x64 1 := cmpi .slt main_v14 main_v15
  let main_v17 : IVec S64x64x64 1 := broadcastInDim S64x64x64 ![0, 1, 2] bcast_S64x64x1_S64x64x64_0_1_2 main_v11
  let main_v18 : IVec S64x64x64 1 := broadcastInDim S64x64x64 ![0, 1, 2] bcast_S1x64x64_S64x64x64_0_1_2 main_v16
  let main_v19 : IVec S64x64x64 1 := andi main_v17 main_v18
  let main_c : IVec S_ 32 := constantI S_ 32 0#32
  let main_v20 : IVec S64x1x1 32 := broadcastInDim S64x1x1 ![] bcast_S_S64x1x1 main_c
  let main_v21 : IVec S64x1x1 1 := cmpi .sge main_v4 main_v20
  let main_v22 : IVec S64x64x64 1 := broadcastInDim S64x64x64 ![0, 1, 2] bcast_S64x1x1_S64x64x64_0_1_2 main_v21
  fn_part1 (F := F) main_v4 main_v5 main_v6 main_v19 main_v22
-- ==== Kernel.lean ====
abbrev S1 : Shape := ⟨1, ![1]⟩
abbrev S512 : Shape := ⟨1, ![512]⟩
abbrev S16448x128 : Shape := ⟨2, ![16448, 128]⟩
abbrev S16384x128 : Shape := ⟨2, ![16384, 128]⟩
abbrev S128x128 : Shape := ⟨2, ![128, 128]⟩
abbrev S1024x128 : Shape := ⟨2, ![1024, 128]⟩
abbrev S64x128 : Shape := ⟨2, ![64, 128]⟩
abbrev S8x128 : Shape := ⟨2, ![8, 128]⟩
abbrev S65 : Shape := ⟨1, ![65]⟩
abbrev S1x128 : Shape := ⟨2, ![1, 128]⟩
abbrev S128x8 : Shape := ⟨2, ![128, 8]⟩
abbrev S128x1 : Shape := ⟨2, ![128, 1]⟩
abbrev S128 : Shape := ⟨1, ![128]⟩

abbrev nBuf : Space → Nat
  | .hbm => 10
  | .vmem => 19
  | .smem => 3
  | _ => 0

abbrev bufTy : (tb : Table) → Fin (tcTables nBuf tb) → BufTy
  | .hbm, ⟨0, _⟩ => ⟨S1, .i32⟩
  | .hbm, ⟨1, _⟩ => ⟨S512, .i32⟩
  | .hbm, ⟨2, _⟩ => ⟨S16448x128, .f32⟩
  | .hbm, ⟨3, _⟩ => ⟨S16384x128, .i32⟩
  | .hbm, ⟨4, _⟩ => ⟨S128x128, .f32⟩
  | .hbm, ⟨5, _⟩ => ⟨S128x128, .i32⟩
  | .hbm, ⟨6, _⟩ => ⟨S16384x128, .f32⟩
  | .hbm, ⟨7, _⟩ => ⟨S16384x128, .f32⟩
  | .hbm, ⟨8, _⟩ => ⟨S16384x128, .i8⟩
  | .hbm, ⟨9, _⟩ => ⟨S128x128, .f32⟩
  | .local _ .vmem, ⟨0, _⟩ => ⟨S1024x128, .f32⟩
  | .local _ .vmem, ⟨1, _⟩ => ⟨S1024x128, .f32⟩
  | .local _ .vmem, ⟨2, _⟩ => ⟨S64x128, .f32⟩
  | .local _ .vmem, ⟨3, _⟩ => ⟨S1024x128, .i32⟩
  | .local _ .vmem, ⟨4, _⟩ => ⟨S1024x128, .i32⟩
  | .local _ .vmem, ⟨5, _⟩ => ⟨S8x128, .f32⟩
  | .local _ .vmem, ⟨6, _⟩ => ⟨S8x128, .f32⟩
  | .local _ .vmem, ⟨7, _⟩ => ⟨S8x128, .i32⟩
  | .local _ .vmem, ⟨8, _⟩ => ⟨S8x128, .i32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .i8⟩
  | .local _ .vmem, ⟨14, _⟩ => ⟨S1024x128, .i8⟩
  | .local _ .vmem, ⟨15, _⟩ => ⟨S8x128, .f32⟩
  | .local _ .vmem, ⟨16, _⟩ => ⟨S8x128, .f32⟩
  | .local _ .vmem, ⟨17, _⟩ => ⟨S1024x128, .f32⟩
  | .local _ .vmem, ⟨18, _⟩ => ⟨S64x128, .f32⟩
  | .local _ .smem, ⟨0, _⟩ => ⟨S1, .i32⟩
  | .local _ .smem, ⟨1, _⟩ => ⟨S512, .i32⟩
  | .local _ .smem, ⟨2, _⟩ => ⟨S65, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_stg1_0 : Ref sig .tc := ⟨.smem, 1, rfl⟩
abbrev cc0_scratch2 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_253 : BitVec 32 := 0#32
  let c64_i32_254 : BitVec 32 := 64#32
  let v620 : BitVec 32 := Scalar.addi c0_i32_253 c64_i32_254
  let c1_i32_255 : BitVec 32 := 1#32
  ⟨c0_i32_253, v620, c1_i32_255⟩
def k0_off1 (k0_t1 : Fin k0_t1_loop.trips) : Fin 1 → Nat :=
  let c0_i32_253 : BitVec 32 := 0#32
  let c1_i32_255 : BitVec 32 := 1#32
  let arg15 : BitVec 32 := Scf.iv c0_i32_253 c1_i32_255 k0_t1
  let c0_i32_259 : BitVec 32 := 0#32
  let v627 : BitVec 1 := Scalar.cmpi .sgt arg15 c0_i32_259
  let v628 : BitVec 32 := Scalar.extui v627
  let c0_i32_260 : BitVec 32 := 0#32
  let v629 : BitVec 1 := Scalar.cmpi .slt arg15 c0_i32_260
  let v630 : BitVec 32 := Scalar.extui v629
  let v631 : BitVec 32 := Scalar.subi v628 v630
  let c2_i32 : BitVec 32 := 2#32
  let c0_i32_261 : BitVec 32 := 0#32
  let v632 : BitVec 1 := Scalar.cmpi .sgt c2_i32 c0_i32_261
  let v633 : BitVec 32 := Scalar.extui v632
  let c0_i32_262 : BitVec 32 := 0#32
  let v634 : BitVec 1 := Scalar.cmpi .slt c2_i32 c0_i32_262
  let v635 : BitVec 32 := Scalar.extui v634
  let v636 : BitVec 32 := Scalar.subi v633 v635
  let v637 : BitVec 1 := Scalar.cmpi .ne v631 v636
  let v638 : BitVec 32 := Scalar.remsi arg15 c2_i32
  let c0_i32_263 : BitVec 32 := 0#32
  let v639 : BitVec 1 := Scalar.cmpi .ne v638 c0_i32_263
  let v640 : BitVec 1 := Scalar.andi v637 v639
  let v626 : BitVec 32 := Scalar.divsi arg15 c2_i32
  let c1_i32_264 : BitVec 32 := 1#32
  let v641 : BitVec 32 := Scalar.subi v626 c1_i32_264
  let v642 : BitVec 32 := Scalar.select v640 v641 v626
  let c16_i32_265 : BitVec 32 := 16#32
  let v643 : BitVec 32 := Scalar.muli v642 c16_i32_265
  let c2_i32_266 : BitVec 32 := 2#32
  let c0_i32_267 : BitVec 32 := 0#32
  let v644 : BitVec 1 := Scalar.cmpi .eq c2_i32_266 c0_i32_267
  let c1_i32_268 : BitVec 32 := 1#32
  let v645 : BitVec 32 := Scalar.select v644 c1_i32_268 c2_i32_266
  let v646 : BitVec 32 := Scalar.remsi arg15 v645
  let c0_i32_270 : BitVec 32 := 0#32
  let v648 : BitVec 1 := Scalar.cmpi .slt v646 c0_i32_270
  let c0_i32_271 : BitVec 32 := 0#32
  let v649 : BitVec 1 := Scalar.cmpi .slt v645 c0_i32_271
  let v650 : BitVec 1 := Scalar.xori v648 v649
  let c0_i32_269 : BitVec 32 := 0#32
  let v647 : BitVec 1 := Scalar.cmpi .ne v646 c0_i32_269
  let v651 : BitVec 1 := Scalar.andi v650 v647
  let v652 : BitVec 32 := Scalar.addi v646 v645
  let v653 : BitVec 32 := Scalar.select v651 v652 v646
  let v654 : BitVec 32 := Scalar.addi v643 v653
  let v655 : Index := Scalar.indexCast v654
  ![v655.toNat]
def k0_off2 (k0_t1 : Fin k0_t1_loop.trips) : Fin 2 → Nat :=
  let c0_i32_253 : BitVec 32 := 0#32
  let c1_i32_255 : BitVec 32 := 1#32
  let arg15 : BitVec 32 := Scf.iv c0_i32_253 c1_i32_255 k0_t1
  let v657 : Index := Scalar.indexCast arg15
  let c0_272 : Index := 0#32
  ![v657.toNat, 0]
def k0_off3 (k0_t1 : Fin k0_t1_loop.trips) : Fin 2 → Nat :=
  let c0_i32_253 : BitVec 32 := 0#32
  let c1_i32_255 : BitVec 32 := 1#32
  let arg15 : BitVec 32 := Scf.iv c0_i32_253 c1_i32_255 k0_t1
  let v687 : Index := Scalar.indexCast arg15
  let c0_284 : Index := 0#32
  ![v687.toNat, 0]
def k0_off4 (arg16 : BitVec 32) : Fin 2 → Nat :=
  let v687 : Index := Scalar.indexCast arg16
  let c0_284 : Index := 0#32
  ![v687.toNat, 0]
def k0_cond3 (k0_t1 : Fin k0_t1_loop.trips) (arg17 : BitVec 32) (v656 : BitVec 32) : BitVec 1 :=
  let c0_i32_274 : BitVec 32 := 0#32
  let v665 : BitVec 1 := Scalar.cmpi .sge v656 c0_i32_274
  let v659 : BitVec 1 := Scalar.cmpi .ne v656 arg17
  let c0_i32_253 : BitVec 32 := 0#32
  let c1_i32_255 : BitVec 32 := 1#32
  let arg15 : BitVec 32 := Scf.iv c0_i32_253 c1_i32_255 k0_t1
  let c32_i32 : BitVec 32 := 32#32
  let v660 : BitVec 1 := Scalar.cmpi .eq arg15 c32_i32
  let v661 : BitVec 1 := Scalar.ori v659 v660
  let v_true : BitVec 1 := 1#1
  let v669 : BitVec 1 := Scalar.xori v661 v_true
  let v670 : BitVec 1 := Scalar.andi v665 v669
  let v671 : BitVec 32 := Scalar.extui v670
  let c0_i32_276 : BitVec 32 := 0#32
  let v672 : BitVec 1 := Scalar.cmpi .ne v671 c0_i32_276
  v672

def k0_chk1 (i : grid0.Coords) (k0_t1 : Fin k0_t1_loop.trips) (arg16 : BitVec 32) (arg17 : BitVec 32) (v656 : BitVec 32) : Prop :=
  (∀ (k0_h1 : k0_cond1 i = 1#1), ∀ (k0_h3 : k0_cond3 k0_t1 arg17 v656 = 1#1), ∀ a, (k0_off4 arg16) a + S1x128.size a ≤ S64x128.size a)
theorem k0_off4_inb : ∀ (i : grid0.Coords) (k0_t1 : Fin k0_t1_loop.trips) (arg16 : BitVec 32) (arg17 : BitVec 32) (v656 : BitVec 32) (k0_hw1 : k0_chk1 i k0_t1 arg16 arg17 v656), ∀ (k0_h1 : k0_cond1 i = 1#1), ∀ (k0_h3 : k0_cond3 k0_t1 arg17 v656 = 1#1), ∀ a, (k0_off4 arg16) a + S1x128.size a ≤ S64x128.size a := fun i k0_t1 arg16 arg17 v656 k0_hw1 k0_h1 k0_h3 => k0_hw1 k0_h1 k0_h3

def k0_off5 (k0_t1 : Fin k0_t1_loop.trips) : Fin 1 → Nat :=
  let c0_i32_253 : BitVec 32 := 0#32
  let c1_i32_255 : BitVec 32 := 1#32
  let arg15 : BitVec 32 := Scf.iv c0_i32_253 c1_i32_255 k0_t1
  let v675 : Index := Scalar.indexCast arg15
  ![v675.toNat]
def k0_off6 (v622 : BitVec 32) : Fin 2 → Nat :=
  let v626 : Index := Scalar.indexCast v622
  let c0_259 : Index := 0#32
  ![v626.toNat, 0]
def k0_cond4 (v622 : BitVec 32) : BitVec 1 :=
  let c0_i32_257 : BitVec 32 := 0#32
  let v623 : BitVec 1 := Scalar.cmpi .sge v622 c0_i32_257
  let v624 : BitVec 32 := Scalar.extui v623
  let c0_i32_258 : BitVec 32 := 0#32
  let v625 : BitVec 1 := Scalar.cmpi .ne v624 c0_i32_258
  v625

def k0_chk2 (i : grid0.Coords) (v622 : BitVec 32) : Prop :=
  (∀ (k0_h1 : k0_cond1 i = 1#1), ∀ (k0_h4 : k0_cond4 v622 = 1#1), ∀ a, (k0_off6 v622) a + S1x128.size a ≤ S64x128.size a)
theorem k0_off6_inb : ∀ (i : grid0.Coords) (v622 : BitVec 32) (k0_hw2 : k0_chk2 i v622), ∀ (k0_h1 : k0_cond1 i = 1#1), ∀ (k0_h4 : k0_cond4 v622 = 1#1), ∀ a, (k0_off6 v622) a + S1x128.size a ≤ S64x128.size a := fun i v622 k0_hw2 k0_h1 k0_h4 => k0_hw2 k0_h1 k0_h4

@[reducible] def k0_t2_loop : Scf.Loop 32 :=
  let c0_i32_4 : BitVec 32 := 0#32
  let c64_i32 : BitVec 32 := 64#32
  let v7 : BitVec 32 := Scalar.addi c0_i32_4 c64_i32
  let c1_i32 : BitVec 32 := 1#32
  ⟨c0_i32_4, v7, c1_i32⟩
def k0_off7 (k0_t2 : Fin k0_t2_loop.trips) : Fin 1 → Nat :=
  let c0_i32_4 : BitVec 32 := 0#32
  let c1_i32 : BitVec 32 := 1#32
  let arg15 : BitVec 32 := Scf.iv c0_i32_4 c1_i32 k0_t2
  let v620 : Index := Scalar.indexCast arg15
  ![v620.toNat]
def k0_off8 (k0_t2 : Fin k0_t2_loop.trips) : Fin 2 → Nat :=
  let c0_i32_4 : BitVec 32 := 0#32
  let c1_i32 : BitVec 32 := 1#32
  let arg15 : BitVec 32 := Scf.iv c0_i32_4 c1_i32 k0_t2
  let v629 : Index := Scalar.indexCast arg15
  let c0_255 : Index := 0#32
  ![v629.toNat, 0]
def k0_off9 (i : grid0.Coords) (v621 : BitVec 32) : Fin 2 → Nat :=
  let arg0 : BitVec 32 := BitVec.ofNat 32 (i 0).val
  let c1024_i32 : BitVec 32 := 1024#32
  let v622 : BitVec 32 := Scalar.muli arg0 c1024_i32
  let v623 : BitVec 32 := Scalar.subi v621 v622
  let v631 : Index := Scalar.indexCast v623
  let c0_256 : Index := 0#32
  ![v631.toNat, 0]
def k0_cond5 (i : grid0.Coords) (v621 : BitVec 32) : BitVec 1 :=
  let arg0 : BitVec 32 := BitVec.ofNat 32 (i 0).val
  let c1024_i32 : BitVec 32 := 1024#32
  let v622 : BitVec 32 := Scalar.muli arg0 c1024_i32
  let v623 : BitVec 32 := Scalar.subi v621 v622
  let c0_i32_252 : BitVec 32 := 0#32
  let v624 : BitVec 1 := Scalar.cmpi .sge v623 c0_i32_252
  let c1024_i32_253 : BitVec 32 := 1024#32
  let v625 : BitVec 1 := Scalar.cmpi .slt v623 c1024_i32_253
  let v626 : BitVec 1 := Scalar.andi v624 v625
  let v627 : BitVec 32 := Scalar.extui v626
  let c0_i32_254 : BitVec 32 := 0#32
  let v628 : BitVec 1 := Scalar.cmpi .ne v627 c0_i32_254
  v628

def k0_chk3 (i : grid0.Coords) (v621 : BitVec 32) : Prop :=
  (∀ (k0_h5 : k0_cond5 i v621 = 1#1), ∀ a, (k0_off9 i v621) a + S1x128.size a ≤ S1024x128.size a)
theorem k0_off9_inb : ∀ (i : grid0.Coords) (v621 : BitVec 32) (k0_hw3 : k0_chk3 i v621), ∀ (k0_h5 : k0_cond5 i v621 = 1#1), ∀ a, (k0_off9 i v621) a + S1x128.size a ≤ S1024x128.size a := fun i v621 k0_hw3 k0_h5 => k0_hw3 k0_h5

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c256_i32 : BitVec 32 := 256#32
  let c0_i32 : BitVec 32 := 0#32
  let c0_i32_0 : BitVec 32 := 0#32
  ![c256_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_127" => some ((1 / 127 : ℝ) : EReal)
  | _ => none
-- ==== ReferenceIdeal.lean ====
abbrev S1 : Shape := ⟨1, ![1]⟩
abbrev S512 : Shape := ⟨1, ![512]⟩
abbrev S16448x128 : Shape := ⟨2, ![16448, 128]⟩
abbrev S16384x128 : Shape := ⟨2, ![16384, 128]⟩
abbrev S128x128 : Shape := ⟨2, ![128, 128]⟩
abbrev S16384 : Shape := ⟨1, ![16384]⟩
abbrev S32x16 : Shape := ⟨2, ![32, 16]⟩
abbrev S32x2 : Shape := ⟨2, ![32, 2]⟩
abbrev S64 : Shape := ⟨1, ![64]⟩
abbrev S1x64 : Shape := ⟨2, ![1, 64]⟩
abbrev S16384x1 : Shape := ⟨2, ![16384, 1]⟩
abbrev S16384x64 : Shape := ⟨2, ![16384, 64]⟩
abbrev S16384x64x1 : Shape := ⟨3, ![16384, 64, 1]⟩
abbrev S64x128 : Shape := ⟨2, ![64, 128]⟩
abbrev S1x64x128 : Shape := ⟨3, ![1, 64, 128]⟩
abbrev S_ : Shape := ⟨0, ![]⟩
abbrev S16384x64x128 : Shape := ⟨3, ![16384, 64, 128]⟩
abbrev S128 : Shape := ⟨1, ![128]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S1, .i32⟩
  | 1 => ⟨S512, .i32⟩
  | 2 => ⟨S16448x128, .f32⟩
  | 3 => ⟨S16384x128, .i32⟩
  | 4 => ⟨S128x128, .f32⟩
  | 5 => ⟨S128x128, .i32⟩
  | 6 => ⟨S16384, .i32⟩
  | 7 => ⟨S32x16, .i32⟩
  | 8 => ⟨S32x2, .i32⟩
  | 9 => ⟨S64, .i32⟩
  | 10 => ⟨S1x64, .i32⟩
  | 11 => ⟨S16384, .i32⟩
  | 12 => ⟨S16384x1, .i32⟩
  | 13 => ⟨S16384x64, .i32⟩
  | 14 => ⟨S16384x64, .i32⟩
  | 15 => ⟨S16384x64, .i1⟩
  | 16 => ⟨S16384x64x1, .i1⟩
  | 17 => ⟨S64x128, .f32⟩
  | 18 => ⟨S1x64x128, .f32⟩
  | 19 => ⟨S_, .f32⟩
  | 20 => ⟨S_, .f32⟩
  | 21 => ⟨S16384x64x128, .i1⟩
  | 22 => ⟨S16384x64x128, .f32⟩
  | 23 => ⟨S16384x64x128, .f32⟩
  | 24 => ⟨S16384x64x128, .f32⟩
  | 25 => ⟨S_, .f32⟩
  | 26 => ⟨S16384x128, .f32⟩
  | 27 => ⟨S_, .i1⟩
  | 28 => ⟨S16384, .i1⟩
  | 29 => ⟨S16384x1, .i1⟩
  | 30 => ⟨S16384x128, .f32⟩
  | 31 => ⟨S16384x128, .i1⟩
  | 32 => ⟨S16384x128, .f32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16384x1, .i32⟩
  | 40 => ⟨S16384x128, .i32⟩
  | 41 => ⟨S16384x128, .i32⟩
  | 42 => ⟨S16384x128, .i8⟩
  | 43 => ⟨S16384x128, .i32⟩
  | 44 => ⟨S16384x128, .f32⟩
  | 45 => ⟨S16384, .f32⟩
  | 46 => ⟨S16384x1, .f32⟩
  | 47 => ⟨S16384x128, .f32⟩
  | 48 => ⟨S16384x128, .f32⟩
  | 49 => ⟨S_, .f32⟩
  | 50 => ⟨S16384x128, .f32⟩
  | 51 => ⟨S16384x128, .f32⟩
  | 52 => ⟨S16384x128, .f32⟩
  | 53 => ⟨S_, .i32⟩
  | 54 => ⟨S16384x128, .f32⟩
  | 55 => ⟨S_, .f32⟩
  | 56 => ⟨S16384, .f32⟩
  | 57 => ⟨S_, .f32⟩
  | 58 => ⟨S16384, .f32⟩
  | 59 => ⟨S16384, .i1⟩
  | 60 => ⟨S_, .f32⟩
  | 61 => ⟨S16384, .f32⟩
  | 62 => ⟨S16384, .f32⟩
  | 63 => ⟨S_, .f32⟩
  | 64 => ⟨S_, .f32⟩
  | 65 => ⟨S16384, .f32⟩
  | 66 => ⟨S16384, .f32⟩
  | 67 => ⟨S16384x1, .i32⟩
  | 68 => ⟨S16384x1, .i32⟩
  | 69 => ⟨S128, .i32⟩
  | 70 => ⟨S1x128, .i32⟩
  | 71 => ⟨S1x128, .i32⟩
  | 72 => ⟨S_, .i32⟩
  | 73 => ⟨S_, .i32⟩
  | 74 => ⟨S16384x1, .i32⟩
  | 75 => ⟨S16384x1, .i32⟩
  | 76 => ⟨S_, .i32⟩
  | 77 => ⟨S_, .i32⟩
  | 78 => ⟨S16384x1, .i32⟩
  | 79 => ⟨S16384x1, .i32⟩
  | 80 => ⟨S_, .i32⟩
  | 81 => ⟨S1x128, .i32⟩
  | 82 => ⟨S1x128, .i32⟩
  | 83 => ⟨S16384x128, .i32⟩
  | 84 => ⟨S16384x128, .i32⟩
  | 85 => ⟨S16384x128, .i32⟩
  | 86 => ⟨S_, .i32⟩
  | 87 => ⟨S16384x128, .i32⟩
  | 88 => ⟨S16384x128, .i32⟩
  | 89 => ⟨S16384x128, .i32⟩
  | 90 => ⟨S_, .i32⟩
  | 91 => ⟨S16384x128, .i32⟩
  | 92 => ⟨S16384x128, .i32⟩
  | 93 => ⟨S_, .i32⟩
  | 94 => ⟨S16384x128, .i32⟩
  | 95 => ⟨S16384x128, .i32⟩
  | 96 => ⟨S16384x128, .i32⟩
  | 97 => ⟨S_, .i32⟩
  | 98 => ⟨S16384x128, .i32⟩
  | 99 => ⟨S16384x128, .i32⟩
  | 100 => ⟨S_, .i32⟩
  | 101 => ⟨S16384x128, .i32⟩
  | 102 => ⟨S16384x128, .i32⟩
  | 103 => ⟨S16384x128, .i32⟩
  | 104 => ⟨S_, .i32⟩
  | 105 => ⟨S16384x128, .i32⟩
  | 106 => ⟨S16384x128, .i32⟩
  | 107 => ⟨S16384x128, .f32⟩
  | 108 => ⟨S_, .f32⟩
  | 109 => ⟨S16384x128, .f32⟩
  | 110 => ⟨S16384x128, .f32⟩
  | 111 => ⟨S16384x1, .f32⟩
  | 112 => ⟨S16384x128, .f32⟩
  | 113 => ⟨S16384x128, .f32⟩
  | 114 => ⟨S16384x128, .f32⟩
  | 115 => ⟨S16384x128, .f32⟩
  | 116 => ⟨S_, .f32⟩
  | 117 => ⟨S_, .f32⟩
  | 118 => ⟨S_, .f32⟩
  | 119 => ⟨S16384x128, .f32⟩
  | 120 => ⟨S16384x128, .f32⟩
  | 121 => ⟨S_, .f32⟩
  | 122 => ⟨S16384x128, .f32⟩
  | 123 => ⟨S16384x128, .f32⟩
  | 124 => ⟨S16384x128, .i32⟩
  | 125 => ⟨S16384x128, .i8⟩
  | 126 => ⟨S16384x128, .i32⟩
  | 127 => ⟨S16384x128, .f32⟩
  | _ => ⟨S1, .i32⟩

abbrev hbmTy0_1 (i : Nat) : BufTy := match i % 128 with
  | 0 => ⟨S16384x1, .f32⟩
  | 1 => ⟨S16384x128, .f32⟩
  | 2 => ⟨S16384x128, .f32⟩
  | 3 => ⟨S16384x128, .f32⟩
  | 4 => ⟨S128x128, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_cst_19 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Merge.lean ====
abbrev S128 : Shape := ⟨1, ![128]⟩
abbrev S16384 : Shape := ⟨1, ![16384]⟩
abbrev S500000x128 : Shape := ⟨2, ![500000, 128]⟩
abbrev S4096x128 : Shape := ⟨2, ![4096, 128]⟩
abbrev S8x5000x128 : Shape := ⟨3, ![8, 5000, 128]⟩
abbrev S8 : Shape := ⟨1, ![8]⟩
abbrev S1 : Shape := ⟨1, ![1]⟩
abbrev S_ : Shape := ⟨0, ![]⟩
abbrev S1x5000x128 : Shape := ⟨3, ![1, 5000, 128]⟩
abbrev S5000x128 : Shape := ⟨2, ![5000, 128]⟩
abbrev S1x128 : Shape := ⟨2, ![1, 128]⟩
abbrev S1x1x128 : Shape := ⟨3, ![1, 1, 128]⟩

abbrev nBuf : Space → Nat
  | .hbm => 5
  | .vmem => 2
  | .smem => 2
  | _ => 0

abbrev bufTy : (tb : Table) → Fin (tcTables nBuf tb) → BufTy
  | .hbm, ⟨0, _⟩ => ⟨S128, .i32⟩
  | .hbm, ⟨1, _⟩ => ⟨S16384, .i32⟩
  | .hbm, ⟨2, _⟩ => ⟨S500000x128, .i32⟩
  | .hbm, ⟨3, _⟩ => ⟨S4096x128, .i32⟩
  | .hbm, ⟨4, _⟩ => ⟨S500000x128, .i32⟩
  | .local _ .vmem, ⟨0, _⟩ => ⟨S4096x128, .i32⟩
  | .local _ .vmem, ⟨1, _⟩ => ⟨S8x5000x128, .i32⟩
  | .local _ .smem, ⟨0, _⟩ => ⟨S128, .i32⟩
  | .local _ .smem, ⟨1, _⟩ => ⟨S16384, .i32⟩
  | _, _ => ⟨S128, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_scratch0 : Ref sig .tc := ⟨.vmem, 1, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_21 : BitVec 32 := 0#32
  let c100_i32 : BitVec 32 := 100#32
  let v25 : BitVec 32 := Scalar.addi c0_i32_21 c100_i32
  let c1_i32_22 : BitVec 32 := 1#32
  ⟨c0_i32_21, v25, c1_i32_22⟩
def k0_off1 (k0_t1 : Fin k0_t1_loop.trips) : Fin 1 → Nat :=
  let c0_i32_21 : BitVec 32 := 0#32
  let c1_i32_22 : BitVec 32 := 1#32
  let arg8 : BitVec 32 := Scf.iv c0_i32_21 c1_i32_22 k0_t1
  let c8_i32 : BitVec 32 := 8#32
  let v41 : BitVec 32 := Scalar.remsi arg8 c8_i32
  ![v41.toNat]
def k0_off2 (k0_t1 : Fin k0_t1_loop.trips) : Fin 3 → Nat :=
  let c0_i32_21 : BitVec 32 := 0#32
  let c1_i32_22 : BitVec 32 := 1#32
  let arg8 : BitVec 32 := Scf.iv c0_i32_21 c1_i32_22 k0_t1
  let c8_i32 : BitVec 32 := 8#32
  let v41 : BitVec 32 := Scalar.remsi arg8 c8_i32
  let c0_i32_40 : BitVec 32 := 0#32
  let c0_i32_41 : BitVec 32 := 0#32
  ![v41.toNat, 0, 0]
def k0_off3 (k0_t1 : Fin k0_t1_loop.trips) : Fin 2 → Nat :=
  let c0_i32_21 : BitVec 32 := 0#32
  let c1_i32_22 : BitVec 32 := 1#32
  let arg8 : BitVec 32 := Scf.iv c0_i32_21 c1_i32_22 k0_t1
  let c5000_i32_39 : BitVec 32 := 5000#32
  let v42 : BitVec 32 := Scalar.muli arg8 c5000_i32_39
  let c0_i32_42 : BitVec 32 := 0#32
  ![v42.toNat, 0]
def k0_off4 (k0_t1 : Fin k0_t1_loop.trips) : Fin 1 → Nat :=
  let c0_i32_21 : BitVec 32 := 0#32
  let c1_i32_22 : BitVec 32 := 1#32
  let arg8 : BitVec 32 := Scf.iv c0_i32_21 c1_i32_22 k0_t1
  let v49 : Index := Scalar.indexCast arg8
  ![v49.toNat]
def k0_off5 (k0_t1 : Fin k0_t1_loop.trips) : Fin 1 → Nat :=
  let c0_i32_21 : BitVec 32 := 0#32
  let c1_i32_22 : BitVec 32 := 1#32
  let arg8 : BitVec 32 := Scf.iv c0_i32_21 c1_i32_22 k0_t1
  let c1_i32_44 : BitVec 32 := 1#32
  let v51 : BitVec 32 := Scalar.addi arg8 c1_i32_44
  let v52 : Index := Scalar.indexCast v51
  ![v52.toNat]
@[reducible] def k0_t2_loop (v50 : BitVec 32) (v53 : BitVec 32) : Scf.Loop 32 :=
  let v54 : BitVec 32 := Scalar.subi v53 v50
  let c1_i32_46 : BitVec 32 := 1#32
  let v56 : BitVec 32 := Scalar.divsi v54 c1_i32_46
  let v57 : BitVec 32 := Scalar.muli v56 c1_i32_46
  let v58 : BitVec 32 := Scalar.addi v50 v57
  let c1_i32_47 : BitVec 32 := 1#32
  ⟨v50, v58, c1_i32_47⟩

def k0_off6 (v50 : BitVec 32) (v53 : BitVec 32) (k0_t2 : Fin (k0_t2_loop v50 v53).trips) : Fin 1 → Nat :=
  let c1_i32_47 : BitVec 32 := 1#32
  let arg9 : BitVec 32 := Scf.iv v50 c1_i32_47 k0_t2
  let v75 : Index := Scalar.indexCast arg9
  ![v75.toNat]
def k0_off7 (v50 : BitVec 32) (v53 : BitVec 32) (k0_t2 : Fin (k0_t2_loop v50 v53).trips) : Fin 2 → Nat :=
  let c1_i32_47 : BitVec 32 := 1#32
  let arg9 : BitVec 32 := Scf.iv v50 c1_i32_47 k0_t2
  let c2_i32_61 : BitVec 32 := 2#32
  let v79 : BitVec 32 := Scalar.shrsi arg9 c2_i32_61
  let v80 : Index := Scalar.indexCast v79
  let c0 : Index := 0#32
  ![v80.toNat, 0]
def k0_off8 (k0_t1 : Fin k0_t1_loop.trips) (v76 : BitVec 32) : Fin 3 → Nat :=
  let c0_i32_21 : BitVec 32 := 0#32
  let c1_i32_22 : BitVec 32 := 1#32
  let arg8 : BitVec 32 := Scf.iv c0_i32_21 c1_i32_22 k0_t1
  let c8_i32 : BitVec 32 := 8#32
  let v41 : BitVec 32 := Scalar.remsi arg8 c8_i32
  let v94 : Index := Scalar.indexCast v41
  let c2_i32_65 : BitVec 32 := 2#32
  let v92 : BitVec 32 := Scalar.shrsi v76 c2_i32_65
  let c5000_i32_43 : BitVec 32 := 5000#32
  let v48 : BitVec 32 := Scalar.muli arg8 c5000_i32_43
  let v93 : BitVec 32 := Scalar.subi v92 v48
  let v95 : Index := Scalar.indexCast v93
  let c0_66 : Index := 0#32
  ![v94.toNat, v95.toNat, 0]

def k0_chk2 (k0_t1 : Fin k0_t1_loop.trips) (v76 : BitVec 32) : Prop :=
  (∀ a, (k0_off8 k0_t1 v76) a + S1x1x128.size a ≤ S8x5000x128.size a)
theorem k0_off8_inb : ∀ (k0_t1 : Fin k0_t1_loop.trips) (v76 : BitVec 32) (k0_hw2 : k0_chk2 k0_t1 v76), ∀ a, (k0_off8 k0_t1 v76) a + S1x1x128.size a ≤ S8x5000x128.size a := fun k0_t1 v76 k0_hw2 => k0_hw2

@[reducible] def k0_t3_loop (v50 : BitVec 32) (v53 : BitVec 32) : Scf.Loop 32 :=
  let v54 : BitVec 32 := Scalar.subi v53 v50
  let c1_i32_46 : BitVec 32 := 1#32
  let v56 : BitVec 32 := Scalar.divsi v54 c1_i32_46
  let v57 : BitVec 32 := Scalar.muli v56 c1_i32_46
  let v58 : BitVec 32 := Scalar.addi v50 v57
  let v55 : BitVec 32 := Scalar.addi v50 v54
  let c1_i32_48 : BitVec 32 := 1#32
  ⟨v58, v55, c1_i32_48⟩
def k0_off9 (v50 : BitVec 32) (v53 : BitVec 32) (k0_t3 : Fin (k0_t3_loop v50 v53).trips) : Fin 1 → Nat :=
  let v54 : BitVec 32 := Scalar.subi v53 v50
  let c1_i32_46 : BitVec 32 := 1#32
  let v56 : BitVec 32 := Scalar.divsi v54 c1_i32_46
  let v57 : BitVec 32 := Scalar.muli v56 c1_i32_46
  let v58 : BitVec 32 := Scalar.addi v50 v57
  let c1_i32_48 : BitVec 32 := 1#32
  let arg9 : BitVec 32 := Scf.iv v58 c1_i32_48 k0_t3
  let v75 : Index := Scalar.indexCast arg9
  ![v75.toNat]
def k0_off10 (v50 : BitVec 32) (v53 : BitVec 32) (k0_t3 : Fin (k0_t3_loop v50 v53).trips) : Fin 2 → Nat :=
  let v54 : BitVec 32 := Scalar.subi v53 v50
  let c1_i32_46 : BitVec 32 := 1#32
  let v56 : BitVec 32 := Scalar.divsi v54 c1_i32_46
  let v57 : BitVec 32 := Scalar.muli v56 c1_i32_46
  let v58 : BitVec 32 := Scalar.addi v50 v57
  let c1_i32_48 : BitVec 32 := 1#32
  let arg9 : BitVec 32 := Scf.iv v58 c1_i32_48 k0_t3
  let c2_i32_61 : BitVec 32 := 2#32
  let v79 : BitVec 32 := Scalar.shrsi arg9 c2_i32_61
  let v80 : Index := Scalar.indexCast v79
  let c0 : Index := 0#32
  ![v80.toNat, 0]

def k0_chk1 (v50 : BitVec 32) (v53 : BitVec 32) : Prop :=
  ((k0_t2_loop v50 v53).OK) ∧
  (∀ k0_t2 : Fin (k0_t2_loop v50 v53).trips, ∀ a, (k0_off6 v50 v53 k0_t2) a + S1.size a ≤ S16384.size a) ∧
  (∀ k0_t2 : Fin (k0_t2_loop v50 v53).trips, ∀ a, (k0_off7 v50 v53 k0_t2) a + S1x128.size a ≤ S4096x128.size a) ∧
  ((k0_t3_loop v50 v53).OK) ∧
  (∀ k0_t3 : Fin (k0_t3_loop v50 v53).trips, ∀ a, (k0_off9 v50 v53 k0_t3) a + S1.size a ≤ S16384.size a) ∧
  (∀ k0_t3 : Fin (k0_t3_loop v50 v53).trips, ∀ a, (k0_off10 v50 v53 k0_t3) a + S1x128.size a ≤ S4096x128.size a)
theorem k0_t2_ok : ∀ (v50 : BitVec 32) (v53 : BitVec 32) (k0_hw1 : k0_chk1 v50 v53), (k0_t2_loop v50 v53).OK := fun v50 v53 k0_hw1 => k0_hw1.1
theorem k0_off6_inb : ∀ (v50 : BitVec 32) (v53 : BitVec 32) (k0_hw1 : k0_chk1 v50 v53) (k0_t2 : Fin (k0_t2_loop v50 v53).trips), ∀ a, (k0_off6 v50 v53 k0_t2) a + S1.size a ≤ S16384.size a := fun v50 v53 k0_hw1 k0_t2 => k0_hw1.2.1 k0_t2
theorem k0_off7_inb : ∀ (v50 : BitVec 32) (v53 : BitVec 32) (k0_hw1 : k0_chk1 v50 v53) (k0_t2 : Fin (k0_t2_loop v50 v53).trips), ∀ a, (k0_off7 v50 v53 k0_t2) a + S1x128.size a ≤ S4096x128.size a := fun v50 v53 k0_hw1 k0_t2 => k0_hw1.2.2.1 k0_t2
theorem k0_t3_ok : ∀ (v50 : BitVec 32) (v53 : BitVec 32) (k0_hw1 : k0_chk1 v50 v53), (k0_t3_loop v50 v53).OK := fun v50 v53 k0_hw1 => k0_hw1.2.2.2.1
theorem k0_off9_inb : ∀ (v50 : BitVec 32) (v53 : BitVec 32) (k0_hw1 : k0_chk1 v50 v53) (k0_t3 : Fin (k0_t3_loop v50 v53).trips), ∀ a, (k0_off9 v50 v53 k0_t3) a + S1.size a ≤ S16384.size a := fun v50 v53 k0_hw1 k0_t3 => k0_hw1.2.2.2.2.1 k0_t3
theorem k0_off10_inb : ∀ (v50 : BitVec 32) (v53 : BitVec 32) (k0_hw1 : k0_chk1 v50 v53) (k0_t3 : Fin (k0_t3_loop v50 v53).trips), ∀ a, (k0_off10 v50 v53 k0_t3) a + S1x128.size a ≤ S4096x128.size a := fun v50 v53 k0_hw1 k0_t3 => k0_hw1.2.2.2.2.2 k0_t3

def k0_off11 (k0_t1 : Fin k0_t1_loop.trips) (v76 : BitVec 32) : Fin 3 → Nat :=
  let c0_i32_21 : BitVec 32 := 0#32
  let c1_i32_22 : BitVec 32 := 1#32
  let arg8 : BitVec 32 := Scf.iv c0_i32_21 c1_i32_22 k0_t1
  let c8_i32 : BitVec 32 := 8#32
  let v41 : BitVec 32 := Scalar.remsi arg8 c8_i32
  let v94 : Index := Scalar.indexCast v41
  let c2_i32_65 : BitVec 32 := 2#32
  let v92 : BitVec 32 := Scalar.shrsi v76 c2_i32_65
  let c5000_i32_43 : BitVec 32 := 5000#32
  let v48 : BitVec 32 := Scalar.muli arg8 c5000_i32_43
  let v93 : BitVec 32 := Scalar.subi v92 v48
  let v95 : Index := Scalar.indexCast v93
  let c0_66 : Index := 0#32
  ![v94.toNat, v95.toNat, 0]

def k0_chk3 (k0_t1 : Fin k0_t1_loop.trips) (v76 : BitVec 32) : Prop :=
  (∀ a, (k0_off11 k0_t1 v76) a + S1x1x128.size a ≤ S8x5000x128.size a)
theorem k0_off11_inb : ∀ (k0_t1 : Fin k0_t1_loop.trips) (v76 : BitVec 32) (k0_hw3 : k0_chk3 k0_t1 v76), ∀ a, (k0_off11 k0_t1 v76) a + S1x1x128.size a ≤ S8x5000x128.size a := fun k0_t1 v76 k0_hw3 => k0_hw3

def k0_off12 (k0_t1 : Fin k0_t1_loop.trips) : Fin 1 → Nat :=
  let c0_i32_21 : BitVec 32 := 0#32
  let c1_i32_22 : BitVec 32 := 1#32
  let arg8 : BitVec 32 := Scf.iv c0_i32_21 c1_i32_22 k0_t1
  let c8_i32 : BitVec 32 := 8#32
  let v41 : BitVec 32 := Scalar.remsi arg8 c8_i32
  ![v41.toNat]
def k0_off13 (k0_t1 : Fin k0_t1_loop.trips) : Fin 2 → Nat :=
  let c0_i32_21 : BitVec 32 := 0#32
  let c1_i32_22 : BitVec 32 := 1#32
  let arg8 : BitVec 32 := Scf.iv c0_i32_21 c1_i32_22 k0_t1
  let c5000_i32_49 : BitVec 32 := 5000#32
  let v61 : BitVec 32 := Scalar.muli arg8 c5000_i32_49
  let c0_i32_50 : BitVec 32 := 0#32
  ![v61.toNat, 0]
def k0_off14 (k0_t1 : Fin k0_t1_loop.trips) : Fin 3 → Nat :=
  let c0_i32_21 : BitVec 32 := 0#32
  let c1_i32_22 : BitVec 32 := 1#32
  let arg8 : BitVec 32 := Scf.iv c0_i32_21 c1_i32_22 k0_t1
  let c8_i32 : BitVec 32 := 8#32
  let v41 : BitVec 32 := Scalar.remsi arg8 c8_i32
  let c0_i32_51 : BitVec 32 := 0#32
  let c0_i32_52 : BitVec 32 := 0#32
  ![v41.toNat, 0, 0]
def k0_cond1 (k0_t1 : Fin k0_t1_loop.trips) : BitVec 1 :=
  let c0_i32_21 : BitVec 32 := 0#32
  let c1_i32_22 : BitVec 32 := 1#32
  let arg8 : BitVec 32 := Scf.iv c0_i32_21 c1_i32_22 k0_t1
  let c3_i32_55 : BitVec 32 := 3#32
  let v69 : BitVec 1 := Scalar.cmpi .sge arg8 c3_i32_55
  let v70 : BitVec 32 := Scalar.extui v69
  let c0_i32_56 : BitVec 32 := 0#32
  let v71 : BitVec 1 := Scalar.cmpi .ne v70 c0_i32_56
  v71

def k0_off15 (k0_t1 : Fin k0_t1_loop.trips) : Fin 1 → Nat :=
  let c0_i32_21 : BitVec 32 := 0#32
  let c1_i32_22 : BitVec 32 := 1#32
  let arg8 : BitVec 32 := Scf.iv c0_i32_21 c1_i32_22 k0_t1
  let c8_i32_53 : BitVec 32 := 8#32
  let v67 : BitVec 32 := Scalar.addi arg8 c8_i32_53
  let c3_i32_54 : BitVec 32 := 3#32
  let v68 : BitVec 32 := Scalar.subi v67 c3_i32_54
  let c8_i32_60 : BitVec 32 := 8#32
  let v76 : BitVec 32 := Scalar.remsi v68 c8_i32_60
  ![v76.toNat]
def k0_off16 (k0_t1 : Fin k0_t1_loop.trips) : Fin 2 → Nat :=
  let c0_i32_21 : BitVec 32 := 0#32
  let c1_i32_22 : BitVec 32 := 1#32
  let arg8 : BitVec 32 := Scf.iv c0_i32_21 c1_i32_22 k0_t1
  let c3_i32_59 : BitVec 32 := 3#32
  let v75 : BitVec 32 := Scalar.subi arg8 c3_i32_59
  let c5000_i32_61 : BitVec 32 := 5000#32
  let v77 : BitVec 32 := Scalar.muli v75 c5000_i32_61
  let c0_i32_62 : BitVec 32 := 0#32
  ![v77.toNat, 0]
def k0_off17 (k0_t1 : Fin k0_t1_loop.trips) : Fin 3 → Nat :=
  let c0_i32_21 : BitVec 32 := 0#32
  let c1_i32_22 : BitVec 32 := 1#32
  let arg8 : BitVec 32 := Scf.iv c0_i32_21 c1_i32_22 k0_t1
  let c8_i32_53 : BitVec 32 := 8#32
  let v67 : BitVec 32 := Scalar.addi arg8 c8_i32_53
  let c3_i32_54 : BitVec 32 := 3#32
  let v68 : BitVec 32 := Scalar.subi v67 c3_i32_54
  let c8_i32_60 : BitVec 32 := 8#32
  let v76 : BitVec 32 := Scalar.remsi v68 c8_i32_60
  let c0_i32_63 : BitVec 32 := 0#32
  let c0_i32_64 : BitVec 32 := 0#32
  ![v76.toNat, 0, 0]
def k0_cond2 (k0_t1 : Fin k0_t1_loop.trips) : BitVec 1 :=
  let c0_i32_21 : BitVec 32 := 0#32
  let c1_i32_22 : BitVec 32 := 1#32
  let arg8 : BitVec 32 := Scf.iv c0_i32_21 c1_i32_22 k0_t1
  let c8_i32_53 : BitVec 32 := 8#32
  let v67 : BitVec 32 := Scalar.addi arg8 c8_i32_53
  let c3_i32_54 : BitVec 32 := 3#32
  let v68 : BitVec 32 := Scalar.subi v67 c3_i32_54
  let c100_i32_57 : BitVec 32 := 100#32
  let v72 : BitVec 1 := Scalar.cmpi .slt v68 c100_i32_57
  let v73 : BitVec 32 := Scalar.extui v72
  let c0_i32_58 : BitVec 32 := 0#32
  let v74 : BitVec 1 := Scalar.cmpi .ne v73 c0_i32_58
  v74

def k0_off18 (k0_t1 : Fin k0_t1_loop.trips) : Fin 1 → Nat :=
  let c0_i32_21 : BitVec 32 := 0#32
  let c1_i32_22 : BitVec 32 := 1#32
  let arg8 : BitVec 32 := Scf.iv c0_i32_21 c1_i32_22 k0_t1
  let c8_i32_53 : BitVec 32 := 8#32
  let v67 : BitVec 32 := Scalar.addi arg8 c8_i32_53
  let c3_i32_54 : BitVec 32 := 3#32
  let v68 : BitVec 32 := Scalar.subi v67 c3_i32_54
  let c8_i32_59 : BitVec 32 := 8#32
  let v75 : BitVec 32 := Scalar.remsi v68 c8_i32_59
  ![v75.toNat]
def k0_off19 (k0_t1 : Fin k0_t1_loop.trips) : Fin 3 → Nat :=
  let c0_i32_21 : BitVec 32 := 0#32
  let c1_i32_22 : BitVec 32 := 1#32
  let arg8 : BitVec 32 := Scf.iv c0_i32_21 c1_i32_22 k0_t1
  let c8_i32_53 : BitVec 32 := 8#32
  let v67 : BitVec 32 := Scalar.addi arg8 c8_i32_53
  let c3_i32_54 : BitVec 32 := 3#32
  let v68 : BitVec 32 := Scalar.subi v67 c3_i32_54
  let c8_i32_59 : BitVec 32 := 8#32
  let v75 : BitVec 32 := Scalar.remsi v68 c8_i32_59
  let c0_i32_61 : BitVec 32 := 0#32
  let c0_i32_62 : BitVec 32 := 0#32
  ![v75.toNat, 0, 0]
def k0_off20 (k0_t1 : Fin k0_t1_loop.trips) : Fin 2 → Nat :=
  let c0_i32_21 : BitVec 32 := 0#32
  let c1_i32_22 : BitVec 32 := 1#32
  let arg8 : BitVec 32 := Scf.iv c0_i32_21 c1_i32_22 k0_t1
  let c8_i32_53 : BitVec 32 := 8#32
  let v67 : BitVec 32 := Scalar.addi arg8 c8_i32_53
  let c3_i32_54 : BitVec 32 := 3#32
  let v68 : BitVec 32 := Scalar.subi v67 c3_i32_54
  let c5000_i32_60 : BitVec 32 := 5000#32
  let v76 : BitVec 32 := Scalar.muli v68 c5000_i32_60
  let c0_i32_63 : BitVec 32 := 0#32
  ![v76.toNat, 0]
abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MergeReference.lean ====
abbrev S128 : Shape := ⟨1, ![128]⟩
abbrev S16384 : Shape := ⟨1, ![16384]⟩
abbrev S500000x128 : Shape := ⟨2, ![500000, 128]⟩
abbrev S4096x128 : Shape := ⟨2, ![4096, 128]⟩
abbrev S_ : Shape := ⟨0, ![]⟩
abbrev S500000x1x128 : Shape := ⟨3, ![500000, 1, 128]⟩
abbrev S500000x4x128 : Shape := ⟨3, ![500000, 4, 128]⟩
abbrev S2000000x128 : Shape := ⟨2, ![2000000, 128]⟩
abbrev S4096x1x128 : Shape := ⟨3, ![4096, 1, 128]⟩
abbrev S4096x4x128 : Shape := ⟨3, ![4096, 4, 128]⟩
abbrev S16384x128 : Shape := ⟨2, ![16384, 128]⟩
abbrev S16384x1 : Shape := ⟨2, ![16384, 1]⟩

abbrev nBuf : Space → Nat
  | .hbm => 94
  | .vmem => 0
  | .smem => 0
  | _ => 0

abbrev bufTy : (tb : Table) → Fin (tcTables nBuf tb) → BufTy
  | .hbm, ⟨0, _⟩ => ⟨S128, .i32⟩
  | .hbm, ⟨1, _⟩ => ⟨S16384, .i32⟩
  | .hbm, ⟨2, _⟩ => ⟨S500000x128, .i32⟩
  | .hbm, ⟨3, _⟩ => ⟨S4096x128, .i32⟩
  | .hbm, ⟨4, _⟩ => ⟨S_, .i32⟩
  | .hbm, ⟨5, _⟩ => ⟨S500000x128, .i32⟩
  | .hbm, ⟨6, _⟩ => ⟨S500000x128, .i32⟩
  | .hbm, ⟨7, _⟩ => ⟨S_, .i32⟩
  | .hbm, ⟨8, _⟩ => ⟨S500000x128, .i32⟩
  | .hbm, ⟨9, _⟩ => ⟨S500000x128, .i32⟩
  | .hbm, ⟨10, _⟩ => ⟨S_, .i32⟩
  | .hbm, ⟨11, _⟩ => ⟨S500000x128, .i32⟩
  | .hbm, ⟨12, _⟩ => ⟨S500000x128, .i32⟩
  | .hbm, ⟨13, _⟩ => ⟨S_, .i32⟩
  | .hbm, ⟨14, _⟩ => ⟨S500000x128, .i32⟩
  | .hbm, ⟨15, _⟩ => ⟨S500000x128, .i32⟩
  | .hbm, ⟨16, _⟩ => ⟨S_, .i32⟩
  | .hbm, ⟨17, _⟩ => ⟨S500000x128, .i32⟩
  | .hbm, ⟨18, _⟩ => ⟨S500000x128, .i32⟩
  | .hbm, ⟨19, _⟩ => ⟨S_, .i32⟩
  | .hbm, ⟨20, _⟩ => ⟨S500000x128, .i32⟩
  | .hbm, ⟨21, _⟩ => ⟨S500000x128, .i32⟩
  | .hbm, ⟨22, _⟩ => ⟨S_, .i32⟩
  | .hbm, ⟨23, _⟩ => ⟨S500000x128, .i32⟩
  | .hbm, ⟨24, _⟩ => ⟨S500000x128, .i32⟩
  | .hbm, ⟨25, _⟩ => ⟨S_, .i32⟩
  | .hbm, ⟨26, _⟩ => ⟨S500000x128, .i32⟩
  | .hbm, ⟨27, _⟩ => ⟨S500000x128, .i32⟩
  | .hbm, ⟨28, _⟩ => ⟨S500000x1x128, .i32⟩
  | .hbm, ⟨29, _⟩ => ⟨S500000x1x128, .i32⟩
  | .hbm, ⟨30, _⟩ => ⟨S500000x1x128, .i32⟩
  | .hbm, ⟨31, _⟩ => ⟨S500000x1x128, .i32⟩
  | .hbm, ⟨32, _⟩ => ⟨S500000x4x128, .i32⟩
  | .hbm, ⟨33, _⟩ => ⟨S2000000x128, .i32⟩
  | .hbm, ⟨34, _⟩ => ⟨S_, .i32⟩
  | .hbm, ⟨35, _⟩ => ⟨S4096x128, .i32⟩
  | .hbm, ⟨36, _⟩ => ⟨S4096x128, .i32⟩
  | .hbm, ⟨37, _⟩ => ⟨S_, .i32⟩
  | .hbm, ⟨38, _⟩ => ⟨S4096x128, .i32⟩
  | .hbm, ⟨39, _⟩ => ⟨S4096x128, .i32⟩
  | .hbm, ⟨40, _⟩ => ⟨S_, .i32⟩
  | .hbm, ⟨41, _⟩ => ⟨S4096x128, .i32⟩
  | .hbm, ⟨42, _⟩ => ⟨S4096x128, .i32⟩
  | .hbm, ⟨43, _⟩ => ⟨S_, .i32⟩
  | .hbm, ⟨44, _⟩ => ⟨S4096x128, .i32⟩
  | .hbm, ⟨45, _⟩ => ⟨S4096x128, .i32⟩
  | .hbm, ⟨46, _⟩ => ⟨S_, .i32⟩
  | .hbm, ⟨47, _⟩ => ⟨S4096x128, .i32⟩
  | .hbm, ⟨48, _⟩ => ⟨S4096x128, .i32⟩
  | .hbm, ⟨49, _⟩ => ⟨S_, .i32⟩
  | .hbm, ⟨50, _⟩ => ⟨S4096x128, .i32⟩
  | .hbm, ⟨51, _⟩ => ⟨S4096x128, .i32⟩
  | .hbm, ⟨52, _⟩ => ⟨S_, .i32⟩
  | .hbm, ⟨53, _⟩ => ⟨S4096x128, .i32⟩
  | .hbm, ⟨54, _⟩ => ⟨S4096x128, .i32⟩
  | .hbm, ⟨55, _⟩ => ⟨S_, .i32⟩
  | .hbm, ⟨56, _⟩ => ⟨S4096x128, .i32⟩
  | .hbm, ⟨57, _⟩ => ⟨S4096x128, .i32⟩
  | .hbm, ⟨58, _⟩ => ⟨S4096x1x128, .i32⟩
  | .hbm, ⟨59, _⟩ => ⟨S4096x1x128, .i32⟩
  | .hbm, ⟨60, _⟩ => ⟨S4096x1x128, .i32⟩
  | .hbm, ⟨61, _⟩ => ⟨S4096x1x128, .i32⟩
  | .hbm, ⟨62, _⟩ => ⟨S4096x4x128, .i32⟩
  | .hbm, ⟨63, _⟩ => ⟨S16384x128, .i32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S2000000x128, .i32⟩
  | .hbm, ⟨73, _⟩ => ⟨S500000x4x128, .i32⟩
  | .hbm, ⟨74, _⟩ => ⟨S500000x1x128, .i32⟩
  | .hbm, ⟨75, _⟩ => ⟨S500000x128, .i32⟩
  | .hbm, ⟨76, _⟩ => ⟨S500000x1x128, .i32⟩
  | .hbm, ⟨77, _⟩ => ⟨S500000x128, .i32⟩
  | .hbm, ⟨78, _⟩ => ⟨S_, .i32⟩
  | .hbm, ⟨79, _⟩ => ⟨S500000x128, .i32⟩
  | .hbm, ⟨80, _⟩ => ⟨S500000x128, .i32⟩
  | .hbm, ⟨81, _⟩ => ⟨S500000x128, .i32⟩
  | .hbm, ⟨82, _⟩ => ⟨S500000x1x128, .i32⟩
  | .hbm, ⟨83, _⟩ => ⟨S500000x128, .i32⟩
  | .hbm, ⟨84, _⟩ => ⟨S_, .i32⟩
  | .hbm, ⟨85, _⟩ => ⟨S500000x128, .i32⟩
  | .hbm, ⟨86, _⟩ => ⟨S500000x128, .i32⟩
  | .hbm, ⟨87, _⟩ => ⟨S500000x128, .i32⟩
  | .hbm, ⟨88, _⟩ => ⟨S500000x1x128, .i32⟩
  | .hbm, ⟨89, _⟩ => ⟨S500000x128, .i32⟩
  | .hbm, ⟨90, _⟩ => ⟨S_, .i32⟩
  | .hbm, ⟨91, _⟩ => ⟨S500000x128, .i32⟩
  | .hbm, ⟨92, _⟩ => ⟨S500000x128, .i32⟩
  | .hbm, ⟨93, _⟩ => ⟨S500000x128, .i32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_c_9 : Ref sig .tc := ⟨.hbm, 40, rfl⟩
abbrev main_v26 : Ref sig .tc := ⟨.hbm, 41, rfl⟩
abbrev main_v27 : Ref sig .tc := ⟨.hbm, 42, rfl⟩
abbrev main_c_10 : Ref sig .tc := ⟨.hbm, 43, rfl⟩
abbrev main_v28 : Ref sig .tc := ⟨.hbm, 44, rfl⟩
abbrev main_v29 : Ref sig .tc := ⟨.hbm, 45, rfl⟩
abbrev main_c_11 : Ref sig .tc := ⟨.hbm, 46, rfl⟩
abbrev main_v30 : Ref sig .tc := ⟨.hbm, 47, rfl⟩
abbrev main_v31 : Ref sig .tc := ⟨.hbm, 48, rfl⟩
abbrev main_c_12 : Ref sig .tc := ⟨.hbm, 49, rfl⟩
abbrev main_v32 : Ref sig .tc := ⟨.hbm, 50, rfl⟩
abbrev main_v33 : Ref sig .tc := ⟨.hbm, 51, rfl⟩
abbrev main_c_13 : Ref sig .tc := ⟨.hbm, 52, rfl⟩
abbrev main_v34 : Ref sig .tc := ⟨.hbm, 53, rfl⟩
abbrev main_v35 : Ref sig .tc := ⟨.hbm, 54, rfl⟩
abbrev main_c_14 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_15 : Ref sig .tc := ⟨.hbm, 64, rfl⟩
abbrev main_v44 : Ref sig .tc := ⟨.hbm, 65, rfl⟩
abbrev main_v45 : Ref sig .tc := ⟨.hbm, 66, rfl⟩
abbrev main_c_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_17 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_18 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Fold.lean ====
/- The merging of the boundary partials, as a pure recursion.

   The kernel walks the 64 boundary partials in order. Entry `e` carries a segment word `seg e` (negative: no
   entry) and a row `part e`. It keeps the row index `head` and the segment word `hid` of the last entry that was
   valid; a valid entry of another segment (or entry 32) opens a new row, any other valid entry is added to row
   `head`. `mid e` is the segment of the row opened at `e`, or `-1`; `prior` is the head row that entry 32 continues,
   or `-1`. At the end row 32 takes the row it continues.

   This module states that recursion over an arbitrary type of rows, and that what it leaves in the opened rows does
   not depend on what the scratch held before. -/
module

public import Mathlib.Logic.Function.Basic
public import Mathlib.Tactic.IntervalCases
public import Mathlib.Tactic.ByContra

@[expose] public section

namespace Cert.Fold

variable {R : Type}

/-- The walk's state: the open row and its segment, the segment of each opened row, the row entry 32 continues, and
    the rows. -/
structure St (R : Type) where
  head : BitVec 32
  hid : BitVec 32
  mid : ℕ → BitVec 32
  prior : BitVec 32
  row : ℕ → R

/-- A word is a segment: it is not negative. -/
abbrev Valid (w : BitVec 32) : Prop := (0#32).sle w = true

/-- Entry `e` opens a row, being valid or not: its segment is not the open one, or it is entry 32. -/
abbrev Fresh (e : ℕ) (w hid : BitVec 32) : Prop := w ≠ hid ∨ e = 32

/-- One entry of the walk. -/
def step (seg : ℕ → BitVec 32) (part : ℕ → R) (add : R → R → R) (e : ℕ) (s : St R) : St R where
  head := if Valid (seg e) ∧ Fresh e (seg e) s.hid then BitVec.ofNat 32 e else s.head
  hid := if Valid (seg e) then seg e else s.hid
  mid := Function.update s.mid e (if Valid (seg e) ∧ Fresh e (seg e) s.hid then seg e else -1#32)
  prior := if e = 32 ∧ seg e = s.hid then s.head else if e = 0 then -1#32 else s.prior
  row := if Valid (seg e) then
      if Fresh e (seg e) s.hid then Function.update s.row e (part e)
      else Function.update s.row s.head.toNat (add (s.row s.head.toNat) (part e))
    else s.row

/-- The state before entry `k`, over scratch that held `mid₀`, `prior₀`, `row₀`. -/
def run (seg : ℕ → BitVec 32) (part : ℕ → R) (add : R → R → R) (mid₀ : ℕ → BitVec 32) (prior₀ : BitVec 32) (row₀ : ℕ → R) : ℕ → St R
  | 0 => ⟨0#32, -1#32, mid₀, prior₀, row₀⟩
  | k + 1 => step seg part add k (run seg part add mid₀ prior₀ row₀ k)

/-- The rows at the end: row 32 takes the row it continues. -/
def finish (add : R → R → R) (s : St R) : ℕ → R :=
  if Valid s.prior then Function.update s.row 32 (add (s.row s.prior.toNat) (s.row 32)) else s.row

variable (seg : ℕ → BitVec 32) (part : ℕ → R) (add : R → R → R)

/-- Facts the walk keeps: the open row is one of those walked, live and of segment `hid` once there is one; the row
    entry 32 continues is likewise. -/
structure Good (k : ℕ) (s : St R) : Prop where
  head_lt : s.head.toNat < 64
  hid_live : Valid s.hid → s.head.toNat < k ∧ s.mid s.head.toNat = s.hid
  prior_lt : 0 < k → Valid s.prior → s.prior.toNat < 64
  prior_none : 0 < k → ¬ Valid s.prior → s.prior = -1#32
  prior_early : 0 < k → k ≤ 32 → s.prior = -1#32

theorem not_valid_neg_one : ¬ Valid (-1#32) := by decide

theorem valid_ofNat {e : ℕ} (he : e < 64) : Valid (BitVec.ofNat 32 e) := by
  interval_cases e <;> decide

theorem toNat_ofNat {e : ℕ} (he : e < 64) : (BitVec.ofNat 32 e).toNat = e := by
  rw [BitVec.toNat_ofNat]; omega

theorem good_init (mid₀ : ℕ → BitVec 32) (prior₀ : BitVec 32) (row₀ : ℕ → R) : Good 0 (⟨0#32, -1#32, mid₀, prior₀, row₀⟩ : St R) where
  head_lt := by simp
  hid_live h := absurd h not_valid_neg_one
  prior_lt h := absurd h (by omega)
  prior_none h := absurd h (by omega)
  prior_early h := absurd h (by omega)

theorem valid_of_lt {w : BitVec 32} (h : w.toNat < 64) : Valid w := by
  have := valid_ofNat h
  rwa [BitVec.ofNat_toNat, BitVec.setWidth_eq] at this

theorem good_step {k : ℕ} (hk : k < 64) {s : St R} (h : Good k s) : Good (k + 1) (step seg part add k s) where
  head_lt := by
    simp only [step]; split
    · rw [toNat_ofNat hk]; exact hk
    · exact h.head_lt
  hid_live hv := by
    simp only [step] at hv ⊢
    by_cases hval : Valid (seg k)
    · by_cases hf : Fresh k (seg k) s.hid
      · rw [if_pos ⟨hval, hf⟩, if_pos ⟨hval, hf⟩, if_pos hval, toNat_ofNat hk]
        exact ⟨Nat.lt_succ_self k, Function.update_self ..⟩
      · rw [if_neg (fun hc => hf hc.2), if_neg (fun hc => hf hc.2), if_pos hval]
        have he : seg k = s.hid := by by_contra hne; exact hf (.inl hne)
        have := h.hid_live (he ▸ hval)
        rw [Function.update_of_ne (by omega), he]
        exact ⟨by omega, this.2⟩
    · rw [if_neg hval] at hv
      rw [if_neg (fun hc => hval (And.left hc)), if_neg (fun hc => hval (And.left hc)), if_neg hval]
      have := h.hid_live hv
      rw [Function.update_of_ne (by omega)]
      exact ⟨by omega, this.2⟩
  prior_lt _ hv := by
    simp only [step] at hv ⊢
    split
    · exact h.head_lt
    · rename_i h1
      rw [if_neg h1] at hv
      by_cases h0 : k = 0
      · rw [if_pos h0] at hv; exact absurd hv not_valid_neg_one
      · rw [if_neg h0] at hv ⊢; exact h.prior_lt (by omega) hv
  prior_none _ hv := by
    simp only [step] at hv ⊢
    split
    · rename_i h1
      rw [if_pos h1] at hv; exact absurd (valid_of_lt h.head_lt) hv
    · rename_i h1
      rw [if_neg h1] at hv
      by_cases h0 : k = 0
      · rw [if_pos h0]
      · rw [if_neg h0] at hv ⊢; exact h.prior_none (by omega) hv
  prior_early _ hk32 := by
    simp only [step]
    rw [if_neg (by omega)]
    by_cases h0 : k = 0
    · rw [if_pos h0]
    · rw [if_neg h0]; exact h.prior_early (by omega) (by omega)

theorem good_run (mid₀ : ℕ → BitVec 32) (prior₀ : BitVec 32) (row₀ : ℕ → R) : ∀ k, k ≤ 64 → Good k (run seg part add mid₀ prior₀ row₀ k)
  | 0, _ => good_init ..
  | k + 1, h => good_step seg part add (by omega) (good_run mid₀ prior₀ row₀ k (by omega))

/-- Two states of the walk that agree on everything it has written: on the open row, on the segments of the rows
    walked, on the row entry 32 continues, and on the rows opened. -/
structure Agree (k : ℕ) (s t : St R) : Prop where
  head : s.head = t.head
  hid : s.hid = t.hid
  mid : ∀ e < k, s.mid e = t.mid e
  prior : 0 < k → s.prior = t.prior
  row : ∀ e < k, Valid (s.mid e) → s.row e = t.row e
  prior32 : 32 < k → Valid (s.mid 32) → Valid s.prior → s.prior.toNat < k ∧ Valid (s.mid s.prior.toNat)

theorem agree_step {k : ℕ} (hk : k < 64) {s t : St R} (hs : Good k s) (h : Agree k s t) :
    Agree (k + 1) (step seg part add k s) (step seg part add k t) where
  head := by simp only [step, h.head, h.hid]
  hid := by simp only [step, h.hid]
  mid e he := by
    simp only [step, h.hid]
    by_cases hek : e = k
    · subst hek; simp
    · rw [Function.update_of_ne hek, Function.update_of_ne hek, h.mid e (by omega)]
  prior _ := by
    simp only [step, h.head, h.hid]
    split
    · rfl
    · split
      · rfl
      · exact h.prior (by omega)
  row e he hv := by
    simp only [step] at hv ⊢
    by_cases hval : Valid (seg k)
    · rw [if_pos hval, if_pos hval]
      by_cases hf : Fresh k (seg k) s.hid
      · rw [if_pos hf, if_pos (h.hid ▸ hf)]
        by_cases hek : e = k
        · subst hek; simp
        · rw [Function.update_of_ne hek] at hv
          rw [Function.update_of_ne hek, Function.update_of_ne hek]
          exact h.row e (by omega) hv
      · rw [if_neg hf, if_neg (h.hid ▸ hf)]
        rw [if_neg (fun hc => hf hc.2)] at hv
        by_cases hek : e = k
        · subst hek; rw [Function.update_self] at hv; exact absurd hv not_valid_neg_one
        · rw [Function.update_of_ne hek] at hv
          have hh : seg k = s.hid := by by_contra hne; exact hf (.inl hne)
          have hl := hs.hid_live (hh ▸ hval)
          have hrow := h.row _ hl.1 (hl.2 ▸ hh ▸ hval)
          rw [← h.head]
          by_cases hee : e = s.head.toNat
          · subst hee; rw [Function.update_self, Function.update_self, hrow]
          · rw [Function.update_of_ne hee, Function.update_of_ne hee]
            exact h.row e (by omega) hv
    · rw [if_neg hval, if_neg hval]
      rw [if_neg (fun hc => hval hc.1)] at hv
      by_cases hek : e = k
      · subst hek; rw [Function.update_self] at hv; exact absurd hv not_valid_neg_one
      · rw [Function.update_of_ne hek] at hv
        exact h.row e (by omega) hv
  prior32 h32 hv hp := by
    simp only [step] at hv hp ⊢
    by_cases hk32 : k = 32
    · subst hk32
      rw [Function.update_self] at hv
      by_cases hval : Valid (seg 32)
      · by_cases heq : seg 32 = s.hid
        · rw [if_pos ⟨rfl, heq⟩]
          have hl := hs.hid_live (heq ▸ hval)
          rw [Function.update_of_ne (by omega), hl.2]
          exact ⟨by omega, heq ▸ hval⟩
        · rw [if_neg (fun hc => heq hc.2), if_neg (by omega)] at hp
          rw [if_neg (fun hc => heq hc.2), if_neg (by omega)]
          exact absurd (hs.prior_early (by omega) (by omega) ▸ hp) not_valid_neg_one
      · rw [if_neg (fun hc => hval hc.1)] at hv; exact absurd hv not_valid_neg_one
    · rw [if_neg (fun hc => hk32 hc.1), if_neg (by omega)] at hp ⊢
      rw [Function.update_of_ne (by omega)] at hv
      have := h.prior32 (by omega) hv hp
      rw [Function.update_of_ne (by omega)]
      exact ⟨by omega, this.2⟩

theorem agree_run (mid₀ mid₁ : ℕ → BitVec 32) (prior₀ prior₁ : BitVec 32) (row₀ row₁ : ℕ → R) :
    ∀ k, k ≤ 64 → Agree k (run seg part add mid₀ prior₀ row₀ k) (run seg part add mid₁ prior₁ row₁ k)
  | 0, _ => ⟨rfl, rfl, fun e he => absurd he (by omega), fun h => absurd h (by omega), fun e he => absurd he (by omega), fun h => absurd h (by omega)⟩
  | k + 1, h => agree_step seg part add (by omega) (good_run seg part add mid₀ prior₀ row₀ k (by omega))
      (agree_run mid₀ mid₁ prior₀ prior₁ row₀ row₁ k (by omega))

/-- The rows at the end of the walk, where one was opened, do not depend on what the scratch held before. -/
theorem finish_agree {s t : St R} (h : Agree 64 s t) (e : ℕ) (he : e < 64) (hv : Valid (s.mid e)) :
    finish add s e = finish add t e := by
  unfold finish
  rw [← h.prior (by omega)]
  by_cases hp : Valid s.prior
  · rw [if_pos hp, if_pos hp]
    by_cases h32 : e = 32
    · subst h32
      have := h.prior32 (by omega) hv hp
      rw [Function.update_self, Function.update_self, h.row _ this.1 this.2, h.row 32 (by omega) hv]
    · rw [Function.update_of_ne h32, Function.update_of_ne h32, h.row e he hv]
  · rw [if_neg hp, if_neg hp, h.row e he hv]

/-- The segments of the opened rows and the rows at the end, of a walk over scratch that held nothing in particular. -/
def mids (dflt : ℕ → R) : ℕ → BitVec 32 := (run seg part add (fun _ => 0#32) 0#32 dflt 64).mid
def rows (dflt : ℕ → R) : ℕ → R := finish add (run seg part add (fun _ => 0#32) 0#32 dflt 64)

/-- A word table and a row table hold what the walk leaves: each entry's word, and each opened row. -/
structure Holds (dflt : ℕ → R) (mid : ℕ → BitVec 32) (row : ℕ → R) : Prop where
  mid : ∀ e < 64, mid e = mids seg part add dflt e
  row : ∀ e < 64, Valid (mids seg part add dflt e) → row e = rows seg part add dflt e

theorem holds_run (dflt : ℕ → R) (mid₀ : ℕ → BitVec 32) (prior₀ : BitVec 32) (row₀ : ℕ → R) :
    Holds seg part add dflt (run seg part add mid₀ prior₀ row₀ 64).mid (finish add (run seg part add mid₀ prior₀ row₀ 64)) where
  mid e he := (agree_run seg part add mid₀ _ prior₀ _ row₀ dflt 64 (by omega)).mid e he
  row e he hv := by
    have h := agree_run seg part add mid₀ (fun _ => 0#32) prior₀ 0#32 row₀ dflt 64 (by omega)
    exact finish_agree add h e he (by rw [h.mid e he]; exact hv)

/-- Placing: over a block of 1024 rows starting at row `base`, entry `e`'s row goes to the row its segment names, if
    that row is in the block. `g` is the block. -/
def place (base : BitVec 32) (mid : ℕ → BitVec 32) (row : ℕ → R) (g : ℕ → R) : ℕ → ℕ → R
  | 0 => g
  | k + 1 => if (mid k - base).toNat < 1024 then Function.update (place base mid row g k) (mid k - base).toNat (row k)
      else place base mid row g k

/-- What is placed in a block of the first 16384 rows depends on the opened rows only. -/
theorem place_congr {base : BitVec 32} (hb : base.toNat ≤ 15360) {dflt : ℕ → R} {mid : ℕ → BitVec 32} {row : ℕ → R} (h : Holds seg part add dflt mid row)
    (g : ℕ → R) : ∀ k ≤ 64, place base mid row g k = place base (mids seg part add dflt) (rows seg part add dflt) g k
  | 0, _ => rfl
  | k + 1, hk => by
    rw [place, place, place_congr hb h g k (by omega), h.mid k (by omega)]
    by_cases hc : (mids seg part add dflt k - base).toNat < 1024
    · rw [if_pos hc, if_pos hc, h.row k (by omega)]
      have : (mids seg part add dflt k).toNat < 16384 := by
        rw [BitVec.toNat_sub] at hc
        have := (mids seg part add dflt k).isLt
        omega
      unfold Valid
      rw [BitVec.sle_iff_toInt_le, BitVec.toInt_eq_toNat_cond, BitVec.toInt_eq_toNat_cond]
      simp
      omega
    · rw [if_neg hc, if_neg hc]

end Cert.Fold
-- ==== Proof.Words.lean ====
/- Comparisons of words as one-bit words, and the trip number of a counted loop as a word. -/
module

public import proofs.«01_k».proof.Proof.Fold
public import Idealize.ShloMosaic.Lib.WordArith
public import Idealize.ShloMosaic.Lib.VecWindow

@[expose] public section

namespace Cert.Words

open Idealize.ShloMosaic

/-- A proposition as a one-bit word. -/
abbrev bit (p : Prop) [Decidable p] : BitVec 1 := BitVec.ofBool (decide p)

theorem bit_eq_one (p : Prop) [Decidable p] : bit p = 1#1 ↔ p := by
  by_cases h : p <;> simp [bit, h]

theorem cmpi_sge (w : BitVec 32) : Scalar.cmpi .sge w 0#32 = bit (Fold.Valid w) := by
  simp only [Scalar.cmpi, IntOp.cmpi, bit, Fold.Valid]
  cases h : (0#32).sle w <;> simp

theorem cmpi_ne (w v : BitVec 32) : Scalar.cmpi .ne w v = bit (w ≠ v) := by
  simp only [Scalar.cmpi, IntOp.cmpi, bit, bne, decide_not]
  congr 2

theorem cmpi_eq (w v : BitVec 32) : Scalar.cmpi .eq w v = bit (w = v) := rfl

theorem cmpi_slt (w v : BitVec 32) : Scalar.cmpi .slt w v = bit (w.slt v = true) := by
  simp only [Scalar.cmpi, IntOp.cmpi, bit]
  cases h : w.slt v <;> simp

theorem ori_bit (p q : Prop) [Decidable p] [Decidable q] : Scalar.ori (bit p) (bit q) = bit (p ∨ q) := by
  by_cases hp : p <;> by_cases hq : q <;> simp [bit, hp, hq] <;> decide

theorem andi_bit (p q : Prop) [Decidable p] [Decidable q] : Scalar.andi (bit p) (bit q) = bit (p ∧ q) := by
  by_cases hp : p <;> by_cases hq : q <;> simp [bit, hp, hq] <;> decide

theorem xori_bit (p : Prop) [Decidable p] : Scalar.xori (bit p) 1#1 = bit (¬ p) := by
  by_cases hp : p <;> simp [bit, hp] <;> decide

theorem ne_extui (b : BitVec 1) : Scalar.cmpi .ne (Scalar.extui b) 0#32 = b := by
  revert b; decide

theorem select_bit {α : Type} (p : Prop) [Decidable p] (a b : α) : Scalar.select (bit p) a b = if p then a else b := by
  by_cases hp : p <;> simp [bit, hp, Scalar.select]

theorem extui_bit (p : Prop) [Decidable p] : (Scalar.extui (bit p) : BitVec 32) ≠ 0#32 ↔ p := by
  by_cases hp : p <;> simp [bit, hp] <;> decide

theorem iv_eq_32 {k : ℕ} (hk : k < 64) : Scf.iv 0#32 1#32 k = 32#32 ↔ k = 32 := by
  revert hk; revert k; decide
theorem iv_eq_0 {k : ℕ} (hk : k < 64) : Scf.iv 0#32 1#32 k = 0#32 ↔ k = 0 := by
  revert hk; revert k; decide

/-- The trip number, as a word. -/
theorem iv_eq {k : ℕ} (hk : k < 64) : Scf.iv 0#32 1#32 k = BitVec.ofNat 32 k := by
  interval_cases k <;> decide

theorem ofNat_eq_iff {k n : ℕ} (hk : k < 64) (hn : n < 64) : BitVec.ofNat 32 k = BitVec.ofNat 32 n ↔ k = n :=
  ⟨fun h => by
    have := congrArg BitVec.toNat h
    rw [BitVec.toNat_ofNat, BitVec.toNat_ofNat] at this; omega, fun h => h ▸ rfl⟩

end Cert.Words
-- ==== Proof.Kernel.Walk.lean ====
/- One entry of the boundary walk, run: `k0_t1_body` takes the scratch from one state of the walk (Proof/Fold.lean) to
   the next. -/
module

public import proofs.«01_k».proof.Proof.Words
public import proofs.«01_k».proof.Proof.Gen.Kernel
public import proofs.«01_k».proof.Proof.Gen.Kernel.Skeleton
public import proofs.«01_k».proof.Proof.Gen.Kernel.Loops
public import Idealize.ShloMosaic.Lib.VecWindow
public import Idealize.ShloMosaic.Lib.WritesUnit
public import Idealize.ShloMosaic.Lib.Pipeline.Frame
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A row of a table. -/
abbrev Row (F : FTy → Type) : Type := Vec F S1x128 .f32

/-- Nothing in particular, as a row. -/
def row0 : Row F := fun _ => Scalar.ofBits .f32 0x00000000#32

/-- The segment word of boundary entry `e`: the list carries two words for each of 32 tiles, sixteen words apart. -/
def segOf (x : Vec F S512 .i32) (e : ℕ) : BitVec 32 :=
  if h : e < 64 then x (fun | (0 : Fin 1) => (⟨16 * (e / 2) + e % 2, by omega⟩ : Fin 512)) else 0#32

/-- Row `e` of a table of 64 rows. -/
def rowOf (x : Vec F S64x128 .f32) (e : ℕ) : Row F :=
  if h : e < 64 then fun y => x (fun | (0 : Fin 2) => (⟨e, h⟩ : Fin 64) | (1 : Fin 2) => y (1 : Fin 2)) else row0

/-- Word `e < 64` of the table of segment words, and its last word. -/
def midOf (x : Vec F S65 .i32) (e : ℕ) : BitVec 32 :=
  if h : e < 64 then x (fun | (0 : Fin 1) => (⟨e, by omega⟩ : Fin 65)) else 0#32
def priorOf (x : Vec F S65 .i32) : BitVec 32 := x (fun | (0 : Fin 1) => (⟨64, by decide⟩ : Fin 65))

/-- The walk's state as the scratch and the carried words hold it. -/
abbrev stOf (head hid : BitVec 32) (x13 : Vec F S64x128 .f32) (x14 : Vec F S65 .i32) : Fold.St (Row F) :=
  ⟨head, hid, midOf x14, priorOf x14, rowOf x13⟩

/-- The sum of two rows, as the kernel takes it. -/
def addRow (a b : Row F) : Row F := addf a b

/-- The state of the walk before entry `k`, over the scratch's contents at the start. -/
abbrev walk (x1 : Vec F S512 .i32) (x3 : Vec F S64x128 .f32) (y13 : Vec F S64x128 .f32) (y14 : Vec F S65 .i32) (k : ℕ) : Fold.St (Row F) :=
  Fold.run (segOf (F := F) x1) (rowOf x3) addRow (midOf (F := F) y14) (priorOf (F := F) y14) (rowOf y13) k

theorem off1_eq : ∀ k : Fin k0_t1_loop.trips, k0_off1 k = ![16 * (k.val / 2) + k.val % 2] := by decide +kernel

theorem off4_inb {head : BitVec 32} (h : head.toNat < 64) : ∀ a, (k0_off4 head) a + S1x128.size a ≤ S64x128.size a
  | (0 : Fin 2) => by show head.toNat + 1 ≤ 64; omega
  | (1 : Fin 2) => by show 0 + 128 ≤ 128; omega

theorem seg_read (i : grid0.Coords) (h1 : k0_cond1 i = 1#1) (k : Fin k0_t1_loop.trips) (m : Memref sig .tc .smem S512 .i32) (f : BufTy.Contents (Elt F) m.view.ty) :
    m.view.readAt (Elt F) (Rect.unit (s := S512) (k0_off1 k) S1.size (k0_off1_inb i k h1)).toLoadRect f (Shape.Idx.first (numel1_S1.symm ▸ Nat.one_pos))
      = segOf (m.view.read (Elt F) f) k.val := by
  have hk : k.val < 64 := Nat.lt_of_lt_of_le k.isLt k0_t1_abs.2.1
  rw [View.readAt_apply, segOf, dif_pos hk]
  refine congrArg _ (funext fun | (0 : Fin 1) => Fin.ext ?_)
  show k0_off1 k 0 + 1 * 0 = _
  rw [off1_eq]; rfl

theorem row_read (m : Memref sig .tc .vmem S64x128 .f32) (f : BufTy.Contents (Elt F) m.view.ty) {e : ℕ} (he : e < 64)
    {off : Fin 2 → ℕ} (hoff : off = ![e, 0]) (inb : ∀ a, off a + S1x128.size a ≤ S64x128.size a) :
    m.view.readAt (Elt F) (Rect.unit (s := S64x128) off S1x128.size inb).toLoadRect f = rowOf (m.view.read (Elt F) f) e := by
  subst hoff
  funext y
  rw [View.readAt_apply, rowOf, dif_pos he]
  refine congrArg _ (funext fun | (0 : Fin 2) => Fin.ext ?_ | (1 : Fin 2) => Fin.ext ?_)
  · show e + 1 * (y (0 : Fin 2)).val = e
    have : (y (0 : Fin 2)).val < 1 := (y (0 : Fin 2)).isLt
    omega
  · show 0 + 1 * (y (1 : Fin 2)).val = (y (1 : Fin 2)).val
    omega

/-- A row stored is that row replaced. -/
theorem rowOf_writes (m : Memref sig .tc .vmem S64x128 .f32) (f : BufTy.Contents (Elt F) m.view.ty) {e : ℕ} (he : e < 64)
    {off : Fin 2 → ℕ} (hoff : off = ![e, 0]) (inb : ∀ a, off a + S1x128.size a ≤ S64x128.size a) (w : Row F) :
    rowOf (m.view.read (Elt F) (m.view.writes (Elt F) f [⟨Rect.unit (s := S64x128) off S1x128.size inb, w⟩]))
      = Function.update (rowOf (m.view.read (Elt F) f)) e w := by
  rw [View.read_writes_cons_put m.view f inb w [] hoff, View.writes_nil]
  funext j y
  by_cases hje : j = e
  · subst hje
    rw [Function.update_self, rowOf, dif_pos he]
    unfold VecWindow.put
    rw [dif_pos (fun | (0 : Fin 2) => ⟨Nat.le_refl _, Nat.lt_succ_self _⟩ | (1 : Fin 2) => ⟨Nat.zero_le _, by show (y (1 : Fin 2)).val < 0 + 128; have : (y (1 : Fin 2)).val < 128 := (y (1 : Fin 2)).isLt; omega⟩)]
    refine congrArg w (funext fun | (0 : Fin 2) => Fin.ext ?_ | (1 : Fin 2) => Fin.ext ?_)
    · have : (y (0 : Fin 2)).val < 1 := (y (0 : Fin 2)).isLt
      rw [Rect.unitLocal_val]; show j - j = _; omega
    · rw [Rect.unitLocal_val]; show _ - 0 = _; rfl
  · rw [Function.update_of_ne hje, rowOf, rowOf]
    by_cases hj : j < 64
    · rw [dif_pos hj, dif_pos hj]
      unfold VecWindow.put
      rw [dif_neg]
      intro h
      have := h (0 : Fin 2)
      have h1 : e ≤ j := this.1
      have h2 : j < e + 1 := this.2
      omega
    · rw [dif_neg hj, dif_neg hj]

/-- A word stored in the table of segment words, over earlier stores. -/
theorem mid_writes (m : Memref sig .tc .smem S65 .i32) (f : BufTy.Contents (Elt F) m.view.ty) (L : List (View.Piece (Elt F) S65 .i32)) {e : ℕ} (he : e < 65)
    {off : Fin 1 → ℕ} (hoff : off = ![e]) (inb : ∀ a, off a + S1.size a ≤ S65.size a) (w : BitVec 32) :
    m.view.read (Elt F) (m.view.writes (Elt F) f (⟨Rect.unit (s := S65) off S1.size inb, fun _ => w⟩ :: L))
      = fun y => if (y (0 : Fin 1)).val = e then w else m.view.read (Elt F) (m.view.writes (Elt F) f L) y := by
  rw [View.read_writes_cons_put m.view f inb _ L hoff]
  funext y
  unfold VecWindow.put
  by_cases h : (y (0 : Fin 1)).val = e
  · rw [dif_pos (fun | (0 : Fin 1) => ⟨by show e ≤ _; omega, by show _ < e + 1; omega⟩), if_pos h]
  · rw [dif_neg, if_neg h]
    intro hh
    have h1 : e ≤ (y (0 : Fin 1)).val := (hh (0 : Fin 1)).1
    have h2 : (y (0 : Fin 1)).val < e + 1 := (hh (0 : Fin 1)).2
    omega

theorem cond3_iff {k : Fin k0_t1_loop.trips} (hk : k.val < 64) (hid w : BitVec 32) :
    k0_cond3 k hid w = 1#1 ↔ Fold.Valid w ∧ ¬ Fold.Fresh k.val w hid := by
  unfold k0_cond3
  simp only [Words.cmpi_sge, Words.cmpi_ne, Words.cmpi_eq, Words.ori_bit, Words.andi_bit, Words.xori_bit, Words.ne_extui, Words.extui_bit, Words.bit_eq_one, Words.iv_eq_32 hk]

/-- The words of the table after a trip's two stores. -/
theorem mid_after (m : Memref sig .tc .smem S65 .i32) (f : BufTy.Contents (Elt F) m.view.ty) {k : ℕ} (hk : k < 64)
    {off : Fin 1 → ℕ} (hoff : off = ![k]) (inb : ∀ a, off a + S1.size a ≤ S65.size a) (w v : BitVec 32) :
    midOf (m.view.read (Elt F) (m.view.writes (Elt F) f [⟨Rect.unit (s := S65) ![64] ![1] inb_S65_S1_64, fun _ => v⟩, ⟨Rect.unit (s := S65) off S1.size inb, fun _ => w⟩]))
      = Function.update (midOf (m.view.read (Elt F) f)) k w := by
  rw [mid_writes m f _ (by decide) rfl inb_S65_S1_64 v, mid_writes m f [] (by omega) hoff inb w, View.writes_nil]
  funext e
  by_cases he : e < 64
  · rw [midOf, dif_pos he, if_neg (show e ≠ 64 by omega)]
    by_cases hek : e = k
    · subst hek; rw [Function.update_self]; exact if_pos rfl
    · rw [Function.update_of_ne hek]; refine (if_neg hek).trans ?_; rw [midOf, dif_pos he]
  · rw [Function.update_of_ne (by omega), midOf, midOf, dif_neg he, dif_neg he]

theorem prior_after (m : Memref sig .tc .smem S65 .i32) (f : BufTy.Contents (Elt F) m.view.ty) (L : List (View.Piece (Elt F) S65 .i32)) (v : BitVec 32) :
    priorOf (m.view.read (Elt F) (m.view.writes (Elt F) f (⟨Rect.unit (s := S65) ![64] ![1] inb_S65_S1_64, fun _ => v⟩ :: L))) = v := by
  rw [mid_writes m f _ (by decide) rfl inb_S65_S1_64 v, priorOf]
  exact if_pos rfl

theorem prior_read (m : Memref sig .tc .smem S65 .i32) (f : BufTy.Contents (Elt F) m.view.ty) {k : ℕ} (hk : k < 64)
    {off : Fin 1 → ℕ} (hoff : off = ![k]) (inb : ∀ a, off a + S1.size a ≤ S65.size a) (w : BitVec 32) :
    m.view.readAt (Elt F) (Rect.unit (s := S65) ![64] ![1] inb_S65_S1_64).toLoadRect (m.view.writes (Elt F) f [⟨Rect.unit (s := S65) off S1.size inb, fun _ => w⟩])
        (Shape.Idx.first (numel1_S1.symm ▸ Nat.one_pos))
      = priorOf (m.view.read (Elt F) f) := by
  rw [View.readAt_apply, mid_writes m f [] (by omega) hoff inb w, View.writes_nil, priorOf]
  show (if 64 + 1 * 0 = k then _ else _) = _
  rw [if_neg (by omega)]
  refine congrArg _ (funext fun | (0 : Fin 1) => Fin.ext ?_)
  rfl

section Trip

variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)

/-- What one trip touches. -/
abbrev Trip1 (f2 : BufTy.Contents (Elt F) arg2.view.ty) (f4 : BufTy.Contents (Elt F) arg4.view.ty) (f13 : BufTy.Contents (Elt F) arg13.view.ty) (f14 : BufTy.Contents (Elt F) arg14.view.ty) : sProp 𝕄 :=
  iprop((arg2.view.loc (c : Thread nD τ) ↦[arg2.view.set]{fullShare} f2) ∗ (arg4.view.loc (c : Thread nD τ) ↦[arg4.view.set]{fullShare} f4) ∗ (arg13.view.loc (c : Thread nD τ) ↦[arg13.view.set]{fullShare} f13) ∗ (arg14.view.loc (c : Thread nD τ) ↦[arg14.view.set]{fullShare} f14))

/-- One entry of the walk. -/
theorem trip1 (h1 : k0_cond1 i = 1#1) (k : Fin k0_t1_loop.trips) (head hid : BitVec 32) (hhead : head.toNat < 64) (E : Set ℕ)
    (f2 : BufTy.Contents (Elt F) arg2.view.ty) (f4 : BufTy.Contents (Elt F) arg4.view.ty) (f13 : BufTy.Contents (Elt F) arg13.view.ty) (f14 : BufTy.Contents (Elt F) arg14.view.ty) :
    Trip1 (F := F) c arg2 arg4 arg13 arg14 f2 f4 f13 f14
    ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 arg12 harg12 arg13 harg13 arg14 harg14 h1 k (head, hid))
      (fun r => iprop(∃ g13 g14, Trip1 (F := F) c arg2 arg4 arg13 arg14 f2 f4 g13 g14
        ∗ ⌜stOf r.1 r.2 (arg13.view.read (Elt F) g13) (arg14.view.read (Elt F) g14)
            = Fold.step (segOf (arg2.view.read (Elt F) f2)) (rowOf (arg4.view.read (Elt F) f4)) addRow k.val
              (stOf head hid (arg13.view.read (Elt F) f13) (arg14.view.read (Elt F) f14))⌝)) := by
  have hk : k.val < 64 := Nat.lt_of_lt_of_le k.isLt k0_t1_abs.2.1
  unfold k0_t1_body
  simp only [k0_part1_eq_skeleton]
  iintro ⟨H2, H4, H13, H14⟩
  have hw : arg2.view.readAt (Elt F) (Rect.unit (s := S512) (k0_off1 k) S1.size (k0_off1_inb i k h1)).toLoadRect f2 (Shape.Idx.first (numel1_S1.symm ▸ Nat.one_pos))
      = segOf (arg2.view.read (Elt F) f2) k.val := seg_read i h1 k _ _
  have hp : arg4.view.readAt (Elt F) (Rect.unit (s := S64x128) (k0_off2 k) S1x128.size (k0_off2_inb i k h1)).toLoadRect f4
      = rowOf (arg4.view.read (Elt F) f4) k.val := row_read _ _ hk (k0_off2_eq k) _
  have hchk : k0_chk1 i k head hid (arg2.view.readAt (Elt F) (Rect.unit (s := S512) (k0_off1 k) S1.size (k0_off1_inb i k h1)).toLoadRect f2 (Shape.Idx.first (numel1_S1.symm ▸ Nat.one_pos))) :=
    fun _ _ => off4_inb hhead
  sl_exec
  sl_step
  iexists _, _
  isplitl [H2 H4 H13 H14]
  · isplitl [H2]; · iexact H2
    isplitl [H4]; · iexact H4
    isplitl [H13]; · iexact H13
    iexact H14
  ipureintro
  sl_unfold_run_names
  simp only [hw, hp, Words.cmpi_sge, Words.cmpi_ne, Words.cmpi_eq, Words.ori_bit, Words.andi_bit, Words.xori_bit, Words.ne_extui, Words.select_bit,
    Words.bit_eq_one, Words.extui_bit, Words.iv_eq_32 hk, Words.iv_eq_0 hk, cond3_iff hk]
  rw [stOf, mid_after arg14 f14 hk (k0_off5_eq k), prior_after, prior_read arg14 f14 hk (k0_off5_eq k)]
  rw [Fold.step]
  congr 1
  · rw [Words.iv_eq hk]; by_cases hv : Fold.Valid (segOf (arg2.view.read (Elt F) f2) k.val) <;> by_cases hf : Fold.Fresh k.val (segOf (arg2.view.read (Elt F) f2) k.val) hid
    · rw [if_neg (fun h => h.elim (fun h => h hv) (fun h => h hf)), if_pos ⟨hv, hf⟩]
    · rw [if_pos (.inr hf), if_neg (fun h => hf h.2)]
    · rw [if_pos (.inl hv), if_neg (fun h => hv (And.left h))]
    · rw [if_pos (.inl hv), if_neg (fun h => hv (And.left h))]
  · by_cases hv : Fold.Valid (segOf (arg2.view.read (Elt F) f2) k.val)
    · by_cases hf : Fold.Fresh k.val (segOf (arg2.view.read (Elt F) f2) k.val) hid
      · rw [dif_neg (fun h => h.2 hf), dif_pos ⟨hv, hf⟩, if_pos hv, if_pos hf, rowOf_writes _ _ hk (k0_off3_eq k)]
        exact congrArg _ (shapeCast_self _ _)
      · rw [dif_pos ⟨hv, hf⟩, dif_neg (fun h => hf h.2), if_pos hv, if_neg hf, rowOf_writes _ _ hhead (show k0_off4 head = ![head.toNat, 0] from rfl),
          row_read _ _ hhead (show k0_off4 head = ![head.toNat, 0] from rfl)]
        exact congrArg _ (shapeCast_self _ _)
    · rw [dif_neg (fun h => hv (And.left h)), dif_neg (fun h => hv (And.left h)), if_neg hv]

end Trip

end Cert.Kernel.Hand

end
-- ==== Proof.Kernel.Loops.lean ====
/- The two counted loops of the kernel, gone through by invariants: the boundary walk, and the placing of the merged
   rows into the block. -/
module

public import proofs.«01_k».proof.Proof.Kernel.Walk
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `j` of a block of 1024 rows. -/
def blkOf (x : Vec F S1024x128 .f32) (j : ℕ) : Row F :=
  if h : j < 1024 then fun y => x (fun | (0 : Fin 2) => (⟨j, h⟩ : Fin 1024) | (1 : Fin 2) => y (1 : Fin 2)) else row0

/-- The first row number of the block at a grid point. -/
def baseOf (i : grid0.Coords) : BitVec 32 := BitVec.ofNat 32 (i 0).val * 1024#32

theorem word_range (w : BitVec 32) : ((0#32).sle w = true ∧ w.slt 1024#32 = true) ↔ w.toNat < 1024 := by
  have hw : w.toNat < 2 ^ 32 := w.isLt
  rw [BitVec.sle_iff_toInt_le, BitVec.slt_iff_toInt_lt]
  have h0 : (0#32).toInt = 0 := by decide
  have h1 : (1024#32).toInt = 1024 := by decide
  rw [h0, h1, BitVec.toInt_eq_toNat_cond]
  split <;> omega

theorem cond5_iff (i : grid0.Coords) (w : BitVec 32) : k0_cond5 i w = 1#1 ↔ (w - baseOf i).toNat < 1024 := by
  rw [← word_range]
  show Scalar.cmpi .ne (Scalar.extui (Scalar.andi (Scalar.cmpi .sge (w - baseOf i) 0#32) (Scalar.cmpi .slt (w - baseOf i) 1024#32))) 0#32 = 1#1 ↔ _
  rw [Words.ne_extui, Words.cmpi_sge, Words.cmpi_slt, Words.andi_bit, Words.bit_eq_one]

theorem off9_eq (i : grid0.Coords) (w : BitVec 32) : k0_off9 i w = ![(w - baseOf i).toNat, 0] := rfl

theorem off9_inb {i : grid0.Coords} {w : BitVec 32} (h : (w - baseOf i).toNat < 1024) : ∀ a, (k0_off9 i w) a + S1x128.size a ≤ S1024x128.size a
  | (0 : Fin 2) => by show (w - baseOf i).toNat + 1 ≤ 1024; omega
  | (1 : Fin 2) => by show 0 + 128 ≤ 128; omega

/-- A row stored in the block is that row replaced. -/
theorem blkOf_writes (m : Memref sig .tc .vmem S1024x128 .f32) (f : BufTy.Contents (Elt F) m.view.ty) {e : ℕ} (he : e < 1024)
    {off : Fin 2 → ℕ} (hoff : off = ![e, 0]) (inb : ∀ a, off a + S1x128.size a ≤ S1024x128.size a) (w : Row F) :
    blkOf (m.view.read (Elt F) (m.view.writes (Elt F) f [⟨Rect.unit (s := S1024x128) off S1x128.size inb, w⟩]))
      = Function.update (blkOf (m.view.read (Elt F) f)) e w := by
  rw [View.read_writes_cons_put m.view f inb w [] hoff, View.writes_nil]
  funext j y
  by_cases hje : j = e
  · subst hje
    rw [Function.update_self, blkOf, dif_pos he]
    unfold VecWindow.put
    rw [dif_pos (fun | (0 : Fin 2) => ⟨Nat.le_refl _, Nat.lt_succ_self _⟩ | (1 : Fin 2) => ⟨Nat.zero_le _, by show (y (1 : Fin 2)).val < 0 + 128; have : (y (1 : Fin 2)).val < 128 := (y (1 : Fin 2)).isLt; omega⟩)]
    refine congrArg w (funext fun | (0 : Fin 2) => Fin.ext ?_ | (1 : Fin 2) => Fin.ext ?_)
    · have : (y (0 : Fin 2)).val < 1 := (y (0 : Fin 2)).isLt
      rw [Rect.unitLocal_val]; show j - j = _; omega
    · rw [Rect.unitLocal_val]; show _ - 0 = _; rfl
  · rw [Function.update_of_ne hje, blkOf, blkOf]
    by_cases hj : j < 1024
    · rw [dif_pos hj, dif_pos hj]
      unfold VecWindow.put
      rw [dif_neg]
      intro h
      have := h (0 : Fin 2)
      have h1 : e ≤ j := this.1
      have h2 : j < e + 1 := this.2
      omega
    · rw [dif_neg hj, dif_neg hj]

theorem mid_read (m : Memref sig .tc .smem S65 .i32) (f : BufTy.Contents (Elt F) m.view.ty) {k : ℕ} (hk : k < 64)
    {off : Fin 1 → ℕ} (hoff : off = ![k]) (inb : ∀ a, off a + S1.size a ≤ S65.size a) :
    m.view.readAt (Elt F) (Rect.unit (s := S65) off S1.size inb).toLoadRect f (Shape.Idx.first (numel1_S1.symm ▸ Nat.one_pos))
      = midOf (m.view.read (Elt F) f) k := by
  subst hoff
  rw [View.readAt_apply, midOf, dif_pos hk]
  exact congrArg _ (funext fun | (0 : Fin 1) => Fin.ext rfl)

section Loop

variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)

/-- What one trip of the placing loop touches. -/
abbrev Trip2 (f13 : BufTy.Contents (Elt F) arg13.view.ty) (f14 : BufTy.Contents (Elt F) arg14.view.ty) (f12 : BufTy.Contents (Elt F) arg12.view.ty) : sProp 𝕄 :=
  iprop((arg13.view.loc (c : Thread nD τ) ↦[arg13.view.set]{fullShare} f13) ∗ (arg14.view.loc (c : Thread nD τ) ↦[arg14.view.set]{fullShare} f14) ∗ (arg12.view.loc (c : Thread nD τ) ↦[arg12.view.set]{fullShare} f12))

/-- One entry of the placing loop. -/
theorem trip2 (k : Fin k0_t2_loop.trips) (E : Set ℕ)
    (f13 : BufTy.Contents (Elt F) arg13.view.ty) (f14 : BufTy.Contents (Elt F) arg14.view.ty) (f12 : BufTy.Contents (Elt F) arg12.view.ty) :
    Trip2 (F := F) c arg12 arg13 arg14 f13 f14 f12
    ⊢ wp frame (wpE (defs₀ (F := F)) Variants.none (c : Thread nD τ) none) E (k0_t2_body i arg1 harg1 arg2 harg2 arg3 harg3 arg4 harg4 arg5 harg5 arg6 harg6 arg7 harg7 arg8 harg8 arg9 harg9 arg10 harg10 arg11 harg11 arg12 harg12 arg13 harg13 arg14 harg14 k ())
      (fun _ => iprop(∃ g12, Trip2 (F := F) c arg12 arg13 arg14 f13 f14 g12
        ∗ ⌜blkOf (arg12.view.read (Elt F) g12)
            = if (midOf (arg14.view.read (Elt F) f14) k.val - baseOf i).toNat < 1024
              then Function.update (blkOf (arg12.view.read (Elt F) f12)) (midOf (arg14.view.read (Elt F) f14) k.val - baseOf i).toNat (rowOf (arg13.view.read (Elt F) f13) k.val)
              else blkOf (arg12.view.read (Elt F) f12)⌝)) := by
  have hk : k.val < 64 := Nat.lt_of_lt_of_le k.isLt k0_t2_abs.2.1
  unfold k0_t2_body
  iintro ⟨H13, H14, H12⟩
  have hw : arg14.view.readAt (Elt F) (Rect.unit (s := S65) (k0_off7 k) S1.size (k0_off7_inb k)).toLoadRect f14 (Shape.Idx.first (numel1_S1.symm ▸ Nat.one_pos))
      = midOf (arg14.view.read (Elt F) f14) k.val := mid_read _ _ hk (k0_off7_eq k) _
  have hp : arg13.view.readAt (Elt F) (Rect.unit (s := S64x128) (k0_off8 k) S1x128.size (k0_off8_inb k)).toLoadRect f13
      = rowOf (arg13.view.read (Elt F) f13) k.val := row_read _ _ hk (k0_off8_eq k) _
  have hchk : k0_chk3 i (arg14.view.readAt (Elt F) (Rect.unit (s := S65) (k0_off7 k) S1.size (k0_off7_inb k)).toLoadRect f14 (Shape.Idx.first (numel1_S1.symm ▸ Nat.one_pos))) :=
    fun h => off9_inb ((cond5_iff i _).mp h)
  sl_exec
  sl_step
  iexists _
  isplitl [H13 H14 H12]
  · isplitl [H13]; · iexact H13
    isplitl [H14]; · iexact H14
    iexact H12
  ipureintro
  sl_unfold_run_names
  simp only [hw, hp, cond5_iff]
  by_cases h : (midOf (arg14.view.read (Elt F) f14) k.val - baseOf i).toNat < 1024
  · rw [dif_pos h, if_pos h, blkOf_writes _ _ h ((off9_eq i _).trans (congrArg (fun w => ![(w - baseOf i).toNat, 0]) hw))]
    exact congrArg _ (shapeCast_self _ _)
  · rw [dif_neg h, if_neg h]

/-- The boundary walk, by its invariant: before entry `k` the scratch and the carried words hold the walk's state. -/
@[sl_loop, reducible] def loopInv_k0_t1 (h1 : k0_cond1 i = 1#1) (init : BitVec 32 × BitVec 32)
    (G2 : BufTy.Contents (Elt F) arg2.view.ty) (G4 : BufTy.Contents (Elt F) arg4.view.ty) (G13 : BufTy.Contents (Elt F) arg13.view.ty) (G14 : BufTy.Contents (Elt F) arg14.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 h1 init where
  inv k acc := iprop(∃ g13 g14, Trip1 (F := F) c arg2 arg4 arg13 arg14 G2 G4 g13 g14
    ∗ ⌜stOf acc.1 acc.2 (arg13.view.read (Elt F) g13) (arg14.view.read (Elt F) g14)
        = walk (arg2.view.read (Elt F) G2) (arg4.view.read (Elt F) G4) (arg13.view.read (Elt F) G13) (arg14.view.read (Elt F) G14) k⌝)
  step k acc := by
    have hk : k.val < 64 := Nat.lt_of_lt_of_le k.isLt k0_t1_abs.2.1
    iintro ⟨%g13, %g14, H, %h⟩
    have hg := Fold.good_run (segOf (F := F) (arg2.view.read (Elt F) G2)) (rowOf (arg4.view.read (Elt F) G4)) addRow (midOf (F := F) (arg14.view.read (Elt F) G14))
      (priorOf (F := F) (arg14.view.read (Elt F) G14)) (rowOf (arg13.view.read (Elt F) G13)) k.val (by omega)
    have hhead : acc.1.toNat < 64 := (congrArg (fun s => s.head.toNat) h).trans_lt hg.head_lt
    have key := (trip1 c i arg1 harg1 arg2 harg2 arg3 harg3 arg4 harg4 arg5 harg5 arg6 harg6 arg7 harg7 arg8 harg8 arg9 harg9 arg10 harg10 arg11 harg11 arg12 harg12 arg13 harg13 arg14 harg14 h1 k acc.1 acc.2 hhead Set.univ G2 G4 g13 g14).trans (wp_mono frame (wpE (defs₀ (F := F)) Variants.none (c : Thread nD τ) none) Set.univ
      (Q' := fun acc => iprop(∃ g13 g14, Trip1 (F := F) c arg2 arg4 arg13 arg14 G2 G4 g13 g14
        ∗ ⌜stOf acc.1 acc.2 (arg13.view.read (Elt F) g13) (arg14.view.read (Elt F) g14)
          = walk (arg2.view.read (Elt F) G2) (arg4.view.read (Elt F) G4) (arg13.view.read (Elt F) G13) (arg14.view.read (Elt F) G14) (k.val + 1)⌝)) (fun r => by
        iintro ⟨%f13, %f14, H, %h'⟩
        iexists f13, f14
        isplitl [H]; · iexact H
        ipureintro
        rw [h', h]; rfl))
    iapply key $$ H

/-- The placing loop, by its invariant: before entry `k` the block holds what the entries so far placed in it. -/
@[sl_loop, reducible] def loopInv_k0_t2 (G13 : BufTy.Contents (Elt F) arg13.view.ty) (G14 : BufTy.Contents (Elt F) arg14.view.ty) (G12 : BufTy.Contents (Elt F) arg12.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop(∃ g12, Trip2 (F := F) c arg12 arg13 arg14 G13 G14 g12
    ∗ ⌜blkOf (arg12.view.read (Elt F) g12)
        = Fold.place (baseOf i) (midOf (F := F) (arg14.view.read (Elt F) G14)) (rowOf (arg13.view.read (Elt F) G13)) (blkOf (arg12.view.read (Elt F) G12)) k⌝)
  step k acc := by
    have hk : k.val < 64 := Nat.lt_of_lt_of_le k.isLt k0_t2_abs.2.1
    iintro ⟨%g12, H, %h⟩
    have key := (trip2 c i arg1 harg1 arg2 harg2 arg3 harg3 arg4 harg4 arg5 harg5 arg6 harg6 arg7 harg7 arg8 harg8 arg9 harg9 arg10 harg10 arg11 harg11 arg12 harg12 arg13 harg13 arg14 harg14 k Set.univ G13 G14 g12).trans (wp_mono frame (wpE (defs₀ (F := F)) Variants.none (c : Thread nD τ) none) Set.univ
      (Q' := fun _ => iprop(∃ g12, Trip2 (F := F) c arg12 arg13 arg14 G13 G14 g12
        ∗ ⌜blkOf (arg12.view.read (Elt F) g12)
          = Fold.place (baseOf i) (midOf (F := F) (arg14.view.read (Elt F) G14)) (rowOf (arg13.view.read (Elt F) G13)) (blkOf (arg12.view.read (Elt F) G12)) (k.val + 1)⌝)) (fun r => by
        iintro ⟨%f12, H, %h'⟩
        iexists f12
        isplitl [H]; · iexact H
        ipureintro
        rw [h', h]; rfl))
    iapply key $$ H

end Loop

end Cert.Kernel.Hand

end
-- ==== Proof.Kernel.Front.lean ====
/- The first part of the kernel's body: the boundary walk at the first grid point, and at every point the block of sums
   with the merged rows placed in it. -/
module

public import proofs.«01_k».proof.Proof.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch holds the walk's result. -/
def Held (x1 : Vec F S512 .i32) (x3 : Vec F S64x128 .f32) (y13 : Vec F S64x128 .f32) (y14 : Vec F S65 .i32) : Prop :=
  Fold.Holds (segOf (F := F) x1) (rowOf x3) addRow (fun _ => row0) (midOf (F := F) y14) (rowOf y13)

/-- The block of sums at a grid point, after the merged rows are placed in it. -/
def placed (i : grid0.Coords) (x1 : Vec F S512 .i32) (x3 : Vec F S64x128 .f32) (x2 : Vec F S1024x128 .f32) : Vec F S1024x128 .f32 :=
  fun y => Fold.place (baseOf i) (Fold.mids (segOf (F := F) x1) (rowOf x3) addRow fun _ => row0) (Fold.rows (segOf (F := F) x1) (rowOf x3) addRow fun _ => row0)
    (blkOf x2) 64 (y (0 : Fin 2)).val (fun | (0 : Fin 2) => (⟨0, by decide⟩ : Fin 1) | (1 : Fin 2) => y (1 : Fin 2))

theorem trips1 : Scf.trips k0_t1_loop.lb k0_t1_loop.ub k0_t1_loop.st = 64 := by decide +kernel
theorem trips2 : Scf.trips k0_t2_loop.lb k0_t2_loop.ub k0_t2_loop.st = 64 := by decide +kernel

theorem cond4_iff (w : BitVec 32) : k0_cond4 w = 1#1 ↔ Fold.Valid w := by
  unfold k0_cond4
  simp only [Words.cmpi_sge, Words.ne_extui, Words.extui_bit, Words.bit_eq_one]

theorem base_le (i : grid0.Coords) : (baseOf i).toNat ≤ 15360 := by
  have : (i 0).val < 16 := (i 0).isLt
  unfold baseOf
  rw [BitVec.toNat_mul, BitVec.toNat_ofNat]
  show (i 0).val % 2 ^ 32 * 1024 % 2 ^ 32 ≤ _
  omega

theorem last_read (m : Memref sig .tc .smem S65 .i32) (f : BufTy.Contents (Elt F) m.view.ty) :
    m.view.readAt (Elt F) (Rect.unit (s := S65) ![64] S1.size inb_S65_S1_64).toLoadRect f (Shape.Idx.first (numel1_S1.symm ▸ Nat.one_pos))
      = priorOf (m.view.read (Elt F) f) := by
  rw [View.readAt_apply, priorOf]
  exact congrArg _ (funext fun | (0 : Fin 1) => Fin.ext rfl)

/-- A block of 1024 rows is what its rows are. -/
theorem eq_of_blkOf {x z : Vec F S1024x128 .f32} (h : blkOf x = blkOf z) : x = z := by
  funext y
  have h0 : (y (0 : Fin 2)).val < 1024 := (y (0 : Fin 2)).isLt
  have e := congrFun (congrFun h (y (0 : Fin 2)).val) (fun | (0 : Fin 2) => (⟨0, by decide⟩ : Fin 1) | (1 : Fin 2) => y (1 : Fin 2))
  rw [blkOf, blkOf, dif_pos h0, dif_pos h0] at e
  have hy : y = (fun | (0 : Fin 2) => (⟨(y (0 : Fin 2)).val, h0⟩ : Fin 1024) | (1 : Fin 2) => y (1 : Fin 2)) := funext fun | (0 : Fin 2) => rfl | (1 : Fin 2) => rfl
  rw [hy]; exact e

theorem placed_row (i : grid0.Coords) (x1 : Vec F S512 .i32) (x3 : Vec F S64x128 .f32) (x2 : Vec F S1024x128 .f32) {j : ℕ} (hj : j < 1024) :
    blkOf (placed i x1 x3 x2) j = Fold.place (baseOf i) (Fold.mids (segOf (F := F) x1) (rowOf x3) addRow fun _ => row0) (Fold.rows (segOf (F := F) x1) (rowOf x3) addRow fun _ => row0)
    (blkOf x2) 64 j := by
  rw [blkOf, dif_pos hj]
  funext y
  unfold placed
  refine congrArg (Fold.place (R := Row F) _ _ _ _ _ j) (funext fun | (0 : Fin 2) => Fin.ext ?_ | (1 : Fin 2) => rfl)
  show 0 = (y (0 : Fin 2)).val
  have : (y (0 : Fin 2)).val < 1 := (y (0 : Fin 2)).isLt
  omega

/-- The block after the placing loop is `placed`, the scratch holding the walk's result. -/
theorem placed_eq (i : grid0.Coords) (x1 : Vec F S512 .i32) (x3 : Vec F S64x128 .f32) (x2 : Vec F S1024x128 .f32) {y13 : Vec F S64x128 .f32} {y14 : Vec F S65 .i32}
    (h : Held (F := F) x1 x3 y13 y14) {z : Vec F S1024x128 .f32}
    (hz : blkOf z = Fold.place (baseOf i) (midOf (F := F) y14) (rowOf y13) (blkOf x2) 64) : z = placed i x1 x3 x2 := by
  refine eq_of_blkOf (funext fun j => ?_)
  by_cases hj : j < 1024
  · rw [hz, placed_row i x1 x3 x2 hj, Fold.place_congr _ _ _ (base_le i) h _ 64 (Nat.le_refl _)]
  · rw [blkOf, blkOf, dif_neg hj, dif_neg hj]

/-- The block as the kernel first fills it. -/
theorem block_init (m3 m12 : Memref sig .tc .vmem S1024x128 .f32) (f : BufTy.Contents (Elt F) m12.view.ty) (f3 : BufTy.Contents (Elt F) m3.view.ty) :
    m12.view.read (Elt F) (m12.view.writes (Elt F) f [⟨Rect.unit (s := S1024x128) ![0, 0] S1024x128.size inb_S1024x128_S1024x128_0_0,
        k0_pay9 (m3.view.readAt (Elt F) (Rect.unit (s := S1024x128) ![0, 0] S1024x128.size inb_S1024x128_S1024x128_0_0).toLoadRect f3)⟩])
      = m3.view.read (Elt F) f3 := by
  rw [View.readAt_full]
  refine (View.read_writes_full (s := S1024x128) m12.view f inb_S1024x128_S1024x128_0_0 _ []).trans ?_
  exact shapeCast_self _ _

/-- The rows of the scratch at the end of the walk. -/
theorem finish_rows (m : Memref sig .tc .vmem S64x128 .f32) (g : BufTy.Contents (Elt F) m.view.ty) {s : Fold.St (Row F)}
    (hrow : rowOf (m.view.read (Elt F) g) = s.row) (w : BitVec 32) (hw : w = s.prior) (hlt : Fold.Valid s.prior → s.prior.toNat < 64)
    (inb : Fold.Valid w → ∀ a, (k0_off6 w) a + S1x128.size a ≤ S64x128.size a) :
    rowOf (m.view.read (Elt F) (if hc : Fold.Valid w then
        m.view.writes (Elt F) g [⟨Rect.unit (s := S64x128) ![32, 0] S1x128.size inb_S64x128_S1x128_32_0,
          k0_pay8 (m.view.readAt (Elt F) (Rect.unit (s := S64x128) (k0_off6 w) S1x128.size (inb hc)).toLoadRect g)
            (m.view.readAt (Elt F) (Rect.unit (s := S64x128) ![32, 0] S1x128.size inb_S64x128_S1x128_32_0).toLoadRect g)⟩]
      else g)) = Fold.finish addRow s := by
  subst hw
  unfold Fold.finish
  by_cases h : Fold.Valid s.prior
  · rw [dif_pos h, if_pos h, rowOf_writes _ _ (by decide) rfl, row_read _ _ (hlt h) (show k0_off6 s.prior = ![s.prior.toNat, 0] from rfl),
      row_read _ _ (show 32 < 64 by decide) rfl, hrow]
    exact congrArg _ (shapeCast_self _ _)
  · rw [dif_neg h, if_neg h, hrow]

section Part

variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)

/-- What the first part touches. -/
abbrev FrontPts (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

theorem part2_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty)
    (hH : ¬ k0_cond1 i = 1#1 → Held (F := F) (arg2.view.read (Elt F) f2) (arg4.view.read (Elt F) f4) (arg13.view.read (Elt F) f13) (arg14.view.read (Elt F) f14)) :
    FrontPts (F := F) c arg1 arg2 arg3 arg4 arg5 arg6 arg7 arg12 arg13 arg14 f1 f2 f3 f4 f5 f6 f7 f12 f13 f14
    ⊢ wp frame (wpE (defs₀ (F := F)) Variants.none (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14)
      (fun r => iprop(∃ g12 g13 g14, FrontPts (F := F) c arg1 arg2 arg3 arg4 arg5 arg6 arg7 arg12 arg13 arg14 f1 f2 f3 f4 f5 f6 f7 g12 g13 g14
        ∗ ⌜r = ⟨Scalar.muli (arg1.view.readAt (Elt F) (Rect.unit (s := S1) ![0] S1.size inb_S1_S1_0).toLoadRect f1 (Shape.Idx.first (numel1_S1.symm ▸ Nat.one_pos))) 2246822519#32,
            k0_pay11, k0_pay12, k0_pay13 (F := F) (arg7.view.readAt (Elt F) (Rect.unit (s := S8x128) ![0, 0] S8x128.size inb_S8x128_S8x128_0_0).toLoadRect f7),
            k0_pay14 (arg6.view.readAt (Elt F) (Rect.unit (s := S8x128) ![0, 0] S8x128.size inb_S8x128_S8x128_0_0).toLoadRect f6),
            k0_pay15 (F := F) (arg7.view.readAt (Elt F) (Rect.unit (s := S8x128) ![0, 0] S8x128.size inb_S8x128_S8x128_0_0).toLoadRect f7),
            k0_pay16 (arg6.view.readAt (Elt F) (Rect.unit (s := S8x128) ![0, 0] S8x128.size inb_S8x128_S8x128_0_0).toLoadRect f6),
            k0_pay17 (F := F) (arg7.view.readAt (Elt F) (Rect.unit (s := S8x128) ![0, 0] S8x128.size inb_S8x128_S8x128_0_0).toLoadRect f7)
              (arg5.view.readAt (Elt F) (Rect.unit (s := S1024x128) ![0, 0] S128x128.size inb_S1024x128_S128x128_0_0).toLoadRect f5)⟩
          ∧ Held (F := F) (arg2.view.read (Elt F) f2) (arg4.view.read (Elt F) f4) (arg13.view.read (Elt F) g13) (arg14.view.read (Elt F) g14)
          ∧ arg12.view.read (Elt F) g12 = placed i (arg2.view.read (Elt F) f2) (arg4.view.read (Elt F) f4) (arg3.view.read (Elt F) f3)⌝)) := by
  simp only [k0_part2_eq_skeleton]; unfold k0_part2_skel
  iintro ⟨H1, H2, H3, H4, H5, H6, H7, H12, H13, H14⟩
  by_cases h1 : k0_cond1 i = 1#1
  · sl_exec
    rename_i acc
    rw [trips1] at hL4
    have hgood := Fold.good_run (segOf (F := F) (arg2.view.read (Elt F) f2)) (rowOf (arg4.view.read (Elt F) f4)) addRow (midOf (F := F) (arg14.view.read (Elt F) f14))
      (priorOf (F := F) (arg14.view.read (Elt F) f14)) (rowOf (arg13.view.read (Elt F) f13)) 64 (Nat.le_refl _)
    have hprior := congrArg (fun s => s.prior) hL4
    have hchk : k0_chk2 i (arg14.view.readAt (Elt F) (Rect.unit (s := S65) ![64] S1.size inb_S65_S1_64).toLoadRect g14L1 (Shape.Idx.first (numel1_S1.symm ▸ Nat.one_pos))) := by
      intro _ h4
      rw [last_read] at h4 ⊢
      rw [cond4_iff] at h4
      refine off4_inb ?_
      rw [show priorOf (F := F) (arg14.view.read (Elt F) g14L1) = _ from hprior] at h4 ⊢
      exact hgood.prior_lt (by decide) h4
    sl_exec
    sl_step
    have hfin := finish_rows arg13 g13L0 (congrArg (fun s => s.row) hL4) _ ((last_read arg14 g14L1).trans hprior) (hgood.prior_lt (by decide))
      (fun hv => hchk h1 ((cond4_iff _).mpr hv))
    have hheld : Held (F := F) (arg2.view.read (Elt F) f2) (arg4.view.read (Elt F) f4) (arg13.view.read (Elt F) (if hc : Fold.Valid (arg14.view.readAt (Elt F) (Rect.unit (s := S65) ![64] S1.size inb_S65_S1_64).toLoadRect g14L1 (Shape.Idx.first (numel1_S1.symm ▸ Nat.one_pos))) then
        arg13.view.writes (Elt F) g13L0 [⟨Rect.unit (s := S64x128) ![32, 0] S1x128.size inb_S64x128_S1x128_32_0,
          k0_pay8 (arg13.view.readAt (Elt F) (Rect.unit (s := S64x128) (k0_off6 _) S1x128.size (hchk h1 ((cond4_iff _).mpr hc))).toLoadRect g13L0)
            (arg13.view.readAt (Elt F) (Rect.unit (s := S64x128) ![32, 0] S1x128.size inb_S64x128_S1x128_32_0).toLoadRect g13L0)⟩]
      else g13L0)) (arg14.view.read (Elt F) g14L1) := by
      unfold Held
      rw [hfin, show midOf (F := F) (arg14.view.read (Elt F) g14L1) = _ from congrArg (fun s => s.mid) hL4]
      exact Fold.holds_run _ _ _ _ _ _ _
    iexists _, _, _
    isplitl [H1 H2 H3 H4 H5 H6 H7 H12 H13 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H12]; · iexact H12
      isplitl [H13]; · iexact H13
      iexact H14
    ipureintro
    sl_unfold_run_names
    simp only [cond4_iff] at hL3 ⊢
    refine ⟨trivial, hheld, placed_eq i _ _ _ hheld ?_⟩
    rw [hL3, trips2]
    exact congrArg (fun z => Fold.place _ _ _ (blkOf z) 64) (block_init arg3 arg12 _ f3)
  · sl_exec
    sl_step
    iexists _, _, _
    isplitl [H1 H2 H3 H4 H5 H6 H7 H12 H13 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H12]; · iexact H12
      isplitl [H13]; · iexact H13
      iexact H14
    ipureintro
    refine ⟨rfl, hH h1, placed_eq i _ _ _ (hH h1) ?_⟩
    rw [hL3, trips2]
    exact congrArg (fun z => Fold.place _ _ _ (blkOf z) 64) (block_init arg3 arg12 _ f3)

end Part

end Cert.Kernel.Hand

end
-- ==== Proof.Kernel.Tail.lean ====
/- The whole body at one grid point: the first part, then the eight row blocks. -/
module

public import proofs.«01_k».proof.Proof.Kernel.Front

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the walk left, in the two scratch buffers. -/
def HeldAt (c : Dev nD) (arg13 : Memref sig .tc .vmem S64x128 .f32) (arg14 : Memref sig .tc .smem S65 .i32) (x1 : Vec F S512 .i32) (x3 : Vec F S64x128 .f32) : sProp 𝕄 :=
  iprop(∃ y13 y14, owns (c : Thread nD τ) arg13 fullShare y13 ∗ owns (c : Thread nD τ) arg14 fullShare y14 ∗ ⌜Held (F := F) x1 x3 y13 y14⌝)

/-- A run followed by the rest. -/
theorem wp_then {c : Dev nD} {α : Type} {p : Prog (TpuEff nD τ sig (Elt F) Λ₀ .tc) α} {P : sProp 𝕄} {Q : α → sProp 𝕄}
    (h : P ⊢ wp frame (wpE (defs₀ (F := F)) Variants.none (c : Thread nD τ) none) Set.univ p Q) (Q' : α → sProp 𝕄) :
    iprop(P ∗ (∀ a, Q a -∗ Q' a)) ⊢ wp frame (wpE (defs₀ (F := F)) Variants.none (c : Thread nD τ) none) Set.univ p Q' :=
  (BI.sep_mono_l h).trans (wp_wand_r frame (wpE (defs₀ (F := F)) Variants.none (c : Thread nD τ) none) Set.univ)

set_option maxHeartbeats 4000000 in
/-- The pieces the body stores in its four outputs (last first), with the proof that the body, run on whole buffers, the
    inputs at `x0` to `x6` and the two scratch buffers of the walk at its result unless this is the first grid point,
    leaves these pieces written and the walk's result in the two scratch buffers. -/
noncomputable def bodyRun (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)
    (x0 : Vec F S1 .i32) (x1 : Vec F S512 .i32) (x2 : Vec F S1024x128 .f32) (x3 : Vec F S64x128 .f32) (x4 : Vec F S1024x128 .i32) (x5 : Vec F S8x128 .f32) (x6 : Vec F S8x128 .i32) :
    Σ' (L7 : List (View.Piece (Elt F) S1024x128 .f32)) (L8 : List (View.Piece (Elt F) S1024x128 .f32)) (L9 : List (View.Piece (Elt F) S1024x128 .i8)) (L10 : List (View.Piece (Elt F) S8x128 .f32)),
    PLift (∀ (y13 : Vec F S64x128 .f32) (y14 : Vec F S65 .i32) (hH : ¬ k0_cond1 i = 1#1 → Held (F := F) x1 x3 y13 y14) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ owns (c : Thread nD τ) arg13 fullShare y13 ∗ owns (c : Thread nD τ) arg14 fullShare y14
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)
            ∗ (∃ d, owns (c : Thread nD τ) arg12 fullShare d) ∗ HeldAt (F := F) c arg13 arg14 x1 x3) -∗ K ⟨⟩))
      ⊢ wp frame (wpE (defs₀ (F := F)) Variants.none (c : Thread nD τ) none) Set.univ (cc0_tc_update i arg1 harg1 arg2 harg2 arg3 harg3 arg4 harg4 arg5 harg5 arg6 harg6 arg7 harg7 arg8 harg8 arg9 harg9 arg10 harg10 arg11 harg11 arg12 harg12 arg13 harg13 arg14 harg14) K) := by
  refine ⟨?_, ?_, ?_, ?_, ⟨fun y13 y14 hH K => ?run⟩⟩
  case run =>
    simp only [cc0_tc_update_eq_skeleton]; unfold cc0_tc_update_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    rw [wp_bind]
    have hH' : ¬ k0_cond1 i = 1#1 → Held (F := F) (arg2.view.read (Elt F) (harg2.unread x1)) (arg4.view.read (Elt F) (harg4.unread x3)) (arg13.view.read (Elt F) f13) (arg14.view.read (Elt F) f14) := by
      rw [hf13, hf14, harg2.read_unread, harg4.read_unread]; exact hH
    have key := wp_then (part2_run c i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) f12 f13 f14 hH')
    rw [harg2.read_unread, harg3.read_unread, harg4.read_unread] at key
    iapply (key _)
    isplitl [H1 H2 H3 H4 H5 H6 H7 H12 H13 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H12]; · iexact H12
      isplitl [H13]; · iexact H13
      iexact H14
    iintro %r ⟨%g12, %g13, %g14, ⟨H1, H2, H3, H4, H5, H6, H7, H12, H13, H14⟩, %hr⟩
    obtain ⟨hr, hheld, h12⟩ := hr
    subst hr
    obtain rfl := harg12.eq_unread h12
    sl_exec
    sl_step
    iapply Hk
    isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]; · iexists _; iexact H8
    isplitl [H9]; · iexists _; iexact H9
    isplitl [H10]; · iexists _; iexact H10
    isplitl [H11]; · iexists _; iexact H11
    isplitl [H12]
    · iexists _; iexists _; isplitr
      swap; · iexact H12
      ipureintro; rfl
    unfold HeldAt owns
    iexists _, _
    isplitl [H13]
    · iexists _; isplitr
      swap; · iexact H13
      ipureintro; rfl
    isplitl [H14]
    · iexists _; isplitr
      swap; · iexact H14
      ipureintro; rfl
    ipureintro; exact hheld

end Cert.Kernel.Hand

end
-- ==== Proof.Kernel.Launch.lean ====
/- The launch: what the body leaves at each grid point, and the frame. -/
module

public import proofs.«01_k».proof.Proof.Kernel.Tail
public import proofs.«01_k».proof.Proof.Gen.Kernel.Frame
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The walk is run at the first grid point only. -/
theorem cond1_iff : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

/-- One staging buffer of output 7, through which its contents are stated. -/
abbrev VO7 : View sig .tc .vmem S1024x128 .f32 := (Memref.whole cc0_stg7_0 : Memref sig .tc .vmem S1024x128 .f32).view
/-- One staging buffer of output 8, through which its contents are stated. -/
abbrev VO8 : View sig .tc .vmem S1024x128 .f32 := (Memref.whole cc0_stg8_0 : Memref sig .tc .vmem S1024x128 .f32).view
/-- One staging buffer of output 9, through which its contents are stated. -/
abbrev VO9 : View sig .tc .vmem S1024x128 .i8 := (Memref.whole cc0_stg9_0 : Memref sig .tc .vmem S1024x128 .i8).view
/-- One staging buffer of output 10, through which its contents are stated. -/
abbrev VO10 : View sig .tc .vmem S8x128 .f32 := (Memref.whole cc0_stg10_0 : Memref sig .tc .vmem S8x128 .f32).view
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x128 .i8 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x128 .f32 := win0_10.stage (cfg0.slots t 10)
abbrev hs10 (t : Fin cfg0.N) : (ms10 t).IsWhole := hstage0_10 ((cfg0.slots t 10).cast nbuf0_10)
/-- The three scratch buffers. -/
abbrev scM0 : Memref sig .tc .vmem S1024x128 .f32 := Memref.whole cc0_scratch0
abbrev scM1 : Memref sig .tc .vmem S64x128 .f32 := Memref.whole cc0_scratch1
abbrev scM2 : Memref sig .tc .smem S65 .i32 := Memref.whole cc0_scratch2

/-- The scoped rest: the scratch buffers owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The pieces of output 7 cover its block. -/
theorem cover7 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 S128x128.size (by sl_kernel_rfl) y

/-- What the body leaves in output 7's buffer. -/
def out7 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S1024x128 .f32 :=
  VO7.read (Elt F) (VO7.writes (Elt F) VO7.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1)

/-- The pieces of output 8 cover its block. -/
theorem cover8 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 S128x128.size (by sl_kernel_rfl) y

/-- What the body leaves in output 8's buffer. -/
def out8 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S1024x128 .f32 :=
  VO8.read (Elt F) (VO8.writes (Elt F) VO8.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1)

/-- The pieces of output 9 cover its block. -/
theorem cover9 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1 S128x128.size (by sl_kernel_rfl) y

/-- What the body leaves in output 9's buffer. -/
def out9 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S1024x128 .i8 :=
  VO9.read (Elt F) (VO9.writes (Elt F) VO9.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1)

/-- The pieces of output 10 cover its block. -/
theorem cover10 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S8x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1 S1x128.size (by sl_kernel_rfl) y

/-- What the body leaves in output 10's buffer. -/
def out10 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S8x128 .f32 :=
  VO10.read (Elt F) (VO10.writes (Elt F) VO10.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1)

/-- What output 7's buffer holds after the body at a point. -/
def outAt7 (c : Dev nD) (t : Fin cfg0.N) : Vec F S1024x128 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- What output 8's buffer holds after the body at a point. -/
def outAt8 (c : Dev nD) (t : Fin cfg0.N) : Vec F S1024x128 .f32 :=
  out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- What output 9's buffer holds after the body at a point. -/
def outAt9 (c : Dev nD) (t : Fin cfg0.N) : Vec F S1024x128 .i8 :=
  out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- What output 10's buffer holds after the body at a point. -/
def outAt10 (c : Dev nD) (t : Fin cfg0.N) : Vec F S8x128 .f32 :=
  out10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- The two windows the walk reads stay at one block: the whole array. -/
theorem iblk1_const (c : Dev nD) (t t' : Fin cfg0.N) : (iblk m c 1 t : Vec F S512 .i32) = iblk m c 1 t' := rfl
theorem iblk3_const (c : Dev nD) (t t' : Fin cfg0.N) : (iblk m c 3 t : Vec F S64x128 .f32) = iblk m c 3 t' := rfl

/-- The invariant: before the first point the scoped rest; after a point, the walk's result in its two scratch buffers. -/
def PhiS (c : Dev nD) : (n : ℕ) → n ≤ cfg0.N → sProp 𝕄
  | 0, _ => Pipeline.ΦA spec0 c
  | n + 1, hn => iprop(iprop((∃ d, owns (c : Thread nD τ) scM0 fullShare d) ∗ HeldAt (F := F) c scM1 scM2 (iblk m c 1 ⟨n, hn⟩) (iblk m c 3 ⟨n, hn⟩)) ∗ (∃ r, prngReg c r))

theorem PhiS_succ (c : Dev nD) (n : ℕ) (hn : n < cfg0.N) :
    PhiS m c (n + 1) hn = iprop(iprop((∃ d, owns (c : Thread nD τ) scM0 fullShare d) ∗ HeldAt (F := F) c scM1 scM2 (iblk m c 1 ⟨n, hn⟩) (iblk m c 3 ⟨n, hn⟩)) ∗ (∃ r, prngReg c r)) := rfl

/-- What the invariant gives the body at a point. -/
theorem PhiS_open (c : Dev nD) (t : Fin cfg0.N) (n : ℕ) (hn : n ≤ cfg0.N) (ht : n = t.val) :
    PhiS m c n hn ⊢ iprop((∃ d, owns (c : Thread nD τ) scM0 fullShare d)
      ∗ (∃ y13 y14, owns (c : Thread nD τ) scM1 fullShare y13 ∗ owns (c : Thread nD τ) scM2 fullShare y14
          ∗ ⌜¬ k0_cond1 (grid0.coords t) = 1#1 → Held (F := F) (iblk m c 1 t) (iblk m c 3 t) y13 y14⌝)
      ∗ (∃ r, prngReg c r)) := by
  cases n with
  | zero =>
    rw [show PhiS m c 0 hn = Pipeline.ΦA spec0 c from rfl, PhiA_eq]
    iintro ⟨⟨H0, ⟨%d1, H1⟩, ⟨%d2, H2⟩⟩, Hg⟩
    isplitl [H0]; · iexact H0
    isplitl [H1 H2]
    · iexists d1, d2
      isplitl [H1]; · iexact H1
      isplitl [H2]; · iexact H2
      ipureintro
      exact fun h => absurd ((cond1_iff t).mpr (by rw [← ht])) h
    iexact Hg
  | succ n =>
    rw [PhiS_succ]; unfold HeldAt
    iintro ⟨⟨H0, ⟨%d1, %d2, H1, H2, %h⟩⟩, Hg⟩
    isplitl [H0]; · iexact H0
    isplitl [H1 H2]
    · iexists d1, d2
      isplitl [H1]; · iexact H1
      isplitl [H2]; · iexact H2
      ipureintro
      intro _
      rw [iblk1_const m c t ⟨n, hn⟩, iblk3_const m c t ⟨n, hn⟩]
      exact h
    iexact Hg

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => outAt7 m c t
    | ⟨8, _⟩ => outAt8 m c t
    | ⟨9, _⟩ => outAt9 m c t
    | ⟨10, _⟩ => outAt10 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt7 m c t := by dsimp only [dats]
theorem after_8 (c : Dev nD) (t : Fin cfg0.N) : (dats m 0 c).after 8 t = outAt8 m c t := by dsimp only [dats]
theorem after_9 (c : Dev nD) (t : Fin cfg0.N) : (dats m 0 c).after 9 t = outAt9 m c t := by dsimp only [dats]
theorem after_10 (c : Dev nD) (t : Fin cfg0.N) : (dats m 0 c).after 10 t = outAt10 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9, after_10]
  rw [show (dats m 0 c).Φ t.succ = PhiS m c (t.val + 1) t.isLt from rfl, PhiS_succ, PhiS_castSucc m c t]
  unfold outAt7 outAt8 outAt9 outAt10 out7 out8 out9 out10
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave ⟨HS0, ⟨%y13, %y14, HS1, HS2, %hH⟩, Hg⟩ := (PhiS_open m c t t.val _ rfl) $$ HP
  iapply ((bodyRun c (grid0.coords t) _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t)).2.2.2.2.down y13 y14 hH _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, ⟨%e10, H10⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover9 c _ _ _ _ _ _ _ _ _ _ _ _ _ _ _ _ _ _ _ _ _ _ _ _ _ _ _ _ _ _ _ _ _ _ _ _)
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scoped rest back. -/
theorem hout (c : Dev nD) : (dats m 0 c).Φ (Fin.last cfg0.N) ⊢ Pipeline.ΦA spec0 c := by
  rw [show (dats m 0 c).Φ (Fin.last cfg0.N) = PhiS m c (15 + 1) (by rw [show cfg0.N = 16 from N_0]) from rfl, PhiS_succ, PhiA_eq]
  unfold HeldAt
  iintro ⟨⟨H0, ⟨%d1, %d2, H1, H2, -⟩⟩, Hg⟩
  isplitl [H0 H1 H2]
  · isplitl [H0]; · iexact H0
    isplitl [H1]; · iexists _; iexact H1
    iexists _; iexact H2
  iexact Hg

-- the implicit arguments are found by unifying the conclusion, which takes unfolding plain definitions in a metavariable's type
set_option backward.isDefEq.respectTransparency.types false in
/-- The launch: every array of the pipeline ends at what the proof data compute, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends, the arguments unchanged and every counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.KernelIdeal.Walk.lean ====
/- One entry of the boundary walk, run: `k0_t1_body` takes the scratch from one state of the walk (Proof/Fold.lean) to
   the next. -/
module

public import proofs.«01_k».proof.Proof.Words
public import proofs.«01_k».proof.Proof.Gen.KernelIdeal
public import proofs.«01_k».proof.Proof.Gen.KernelIdeal.Skeleton
public import proofs.«01_k».proof.Proof.Gen.KernelIdeal.Loops
public import Idealize.ShloMosaic.Lib.VecWindow
public import Idealize.ShloMosaic.Lib.WritesUnit
public import Idealize.ShloMosaic.Lib.Pipeline.Frame
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A row of a table. -/
abbrev Row (F : FTy → Type) : Type := Vec F S1x128 .f32

/-- Nothing in particular, as a row. -/
def row0 : Row F := fun _ => Scalar.ofBits .f32 0x00000000#32

/-- The segment word of boundary entry `e`: the list carries two words for each of 32 tiles, sixteen words apart. -/
def segOf (x : Vec F S512 .i32) (e : ℕ) : BitVec 32 :=
  if h : e < 64 then x (fun | (0 : Fin 1) => (⟨16 * (e / 2) + e % 2, by omega⟩ : Fin 512)) else 0#32

/-- Row `e` of a table of 64 rows. -/
def rowOf (x : Vec F S64x128 .f32) (e : ℕ) : Row F :=
  if h : e < 64 then fun y => x (fun | (0 : Fin 2) => (⟨e, h⟩ : Fin 64) | (1 : Fin 2) => y (1 : Fin 2)) else row0

/-- Word `e < 64` of the table of segment words, and its last word. -/
def midOf (x : Vec F S65 .i32) (e : ℕ) : BitVec 32 :=
  if h : e < 64 then x (fun | (0 : Fin 1) => (⟨e, by omega⟩ : Fin 65)) else 0#32
def priorOf (x : Vec F S65 .i32) : BitVec 32 := x (fun | (0 : Fin 1) => (⟨64, by decide⟩ : Fin 65))

/-- The walk's state as the scratch and the carried words hold it. -/
abbrev stOf (head hid : BitVec 32) (x13 : Vec F S64x128 .f32) (x14 : Vec F S65 .i32) : Fold.St (Row F) :=
  ⟨head, hid, midOf x14, priorOf x14, rowOf x13⟩

/-- The sum of two rows, as the kernel takes it. -/
def addRow (a b : Row F) : Row F := addf a b

/-- The state of the walk before entry `k`, over the scratch's contents at the start. -/
abbrev walk (x1 : Vec F S512 .i32) (x3 : Vec F S64x128 .f32) (y13 : Vec F S64x128 .f32) (y14 : Vec F S65 .i32) (k : ℕ) : Fold.St (Row F) :=
  Fold.run (segOf (F := F) x1) (rowOf x3) addRow (midOf (F := F) y14) (priorOf (F := F) y14) (rowOf y13) k

theorem off1_eq : ∀ k : Fin k0_t1_loop.trips, k0_off1 k = ![16 * (k.val / 2) + k.val % 2] := by decide +kernel

theorem off4_inb {head : BitVec 32} (h : head.toNat < 64) : ∀ a, (k0_off4 head) a + S1x128.size a ≤ S64x128.size a
  | (0 : Fin 2) => by show head.toNat + 1 ≤ 64; omega
  | (1 : Fin 2) => by show 0 + 128 ≤ 128; omega

theorem seg_read (i : grid0.Coords) (h1 : k0_cond1 i = 1#1) (k : Fin k0_t1_loop.trips) (m : Memref sig .tc .smem S512 .i32) (f : BufTy.Contents (Elt F) m.view.ty) :
    m.view.readAt (Elt F) (Rect.unit (s := S512) (k0_off1 k) S1.size (k0_off1_inb i k h1)).toLoadRect f (Shape.Idx.first (numel1_S1.symm ▸ Nat.one_pos))
      = segOf (m.view.read (Elt F) f) k.val := by
  have hk : k.val < 64 := Nat.lt_of_lt_of_le k.isLt k0_t1_abs.2.1
  rw [View.readAt_apply, segOf, dif_pos hk]
  refine congrArg _ (funext fun | (0 : Fin 1) => Fin.ext ?_)
  show k0_off1 k 0 + 1 * 0 = _
  rw [off1_eq]; rfl

theorem row_read (m : Memref sig .tc .vmem S64x128 .f32) (f : BufTy.Contents (Elt F) m.view.ty) {e : ℕ} (he : e < 64)
    {off : Fin 2 → ℕ} (hoff : off = ![e, 0]) (inb : ∀ a, off a + S1x128.size a ≤ S64x128.size a) :
    m.view.readAt (Elt F) (Rect.unit (s := S64x128) off S1x128.size inb).toLoadRect f = rowOf (m.view.read (Elt F) f) e := by
  subst hoff
  funext y
  rw [View.readAt_apply, rowOf, dif_pos he]
  refine congrArg _ (funext fun | (0 : Fin 2) => Fin.ext ?_ | (1 : Fin 2) => Fin.ext ?_)
  · show e + 1 * (y (0 : Fin 2)).val = e
    have : (y (0 : Fin 2)).val < 1 := (y (0 : Fin 2)).isLt
    omega
  · show 0 + 1 * (y (1 : Fin 2)).val = (y (1 : Fin 2)).val
    omega

/-- A row stored is that row replaced. -/
theorem rowOf_writes (m : Memref sig .tc .vmem S64x128 .f32) (f : BufTy.Contents (Elt F) m.view.ty) {e : ℕ} (he : e < 64)
    {off : Fin 2 → ℕ} (hoff : off = ![e, 0]) (inb : ∀ a, off a + S1x128.size a ≤ S64x128.size a) (w : Row F) :
    rowOf (m.view.read (Elt F) (m.view.writes (Elt F) f [⟨Rect.unit (s := S64x128) off S1x128.size inb, w⟩]))
      = Function.update (rowOf (m.view.read (Elt F) f)) e w := by
  rw [View.read_writes_cons_put m.view f inb w [] hoff, View.writes_nil]
  funext j y
  by_cases hje : j = e
  · subst hje
    rw [Function.update_self, rowOf, dif_pos he]
    unfold VecWindow.put
    rw [dif_pos (fun | (0 : Fin 2) => ⟨Nat.le_refl _, Nat.lt_succ_self _⟩ | (1 : Fin 2) => ⟨Nat.zero_le _, by show (y (1 : Fin 2)).val < 0 + 128; have : (y (1 : Fin 2)).val < 128 := (y (1 : Fin 2)).isLt; omega⟩)]
    refine congrArg w (funext fun | (0 : Fin 2) => Fin.ext ?_ | (1 : Fin 2) => Fin.ext ?_)
    · have : (y (0 : Fin 2)).val < 1 := (y (0 : Fin 2)).isLt
      rw [Rect.unitLocal_val]; show j - j = _; omega
    · rw [Rect.unitLocal_val]; show _ - 0 = _; rfl
  · rw [Function.update_of_ne hje, rowOf, rowOf]
    by_cases hj : j < 64
    · rw [dif_pos hj, dif_pos hj]
      unfold VecWindow.put
      rw [dif_neg]
      intro h
      have := h (0 : Fin 2)
      have h1 : e ≤ j := this.1
      have h2 : j < e + 1 := this.2
      omega
    · rw [dif_neg hj, dif_neg hj]

/-- A word stored in the table of segment words, over earlier stores. -/
theorem mid_writes (m : Memref sig .tc .smem S65 .i32) (f : BufTy.Contents (Elt F) m.view.ty) (L : List (View.Piece (Elt F) S65 .i32)) {e : ℕ} (he : e < 65)
    {off : Fin 1 → ℕ} (hoff : off = ![e]) (inb : ∀ a, off a + S1.size a ≤ S65.size a) (w : BitVec 32) :
    m.view.read (Elt F) (m.view.writes (Elt F) f (⟨Rect.unit (s := S65) off S1.size inb, fun _ => w⟩ :: L))
      = fun y => if (y (0 : Fin 1)).val = e then w else m.view.read (Elt F) (m.view.writes (Elt F) f L) y := by
  rw [View.read_writes_cons_put m.view f inb _ L hoff]
  funext y
  unfold VecWindow.put
  by_cases h : (y (0 : Fin 1)).val = e
  · rw [dif_pos (fun | (0 : Fin 1) => ⟨by show e ≤ _; omega, by show _ < e + 1; omega⟩), if_pos h]
  · rw [dif_neg, if_neg h]
    intro hh
    have h1 : e ≤ (y (0 : Fin 1)).val := (hh (0 : Fin 1)).1
    have h2 : (y (0 : Fin 1)).val < e + 1 := (hh (0 : Fin 1)).2
    omega

theorem cond3_iff {k : Fin k0_t1_loop.trips} (hk : k.val < 64) (hid w : BitVec 32) :
    k0_cond3 k hid w = 1#1 ↔ Fold.Valid w ∧ ¬ Fold.Fresh k.val w hid := by
  unfold k0_cond3
  simp only [Words.cmpi_sge, Words.cmpi_ne, Words.cmpi_eq, Words.ori_bit, Words.andi_bit, Words.xori_bit, Words.ne_extui, Words.extui_bit, Words.bit_eq_one, Words.iv_eq_32 hk]

/-- The words of the table after a trip's two stores. -/
theorem mid_after (m : Memref sig .tc .smem S65 .i32) (f : BufTy.Contents (Elt F) m.view.ty) {k : ℕ} (hk : k < 64)
    {off : Fin 1 → ℕ} (hoff : off = ![k]) (inb : ∀ a, off a + S1.size a ≤ S65.size a) (w v : BitVec 32) :
    midOf (m.view.read (Elt F) (m.view.writes (Elt F) f [⟨Rect.unit (s := S65) ![64] ![1] inb_S65_S1_64, fun _ => v⟩, ⟨Rect.unit (s := S65) off S1.size inb, fun _ => w⟩]))
      = Function.update (midOf (m.view.read (Elt F) f)) k w := by
  rw [mid_writes m f _ (by decide) rfl inb_S65_S1_64 v, mid_writes m f [] (by omega) hoff inb w, View.writes_nil]
  funext e
  by_cases he : e < 64
  · rw [midOf, dif_pos he, if_neg (show e ≠ 64 by omega)]
    by_cases hek : e = k
    · subst hek; rw [Function.update_self]; exact if_pos rfl
    · rw [Function.update_of_ne hek]; refine (if_neg hek).trans ?_; rw [midOf, dif_pos he]
  · rw [Function.update_of_ne (by omega), midOf, midOf, dif_neg he, dif_neg he]

theorem prior_after (m : Memref sig .tc .smem S65 .i32) (f : BufTy.Contents (Elt F) m.view.ty) (L : List (View.Piece (Elt F) S65 .i32)) (v : BitVec 32) :
    priorOf (m.view.read (Elt F) (m.view.writes (Elt F) f (⟨Rect.unit (s := S65) ![64] ![1] inb_S65_S1_64, fun _ => v⟩ :: L))) = v := by
  rw [mid_writes m f _ (by decide) rfl inb_S65_S1_64 v, priorOf]
  exact if_pos rfl

theorem prior_read (m : Memref sig .tc .smem S65 .i32) (f : BufTy.Contents (Elt F) m.view.ty) {k : ℕ} (hk : k < 64)
    {off : Fin 1 → ℕ} (hoff : off = ![k]) (inb : ∀ a, off a + S1.size a ≤ S65.size a) (w : BitVec 32) :
    m.view.readAt (Elt F) (Rect.unit (s := S65) ![64] ![1] inb_S65_S1_64).toLoadRect (m.view.writes (Elt F) f [⟨Rect.unit (s := S65) off S1.size inb, fun _ => w⟩])
        (Shape.Idx.first (numel1_S1.symm ▸ Nat.one_pos))
      = priorOf (m.view.read (Elt F) f) := by
  rw [View.readAt_apply, mid_writes m f [] (by omega) hoff inb w, View.writes_nil, priorOf]
  show (if 64 + 1 * 0 = k then _ else _) = _
  rw [if_neg (by omega)]
  refine congrArg _ (funext fun | (0 : Fin 1) => Fin.ext ?_)
  rfl

section Trip

variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)

/-- What one trip touches. -/
abbrev Trip1 (f2 : BufTy.Contents (Elt F) arg2.view.ty) (f4 : BufTy.Contents (Elt F) arg4.view.ty) (f13 : BufTy.Contents (Elt F) arg13.view.ty) (f14 : BufTy.Contents (Elt F) arg14.view.ty) : sProp 𝕄 :=
  iprop((arg2.view.loc (c : Thread nD τ) ↦[arg2.view.set]{fullShare} f2) ∗ (arg4.view.loc (c : Thread nD τ) ↦[arg4.view.set]{fullShare} f4) ∗ (arg13.view.loc (c : Thread nD τ) ↦[arg13.view.set]{fullShare} f13) ∗ (arg14.view.loc (c : Thread nD τ) ↦[arg14.view.set]{fullShare} f14))

/-- One entry of the walk. -/
theorem trip1 (h1 : k0_cond1 i = 1#1) (k : Fin k0_t1_loop.trips) (head hid : BitVec 32) (hhead : head.toNat < 64) (E : Set ℕ)
    (f2 : BufTy.Contents (Elt F) arg2.view.ty) (f4 : BufTy.Contents (Elt F) arg4.view.ty) (f13 : BufTy.Contents (Elt F) arg13.view.ty) (f14 : BufTy.Contents (Elt F) arg14.view.ty) :
    Trip1 (F := F) c arg2 arg4 arg13 arg14 f2 f4 f13 f14
    ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 arg12 harg12 arg13 harg13 arg14 harg14 h1 k (head, hid))
      (fun r => iprop(∃ g13 g14, Trip1 (F := F) c arg2 arg4 arg13 arg14 f2 f4 g13 g14
        ∗ ⌜stOf r.1 r.2 (arg13.view.read (Elt F) g13) (arg14.view.read (Elt F) g14)
            = Fold.step (segOf (arg2.view.read (Elt F) f2)) (rowOf (arg4.view.read (Elt F) f4)) addRow k.val
              (stOf head hid (arg13.view.read (Elt F) f13) (arg14.view.read (Elt F) f14))⌝)) := by
  have hk : k.val < 64 := Nat.lt_of_lt_of_le k.isLt k0_t1_abs.2.1
  unfold k0_t1_body
  simp only [k0_part1_eq_skeleton]
  iintro ⟨H2, H4, H13, H14⟩
  have hw : arg2.view.readAt (Elt F) (Rect.unit (s := S512) (k0_off1 k) S1.size (k0_off1_inb i k h1)).toLoadRect f2 (Shape.Idx.first (numel1_S1.symm ▸ Nat.one_pos))
      = segOf (arg2.view.read (Elt F) f2) k.val := seg_read i h1 k _ _
  have hp : arg4.view.readAt (Elt F) (Rect.unit (s := S64x128) (k0_off2 k) S1x128.size (k0_off2_inb i k h1)).toLoadRect f4
      = rowOf (arg4.view.read (Elt F) f4) k.val := row_read _ _ hk (k0_off2_eq k) _
  have hchk : k0_chk1 i k head hid (arg2.view.readAt (Elt F) (Rect.unit (s := S512) (k0_off1 k) S1.size (k0_off1_inb i k h1)).toLoadRect f2 (Shape.Idx.first (numel1_S1.symm ▸ Nat.one_pos))) :=
    fun _ _ => off4_inb hhead
  sl_exec
  sl_step
  iexists _, _
  isplitl [H2 H4 H13 H14]
  · isplitl [H2]; · iexact H2
    isplitl [H4]; · iexact H4
    isplitl [H13]; · iexact H13
    iexact H14
  ipureintro
  sl_unfold_run_names
  simp only [hw, hp, Words.cmpi_sge, Words.cmpi_ne, Words.cmpi_eq, Words.ori_bit, Words.andi_bit, Words.xori_bit, Words.ne_extui, Words.select_bit,
    Words.bit_eq_one, Words.extui_bit, Words.iv_eq_32 hk, Words.iv_eq_0 hk, cond3_iff hk]
  rw [stOf, mid_after arg14 f14 hk (k0_off5_eq k), prior_after, prior_read arg14 f14 hk (k0_off5_eq k)]
  rw [Fold.step]
  congr 1
  · rw [Words.iv_eq hk]; by_cases hv : Fold.Valid (segOf (arg2.view.read (Elt F) f2) k.val) <;> by_cases hf : Fold.Fresh k.val (segOf (arg2.view.read (Elt F) f2) k.val) hid
    · rw [if_neg (fun h => h.elim (fun h => h hv) (fun h => h hf)), if_pos ⟨hv, hf⟩]
    · rw [if_pos (.inr hf), if_neg (fun h => hf h.2)]
    · rw [if_pos (.inl hv), if_neg (fun h => hv (And.left h))]
    · rw [if_pos (.inl hv), if_neg (fun h => hv (And.left h))]
  · by_cases hv : Fold.Valid (segOf (arg2.view.read (Elt F) f2) k.val)
    · by_cases hf : Fold.Fresh k.val (segOf (arg2.view.read (Elt F) f2) k.val) hid
      · rw [dif_neg (fun h => h.2 hf), dif_pos ⟨hv, hf⟩, if_pos hv, if_pos hf, rowOf_writes _ _ hk (k0_off3_eq k)]
        exact congrArg _ (shapeCast_self _ _)
      · rw [dif_pos ⟨hv, hf⟩, dif_neg (fun h => hf h.2), if_pos hv, if_neg hf, rowOf_writes _ _ hhead (show k0_off4 head = ![head.toNat, 0] from rfl),
          row_read _ _ hhead (show k0_off4 head = ![head.toNat, 0] from rfl)]
        exact congrArg _ (shapeCast_self _ _)
    · rw [dif_neg (fun h => hv (And.left h)), dif_neg (fun h => hv (And.left h)), if_neg hv]

end Trip

end Cert.KernelIdeal.Hand

end
-- ==== Proof.KernelIdeal.Loops.lean ====
/- The two counted loops of the kernel, gone through by invariants: the boundary walk, and the placing of the merged
   rows into the block. -/
module

public import proofs.«01_k».proof.Proof.KernelIdeal.Walk
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Row `j` of a block of 1024 rows. -/
def blkOf (x : Vec F S1024x128 .f32) (j : ℕ) : Row F :=
  if h : j < 1024 then fun y => x (fun | (0 : Fin 2) => (⟨j, h⟩ : Fin 1024) | (1 : Fin 2) => y (1 : Fin 2)) else row0

/-- The first row number of the block at a grid point. -/
def baseOf (i : grid0.Coords) : BitVec 32 := BitVec.ofNat 32 (i 0).val * 1024#32

theorem word_range (w : BitVec 32) : ((0#32).sle w = true ∧ w.slt 1024#32 = true) ↔ w.toNat < 1024 := by
  have hw : w.toNat < 2 ^ 32 := w.isLt
  rw [BitVec.sle_iff_toInt_le, BitVec.slt_iff_toInt_lt]
  have h0 : (0#32).toInt = 0 := by decide
  have h1 : (1024#32).toInt = 1024 := by decide
  rw [h0, h1, BitVec.toInt_eq_toNat_cond]
  split <;> omega

theorem cond5_iff (i : grid0.Coords) (w : BitVec 32) : k0_cond5 i w = 1#1 ↔ (w - baseOf i).toNat < 1024 := by
  rw [← word_range]
  show Scalar.cmpi .ne (Scalar.extui (Scalar.andi (Scalar.cmpi .sge (w - baseOf i) 0#32) (Scalar.cmpi .slt (w - baseOf i) 1024#32))) 0#32 = 1#1 ↔ _
  rw [Words.ne_extui, Words.cmpi_sge, Words.cmpi_slt, Words.andi_bit, Words.bit_eq_one]

theorem off9_eq (i : grid0.Coords) (w : BitVec 32) : k0_off9 i w = ![(w - baseOf i).toNat, 0] := rfl

theorem off9_inb {i : grid0.Coords} {w : BitVec 32} (h : (w - baseOf i).toNat < 1024) : ∀ a, (k0_off9 i w) a + S1x128.size a ≤ S1024x128.size a
  | (0 : Fin 2) => by show (w - baseOf i).toNat + 1 ≤ 1024; omega
  | (1 : Fin 2) => by show 0 + 128 ≤ 128; omega

/-- A row stored in the block is that row replaced. -/
theorem blkOf_writes (m : Memref sig .tc .vmem S1024x128 .f32) (f : BufTy.Contents (Elt F) m.view.ty) {e : ℕ} (he : e < 1024)
    {off : Fin 2 → ℕ} (hoff : off = ![e, 0]) (inb : ∀ a, off a + S1x128.size a ≤ S1024x128.size a) (w : Row F) :
    blkOf (m.view.read (Elt F) (m.view.writes (Elt F) f [⟨Rect.unit (s := S1024x128) off S1x128.size inb, w⟩]))
      = Function.update (blkOf (m.view.read (Elt F) f)) e w := by
  rw [View.read_writes_cons_put m.view f inb w [] hoff, View.writes_nil]
  funext j y
  by_cases hje : j = e
  · subst hje
    rw [Function.update_self, blkOf, dif_pos he]
    unfold VecWindow.put
    rw [dif_pos (fun | (0 : Fin 2) => ⟨Nat.le_refl _, Nat.lt_succ_self _⟩ | (1 : Fin 2) => ⟨Nat.zero_le _, by show (y (1 : Fin 2)).val < 0 + 128; have : (y (1 : Fin 2)).val < 128 := (y (1 : Fin 2)).isLt; omega⟩)]
    refine congrArg w (funext fun | (0 : Fin 2) => Fin.ext ?_ | (1 : Fin 2) => Fin.ext ?_)
    · have : (y (0 : Fin 2)).val < 1 := (y (0 : Fin 2)).isLt
      rw [Rect.unitLocal_val]; show j - j = _; omega
    · rw [Rect.unitLocal_val]; show _ - 0 = _; rfl
  · rw [Function.update_of_ne hje, blkOf, blkOf]
    by_cases hj : j < 1024
    · rw [dif_pos hj, dif_pos hj]
      unfold VecWindow.put
      rw [dif_neg]
      intro h
      have := h (0 : Fin 2)
      have h1 : e ≤ j := this.1
      have h2 : j < e + 1 := this.2
      omega
    · rw [dif_neg hj, dif_neg hj]

theorem mid_read (m : Memref sig .tc .smem S65 .i32) (f : BufTy.Contents (Elt F) m.view.ty) {k : ℕ} (hk : k < 64)
    {off : Fin 1 → ℕ} (hoff : off = ![k]) (inb : ∀ a, off a + S1.size a ≤ S65.size a) :
    m.view.readAt (Elt F) (Rect.unit (s := S65) off S1.size inb).toLoadRect f (Shape.Idx.first (numel1_S1.symm ▸ Nat.one_pos))
      = midOf (m.view.read (Elt F) f) k := by
  subst hoff
  rw [View.readAt_apply, midOf, dif_pos hk]
  exact congrArg _ (funext fun | (0 : Fin 1) => Fin.ext rfl)

section Loop

variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)

/-- What one trip of the placing loop touches. -/
abbrev Trip2 (f13 : BufTy.Contents (Elt F) arg13.view.ty) (f14 : BufTy.Contents (Elt F) arg14.view.ty) (f12 : BufTy.Contents (Elt F) arg12.view.ty) : sProp 𝕄 :=
  iprop((arg13.view.loc (c : Thread nD τ) ↦[arg13.view.set]{fullShare} f13) ∗ (arg14.view.loc (c : Thread nD τ) ↦[arg14.view.set]{fullShare} f14) ∗ (arg12.view.loc (c : Thread nD τ) ↦[arg12.view.set]{fullShare} f12))

/-- One entry of the placing loop. -/
theorem trip2 (k : Fin k0_t2_loop.trips) (E : Set ℕ)
    (f13 : BufTy.Contents (Elt F) arg13.view.ty) (f14 : BufTy.Contents (Elt F) arg14.view.ty) (f12 : BufTy.Contents (Elt F) arg12.view.ty) :
    Trip2 (F := F) c arg12 arg13 arg14 f13 f14 f12
    ⊢ wp frame (wpE (defs₀ (F := F)) Variants.none (c : Thread nD τ) none) E (k0_t2_body i arg1 harg1 arg2 harg2 arg3 harg3 arg4 harg4 arg5 harg5 arg6 harg6 arg7 harg7 arg8 harg8 arg9 harg9 arg10 harg10 arg11 harg11 arg12 harg12 arg13 harg13 arg14 harg14 k ())
      (fun _ => iprop(∃ g12, Trip2 (F := F) c arg12 arg13 arg14 f13 f14 g12
        ∗ ⌜blkOf (arg12.view.read (Elt F) g12)
            = if (midOf (arg14.view.read (Elt F) f14) k.val - baseOf i).toNat < 1024
              then Function.update (blkOf (arg12.view.read (Elt F) f12)) (midOf (arg14.view.read (Elt F) f14) k.val - baseOf i).toNat (rowOf (arg13.view.read (Elt F) f13) k.val)
              else blkOf (arg12.view.read (Elt F) f12)⌝)) := by
  have hk : k.val < 64 := Nat.lt_of_lt_of_le k.isLt k0_t2_abs.2.1
  unfold k0_t2_body
  iintro ⟨H13, H14, H12⟩
  have hw : arg14.view.readAt (Elt F) (Rect.unit (s := S65) (k0_off7 k) S1.size (k0_off7_inb k)).toLoadRect f14 (Shape.Idx.first (numel1_S1.symm ▸ Nat.one_pos))
      = midOf (arg14.view.read (Elt F) f14) k.val := mid_read _ _ hk (k0_off7_eq k) _
  have hp : arg13.view.readAt (Elt F) (Rect.unit (s := S64x128) (k0_off8 k) S1x128.size (k0_off8_inb k)).toLoadRect f13
      = rowOf (arg13.view.read (Elt F) f13) k.val := row_read _ _ hk (k0_off8_eq k) _
  have hchk : k0_chk3 i (arg14.view.readAt (Elt F) (Rect.unit (s := S65) (k0_off7 k) S1.size (k0_off7_inb k)).toLoadRect f14 (Shape.Idx.first (numel1_S1.symm ▸ Nat.one_pos))) :=
    fun h => off9_inb ((cond5_iff i _).mp h)
  sl_exec
  sl_step
  iexists _
  isplitl [H13 H14 H12]
  · isplitl [H13]; · iexact H13
    isplitl [H14]; · iexact H14
    iexact H12
  ipureintro
  sl_unfold_run_names
  simp only [hw, hp, cond5_iff]
  by_cases h : (midOf (arg14.view.read (Elt F) f14) k.val - baseOf i).toNat < 1024
  · rw [dif_pos h, if_pos h, blkOf_writes _ _ h ((off9_eq i _).trans (congrArg (fun w => ![(w - baseOf i).toNat, 0]) hw))]
    exact congrArg _ (shapeCast_self _ _)
  · rw [dif_neg h, if_neg h]

/-- The boundary walk, by its invariant: before entry `k` the scratch and the carried words hold the walk's state. -/
@[sl_loop, reducible] def loopInv_k0_t1 (h1 : k0_cond1 i = 1#1) (init : BitVec 32 × BitVec 32)
    (G2 : BufTy.Contents (Elt F) arg2.view.ty) (G4 : BufTy.Contents (Elt F) arg4.view.ty) (G13 : BufTy.Contents (Elt F) arg13.view.ty) (G14 : BufTy.Contents (Elt F) arg14.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 h1 init where
  inv k acc := iprop(∃ g13 g14, Trip1 (F := F) c arg2 arg4 arg13 arg14 G2 G4 g13 g14
    ∗ ⌜stOf acc.1 acc.2 (arg13.view.read (Elt F) g13) (arg14.view.read (Elt F) g14)
        = walk (arg2.view.read (Elt F) G2) (arg4.view.read (Elt F) G4) (arg13.view.read (Elt F) G13) (arg14.view.read (Elt F) G14) k⌝)
  step k acc := by
    have hk : k.val < 64 := Nat.lt_of_lt_of_le k.isLt k0_t1_abs.2.1
    iintro ⟨%g13, %g14, H, %h⟩
    have hg := Fold.good_run (segOf (F := F) (arg2.view.read (Elt F) G2)) (rowOf (arg4.view.read (Elt F) G4)) addRow (midOf (F := F) (arg14.view.read (Elt F) G14))
      (priorOf (F := F) (arg14.view.read (Elt F) G14)) (rowOf (arg13.view.read (Elt F) G13)) k.val (by omega)
    have hhead : acc.1.toNat < 64 := (congrArg (fun s => s.head.toNat) h).trans_lt hg.head_lt
    have key := (trip1 c i arg1 harg1 arg2 harg2 arg3 harg3 arg4 harg4 arg5 harg5 arg6 harg6 arg7 harg7 arg8 harg8 arg9 harg9 arg10 harg10 arg11 harg11 arg12 harg12 arg13 harg13 arg14 harg14 h1 k acc.1 acc.2 hhead Set.univ G2 G4 g13 g14).trans (wp_mono frame (wpE (defs₀ (F := F)) Variants.none (c : Thread nD τ) none) Set.univ
      (Q' := fun acc => iprop(∃ g13 g14, Trip1 (F := F) c arg2 arg4 arg13 arg14 G2 G4 g13 g14
        ∗ ⌜stOf acc.1 acc.2 (arg13.view.read (Elt F) g13) (arg14.view.read (Elt F) g14)
          = walk (arg2.view.read (Elt F) G2) (arg4.view.read (Elt F) G4) (arg13.view.read (Elt F) G13) (arg14.view.read (Elt F) G14) (k.val + 1)⌝)) (fun r => by
        iintro ⟨%f13, %f14, H, %h'⟩
        iexists f13, f14
        isplitl [H]; · iexact H
        ipureintro
        rw [h', h]; rfl))
    iapply key $$ H

/-- The placing loop, by its invariant: before entry `k` the block holds what the entries so far placed in it. -/
@[sl_loop, reducible] def loopInv_k0_t2 (G13 : BufTy.Contents (Elt F) arg13.view.ty) (G14 : BufTy.Contents (Elt F) arg14.view.ty) (G12 : BufTy.Contents (Elt F) arg12.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop(∃ g12, Trip2 (F := F) c arg12 arg13 arg14 G13 G14 g12
    ∗ ⌜blkOf (arg12.view.read (Elt F) g12)
        = Fold.place (baseOf i) (midOf (F := F) (arg14.view.read (Elt F) G14)) (rowOf (arg13.view.read (Elt F) G13)) (blkOf (arg12.view.read (Elt F) G12)) k⌝)
  step k acc := by
    have hk : k.val < 64 := Nat.lt_of_lt_of_le k.isLt k0_t2_abs.2.1
    iintro ⟨%g12, H, %h⟩
    have key := (trip2 c i arg1 harg1 arg2 harg2 arg3 harg3 arg4 harg4 arg5 harg5 arg6 harg6 arg7 harg7 arg8 harg8 arg9 harg9 arg10 harg10 arg11 harg11 arg12 harg12 arg13 harg13 arg14 harg14 k Set.univ G13 G14 g12).trans (wp_mono frame (wpE (defs₀ (F := F)) Variants.none (c : Thread nD τ) none) Set.univ
      (Q' := fun _ => iprop(∃ g12, Trip2 (F := F) c arg12 arg13 arg14 G13 G14 g12
        ∗ ⌜blkOf (arg12.view.read (Elt F) g12)
          = Fold.place (baseOf i) (midOf (F := F) (arg14.view.read (Elt F) G14)) (rowOf (arg13.view.read (Elt F) G13)) (blkOf (arg12.view.read (Elt F) G12)) (k.val + 1)⌝)) (fun r => by
        iintro ⟨%f12, H, %h'⟩
        iexists f12
        isplitl [H]; · iexact H
        ipureintro
        rw [h', h]; rfl))
    iapply key $$ H

end Loop

end Cert.KernelIdeal.Hand

end
-- ==== Proof.KernelIdeal.Front.lean ====
/- The first part of the kernel's body: the boundary walk at the first grid point, and at every point the block of sums
   with the merged rows placed in it. -/
module

public import proofs.«01_k».proof.Proof.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The scratch holds the walk's result. -/
def Held (x1 : Vec F S512 .i32) (x3 : Vec F S64x128 .f32) (y13 : Vec F S64x128 .f32) (y14 : Vec F S65 .i32) : Prop :=
  Fold.Holds (segOf (F := F) x1) (rowOf x3) addRow (fun _ => row0) (midOf (F := F) y14) (rowOf y13)

/-- The block of sums at a grid point, after the merged rows are placed in it. -/
def placed (i : grid0.Coords) (x1 : Vec F S512 .i32) (x3 : Vec F S64x128 .f32) (x2 : Vec F S1024x128 .f32) : Vec F S1024x128 .f32 :=
  fun y => Fold.place (baseOf i) (Fold.mids (segOf (F := F) x1) (rowOf x3) addRow fun _ => row0) (Fold.rows (segOf (F := F) x1) (rowOf x3) addRow fun _ => row0)
    (blkOf x2) 64 (y (0 : Fin 2)).val (fun | (0 : Fin 2) => (⟨0, by decide⟩ : Fin 1) | (1 : Fin 2) => y (1 : Fin 2))

theorem trips1 : Scf.trips k0_t1_loop.lb k0_t1_loop.ub k0_t1_loop.st = 64 := by decide +kernel
theorem trips2 : Scf.trips k0_t2_loop.lb k0_t2_loop.ub k0_t2_loop.st = 64 := by decide +kernel

theorem cond4_iff (w : BitVec 32) : k0_cond4 w = 1#1 ↔ Fold.Valid w := by
  unfold k0_cond4
  simp only [Words.cmpi_sge, Words.ne_extui, Words.extui_bit, Words.bit_eq_one]

theorem base_le (i : grid0.Coords) : (baseOf i).toNat ≤ 15360 := by
  have : (i 0).val < 16 := (i 0).isLt
  unfold baseOf
  rw [BitVec.toNat_mul, BitVec.toNat_ofNat]
  show (i 0).val % 2 ^ 32 * 1024 % 2 ^ 32 ≤ _
  omega

theorem last_read (m : Memref sig .tc .smem S65 .i32) (f : BufTy.Contents (Elt F) m.view.ty) :
    m.view.readAt (Elt F) (Rect.unit (s := S65) ![64] S1.size inb_S65_S1_64).toLoadRect f (Shape.Idx.first (numel1_S1.symm ▸ Nat.one_pos))
      = priorOf (m.view.read (Elt F) f) := by
  rw [View.readAt_apply, priorOf]
  exact congrArg _ (funext fun | (0 : Fin 1) => Fin.ext rfl)

/-- A block of 1024 rows is what its rows are. -/
theorem eq_of_blkOf {x z : Vec F S1024x128 .f32} (h : blkOf x = blkOf z) : x = z := by
  funext y
  have h0 : (y (0 : Fin 2)).val < 1024 := (y (0 : Fin 2)).isLt
  have e := congrFun (congrFun h (y (0 : Fin 2)).val) (fun | (0 : Fin 2) => (⟨0, by decide⟩ : Fin 1) | (1 : Fin 2) => y (1 : Fin 2))
  rw [blkOf, blkOf, dif_pos h0, dif_pos h0] at e
  have hy : y = (fun | (0 : Fin 2) => (⟨(y (0 : Fin 2)).val, h0⟩ : Fin 1024) | (1 : Fin 2) => y (1 : Fin 2)) := funext fun | (0 : Fin 2) => rfl | (1 : Fin 2) => rfl
  rw [hy]; exact e

theorem placed_row (i : grid0.Coords) (x1 : Vec F S512 .i32) (x3 : Vec F S64x128 .f32) (x2 : Vec F S1024x128 .f32) {j : ℕ} (hj : j < 1024) :
    blkOf (placed i x1 x3 x2) j = Fold.place (baseOf i) (Fold.mids (segOf (F := F) x1) (rowOf x3) addRow fun _ => row0) (Fold.rows (segOf (F := F) x1) (rowOf x3) addRow fun _ => row0)
    (blkOf x2) 64 j := by
  rw [blkOf, dif_pos hj]
  funext y
  unfold placed
  refine congrArg (Fold.place (R := Row F) _ _ _ _ _ j) (funext fun | (0 : Fin 2) => Fin.ext ?_ | (1 : Fin 2) => rfl)
  show 0 = (y (0 : Fin 2)).val
  have : (y (0 : Fin 2)).val < 1 := (y (0 : Fin 2)).isLt
  omega

/-- The block after the placing loop is `placed`, the scratch holding the walk's result. -/
theorem placed_eq (i : grid0.Coords) (x1 : Vec F S512 .i32) (x3 : Vec F S64x128 .f32) (x2 : Vec F S1024x128 .f32) {y13 : Vec F S64x128 .f32} {y14 : Vec F S65 .i32}
    (h : Held (F := F) x1 x3 y13 y14) {z : Vec F S1024x128 .f32}
    (hz : blkOf z = Fold.place (baseOf i) (midOf (F := F) y14) (rowOf y13) (blkOf x2) 64) : z = placed i x1 x3 x2 := by
  refine eq_of_blkOf (funext fun j => ?_)
  by_cases hj : j < 1024
  · rw [hz, placed_row i x1 x3 x2 hj, Fold.place_congr _ _ _ (base_le i) h _ 64 (Nat.le_refl _)]
  · rw [blkOf, blkOf, dif_neg hj, dif_neg hj]

/-- The block as the kernel first fills it. -/
theorem block_init (m3 m12 : Memref sig .tc .vmem S1024x128 .f32) (f : BufTy.Contents (Elt F) m12.view.ty) (f3 : BufTy.Contents (Elt F) m3.view.ty) :
    m12.view.read (Elt F) (m12.view.writes (Elt F) f [⟨Rect.unit (s := S1024x128) ![0, 0] S1024x128.size inb_S1024x128_S1024x128_0_0,
        k0_pay9 (m3.view.readAt (Elt F) (Rect.unit (s := S1024x128) ![0, 0] S1024x128.size inb_S1024x128_S1024x128_0_0).toLoadRect f3)⟩])
      = m3.view.read (Elt F) f3 := by
  rw [View.readAt_full]
  refine (View.read_writes_full (s := S1024x128) m12.view f inb_S1024x128_S1024x128_0_0 _ []).trans ?_
  exact shapeCast_self _ _

/-- The rows of the scratch at the end of the walk. -/
theorem finish_rows (m : Memref sig .tc .vmem S64x128 .f32) (g : BufTy.Contents (Elt F) m.view.ty) {s : Fold.St (Row F)}
    (hrow : rowOf (m.view.read (Elt F) g) = s.row) (w : BitVec 32) (hw : w = s.prior) (hlt : Fold.Valid s.prior → s.prior.toNat < 64)
    (inb : Fold.Valid w → ∀ a, (k0_off6 w) a + S1x128.size a ≤ S64x128.size a) :
    rowOf (m.view.read (Elt F) (if hc : Fold.Valid w then
        m.view.writes (Elt F) g [⟨Rect.unit (s := S64x128) ![32, 0] S1x128.size inb_S64x128_S1x128_32_0,
          k0_pay8 (m.view.readAt (Elt F) (Rect.unit (s := S64x128) (k0_off6 w) S1x128.size (inb hc)).toLoadRect g)
            (m.view.readAt (Elt F) (Rect.unit (s := S64x128) ![32, 0] S1x128.size inb_S64x128_S1x128_32_0).toLoadRect g)⟩]
      else g)) = Fold.finish addRow s := by
  subst hw
  unfold Fold.finish
  by_cases h : Fold.Valid s.prior
  · rw [dif_pos h, if_pos h, rowOf_writes _ _ (by decide) rfl, row_read _ _ (hlt h) (show k0_off6 s.prior = ![s.prior.toNat, 0] from rfl),
      row_read _ _ (show 32 < 64 by decide) rfl, hrow]
    exact congrArg _ (shapeCast_self _ _)
  · rw [dif_neg h, if_neg h, hrow]

section Part

variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)

/-- What the first part touches. -/
abbrev FrontPts (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

theorem part2_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty)
    (hH : ¬ k0_cond1 i = 1#1 → Held (F := F) (arg2.view.read (Elt F) f2) (arg4.view.read (Elt F) f4) (arg13.view.read (Elt F) f13) (arg14.view.read (Elt F) f14)) :
    FrontPts (F := F) c arg1 arg2 arg3 arg4 arg5 arg6 arg7 arg12 arg13 arg14 f1 f2 f3 f4 f5 f6 f7 f12 f13 f14
    ⊢ wp frame (wpE (defs₀ (F := F)) Variants.none (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14)
      (fun r => iprop(∃ g12 g13 g14, FrontPts (F := F) c arg1 arg2 arg3 arg4 arg5 arg6 arg7 arg12 arg13 arg14 f1 f2 f3 f4 f5 f6 f7 g12 g13 g14
        ∗ ⌜r = ⟨Scalar.muli (arg1.view.readAt (Elt F) (Rect.unit (s := S1) ![0] S1.size inb_S1_S1_0).toLoadRect f1 (Shape.Idx.first (numel1_S1.symm ▸ Nat.one_pos))) 2246822519#32,
            k0_pay11, k0_pay12, k0_pay13 (F := F) (arg7.view.readAt (Elt F) (Rect.unit (s := S8x128) ![0, 0] S8x128.size inb_S8x128_S8x128_0_0).toLoadRect f7),
            k0_pay14 (arg6.view.readAt (Elt F) (Rect.unit (s := S8x128) ![0, 0] S8x128.size inb_S8x128_S8x128_0_0).toLoadRect f6),
            k0_pay15 (F := F) (arg7.view.readAt (Elt F) (Rect.unit (s := S8x128) ![0, 0] S8x128.size inb_S8x128_S8x128_0_0).toLoadRect f7),
            k0_pay16 (arg6.view.readAt (Elt F) (Rect.unit (s := S8x128) ![0, 0] S8x128.size inb_S8x128_S8x128_0_0).toLoadRect f6),
            k0_pay17 (F := F) (arg7.view.readAt (Elt F) (Rect.unit (s := S8x128) ![0, 0] S8x128.size inb_S8x128_S8x128_0_0).toLoadRect f7)
              (arg5.view.readAt (Elt F) (Rect.unit (s := S1024x128) ![0, 0] S128x128.size inb_S1024x128_S128x128_0_0).toLoadRect f5)⟩
          ∧ Held (F := F) (arg2.view.read (Elt F) f2) (arg4.view.read (Elt F) f4) (arg13.view.read (Elt F) g13) (arg14.view.read (Elt F) g14)
          ∧ arg12.view.read (Elt F) g12 = placed i (arg2.view.read (Elt F) f2) (arg4.view.read (Elt F) f4) (arg3.view.read (Elt F) f3)⌝)) := by
  simp only [k0_part2_eq_skeleton]; unfold k0_part2_skel
  iintro ⟨H1, H2, H3, H4, H5, H6, H7, H12, H13, H14⟩
  by_cases h1 : k0_cond1 i = 1#1
  · sl_exec
    rename_i acc
    rw [trips1] at hL4
    have hgood := Fold.good_run (segOf (F := F) (arg2.view.read (Elt F) f2)) (rowOf (arg4.view.read (Elt F) f4)) addRow (midOf (F := F) (arg14.view.read (Elt F) f14))
      (priorOf (F := F) (arg14.view.read (Elt F) f14)) (rowOf (arg13.view.read (Elt F) f13)) 64 (Nat.le_refl _)
    have hprior := congrArg (fun s => s.prior) hL4
    have hchk : k0_chk2 i (arg14.view.readAt (Elt F) (Rect.unit (s := S65) ![64] S1.size inb_S65_S1_64).toLoadRect g14L1 (Shape.Idx.first (numel1_S1.symm ▸ Nat.one_pos))) := by
      intro _ h4
      rw [last_read] at h4 ⊢
      rw [cond4_iff] at h4
      refine off4_inb ?_
      rw [show priorOf (F := F) (arg14.view.read (Elt F) g14L1) = _ from hprior] at h4 ⊢
      exact hgood.prior_lt (by decide) h4
    sl_exec
    sl_step
    have hfin := finish_rows arg13 g13L0 (congrArg (fun s => s.row) hL4) _ ((last_read arg14 g14L1).trans hprior) (hgood.prior_lt (by decide))
      (fun hv => hchk h1 ((cond4_iff _).mpr hv))
    have hheld : Held (F := F) (arg2.view.read (Elt F) f2) (arg4.view.read (Elt F) f4) (arg13.view.read (Elt F) (if hc : Fold.Valid (arg14.view.readAt (Elt F) (Rect.unit (s := S65) ![64] S1.size inb_S65_S1_64).toLoadRect g14L1 (Shape.Idx.first (numel1_S1.symm ▸ Nat.one_pos))) then
        arg13.view.writes (Elt F) g13L0 [⟨Rect.unit (s := S64x128) ![32, 0] S1x128.size inb_S64x128_S1x128_32_0,
          k0_pay8 (arg13.view.readAt (Elt F) (Rect.unit (s := S64x128) (k0_off6 _) S1x128.size (hchk h1 ((cond4_iff _).mpr hc))).toLoadRect g13L0)
            (arg13.view.readAt (Elt F) (Rect.unit (s := S64x128) ![32, 0] S1x128.size inb_S64x128_S1x128_32_0).toLoadRect g13L0)⟩]
      else g13L0)) (arg14.view.read (Elt F) g14L1) := by
      unfold Held
      rw [hfin, show midOf (F := F) (arg14.view.read (Elt F) g14L1) = _ from congrArg (fun s => s.mid) hL4]
      exact Fold.holds_run _ _ _ _ _ _ _
    iexists _, _, _
    isplitl [H1 H2 H3 H4 H5 H6 H7 H12 H13 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H12]; · iexact H12
      isplitl [H13]; · iexact H13
      iexact H14
    ipureintro
    sl_unfold_run_names
    simp only [cond4_iff] at hL3 ⊢
    refine ⟨trivial, hheld, placed_eq i _ _ _ hheld ?_⟩
    rw [hL3, trips2]
    exact congrArg (fun z => Fold.place _ _ _ (blkOf z) 64) (block_init arg3 arg12 _ f3)
  · sl_exec
    sl_step
    iexists _, _, _
    isplitl [H1 H2 H3 H4 H5 H6 H7 H12 H13 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H12]; · iexact H12
      isplitl [H13]; · iexact H13
      iexact H14
    ipureintro
    refine ⟨rfl, hH h1, placed_eq i _ _ _ (hH h1) ?_⟩
    rw [hL3, trips2]
    exact congrArg (fun z => Fold.place _ _ _ (blkOf z) 64) (block_init arg3 arg12 _ f3)

end Part

end Cert.KernelIdeal.Hand

end
-- ==== Proof.KernelIdeal.Tail.lean ====
/- The whole body at one grid point: the first part, then the eight row blocks. -/
module

public import proofs.«01_k».proof.Proof.KernelIdeal.Front

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the walk left, in the two scratch buffers. -/
def HeldAt (c : Dev nD) (arg13 : Memref sig .tc .vmem S64x128 .f32) (arg14 : Memref sig .tc .smem S65 .i32) (x1 : Vec F S512 .i32) (x3 : Vec F S64x128 .f32) : sProp 𝕄 :=
  iprop(∃ y13 y14, owns (c : Thread nD τ) arg13 fullShare y13 ∗ owns (c : Thread nD τ) arg14 fullShare y14 ∗ ⌜Held (F := F) x1 x3 y13 y14⌝)

/-- A run followed by the rest. -/
theorem wp_then {c : Dev nD} {α : Type} {p : Prog (TpuEff nD τ sig (Elt F) Λ₀ .tc) α} {P : sProp 𝕄} {Q : α → sProp 𝕄}
    (h : P ⊢ wp frame (wpE (defs₀ (F := F)) Variants.none (c : Thread nD τ) none) Set.univ p Q) (Q' : α → sProp 𝕄) :
    iprop(P ∗ (∀ a, Q a -∗ Q' a)) ⊢ wp frame (wpE (defs₀ (F := F)) Variants.none (c : Thread nD τ) none) Set.univ p Q' :=
  (BI.sep_mono_l h).trans (wp_wand_r frame (wpE (defs₀ (F := F)) Variants.none (c : Thread nD τ) none) Set.univ)

set_option maxHeartbeats 4000000 in
/-- The pieces the body stores in its four outputs (last first), with the proof that the body, run on whole buffers, the
    inputs at `x0` to `x6` and the two scratch buffers of the walk at its result unless this is the first grid point,
    leaves these pieces written and the walk's result in the two scratch buffers. -/
noncomputable def bodyRun (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole)
    (x0 : Vec F S1 .i32) (x1 : Vec F S512 .i32) (x2 : Vec F S1024x128 .f32) (x3 : Vec F S64x128 .f32) (x4 : Vec F S1024x128 .i32) (x5 : Vec F S8x128 .f32) (x6 : Vec F S8x128 .i32) :
    Σ' (L7 : List (View.Piece (Elt F) S1024x128 .f32)) (L8 : List (View.Piece (Elt F) S1024x128 .f32)) (L9 : List (View.Piece (Elt F) S1024x128 .i8)) (L10 : List (View.Piece (Elt F) S8x128 .f32)),
    PLift (∀ (y13 : Vec F S64x128 .f32) (y14 : Vec F S65 .i32) (hH : ¬ k0_cond1 i = 1#1 → Held (F := F) x1 x3 y13 y14) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ owns (c : Thread nD τ) arg13 fullShare y13 ∗ owns (c : Thread nD τ) arg14 fullShare y14
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)
            ∗ (∃ d, owns (c : Thread nD τ) arg12 fullShare d) ∗ HeldAt (F := F) c arg13 arg14 x1 x3) -∗ K ⟨⟩))
      ⊢ wp frame (wpE (defs₀ (F := F)) Variants.none (c : Thread nD τ) none) Set.univ (cc0_tc_update i arg1 harg1 arg2 harg2 arg3 harg3 arg4 harg4 arg5 harg5 arg6 harg6 arg7 harg7 arg8 harg8 arg9 harg9 arg10 harg10 arg11 harg11 arg12 harg12 arg13 harg13 arg14 harg14) K) := by
  refine ⟨?_, ?_, ?_, ?_, ⟨fun y13 y14 hH K => ?run⟩⟩
  case run =>
    simp only [cc0_tc_update_eq_skeleton]; unfold cc0_tc_update_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    rw [wp_bind]
    have hH' : ¬ k0_cond1 i = 1#1 → Held (F := F) (arg2.view.read (Elt F) (harg2.unread x1)) (arg4.view.read (Elt F) (harg4.unread x3)) (arg13.view.read (Elt F) f13) (arg14.view.read (Elt F) f14) := by
      rw [hf13, hf14, harg2.read_unread, harg4.read_unread]; exact hH
    have key := wp_then (part2_run c i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) f12 f13 f14 hH')
    rw [harg2.read_unread, harg3.read_unread, harg4.read_unread] at key
    iapply (key _)
    isplitl [H1 H2 H3 H4 H5 H6 H7 H12 H13 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H12]; · iexact H12
      isplitl [H13]; · iexact H13
      iexact H14
    iintro %r ⟨%g12, %g13, %g14, ⟨H1, H2, H3, H4, H5, H6, H7, H12, H13, H14⟩, %hr⟩
    obtain ⟨hr, hheld, h12⟩ := hr
    subst hr
    obtain rfl := harg12.eq_unread h12
    sl_exec
    sl_step
    iapply Hk
    isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]; · iexists _; iexact H8
    isplitl [H9]; · iexists _; iexact H9
    isplitl [H10]; · iexists _; iexact H10
    isplitl [H11]; · iexists _; iexact H11
    isplitl [H12]
    · iexists _; iexists _; isplitr
      swap; · iexact H12
      ipureintro; rfl
    unfold HeldAt owns
    iexists _, _
    isplitl [H13]
    · iexists _; isplitr
      swap; · iexact H13
      ipureintro; rfl
    isplitl [H14]
    · iexists _; isplitr
      swap; · iexact H14
      ipureintro; rfl
    ipureintro; exact hheld

end Cert.KernelIdeal.Hand

end
-- ==== Proof.KernelIdeal.Launch.lean ====
/- The launch: what the body leaves at each grid point, and the frame. -/
module

public import proofs.«01_k».proof.Proof.KernelIdeal.Tail
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The walk is run at the first grid point only. -/
theorem cond1_iff : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

/-- One staging buffer of output 7, through which its contents are stated. -/
abbrev VO7 : View sig .tc .vmem S1024x128 .f32 := (Memref.whole cc0_stg7_0 : Memref sig .tc .vmem S1024x128 .f32).view
/-- One staging buffer of output 8, through which its contents are stated. -/
abbrev VO8 : View sig .tc .vmem S1024x128 .f32 := (Memref.whole cc0_stg8_0 : Memref sig .tc .vmem S1024x128 .f32).view
/-- One staging buffer of output 9, through which its contents are stated. -/
abbrev VO9 : View sig .tc .vmem S1024x128 .i8 := (Memref.whole cc0_stg9_0 : Memref sig .tc .vmem S1024x128 .i8).view
/-- One staging buffer of output 10, through which its contents are stated. -/
abbrev VO10 : View sig .tc .vmem S8x128 .f32 := (Memref.whole cc0_stg10_0 : Memref sig .tc .vmem S8x128 .f32).view
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x128 .i8 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x128 .f32 := win0_10.stage (cfg0.slots t 10)
abbrev hs10 (t : Fin cfg0.N) : (ms10 t).IsWhole := hstage0_10 ((cfg0.slots t 10).cast nbuf0_10)
/-- The three scratch buffers. -/
abbrev scM0 : Memref sig .tc .vmem S1024x128 .f32 := Memref.whole cc0_scratch0
abbrev scM1 : Memref sig .tc .vmem S64x128 .f32 := Memref.whole cc0_scratch1
abbrev scM2 : Memref sig .tc .smem S65 .i32 := Memref.whole cc0_scratch2

/-- The scoped rest: the scratch buffers owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The pieces of output 7 cover its block. -/
theorem cover7 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 S128x128.size (by sl_kernel_rfl) y

/-- What the body leaves in output 7's buffer. -/
def out7 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S1024x128 .f32 :=
  VO7.read (Elt F) (VO7.writes (Elt F) VO7.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1)

/-- The pieces of output 8 cover its block. -/
theorem cover8 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 S128x128.size (by sl_kernel_rfl) y

/-- What the body leaves in output 8's buffer. -/
def out8 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S1024x128 .f32 :=
  VO8.read (Elt F) (VO8.writes (Elt F) VO8.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1)

/-- The pieces of output 9 cover its block. -/
theorem cover9 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S1024x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1 S128x128.size (by sl_kernel_rfl) y

/-- What the body leaves in output 9's buffer. -/
def out9 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S1024x128 .i8 :=
  VO9.read (Elt F) (VO9.writes (Elt F) VO9.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1)

/-- The pieces of output 10 cover its block. -/
theorem cover10 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) (y : S8x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1 S1x128.size (by sl_kernel_rfl) y

/-- What the body leaves in output 10's buffer. -/
def out10 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) : Vec F S8x128 .f32 :=
  VO10.read (Elt F) (VO10.writes (Elt F) VO10.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1)

/-- What output 7's buffer holds after the body at a point. -/
def outAt7 (c : Dev nD) (t : Fin cfg0.N) : Vec F S1024x128 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- What output 8's buffer holds after the body at a point. -/
def outAt8 (c : Dev nD) (t : Fin cfg0.N) : Vec F S1024x128 .f32 :=
  out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- What output 9's buffer holds after the body at a point. -/
def outAt9 (c : Dev nD) (t : Fin cfg0.N) : Vec F S1024x128 .i8 :=
  out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- What output 10's buffer holds after the body at a point. -/
def outAt10 (c : Dev nD) (t : Fin cfg0.N) : Vec F S8x128 .f32 :=
  out10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) (iblk m c 0 t) (iblk m c 1 t) (X0_2 m c t) (iblk m c 3 t) (iblk m c 4 t) (iblk m c 5 t) (iblk m c 6 t)

/-- The two windows the walk reads stay at one block: the whole array. -/
theorem iblk1_const (c : Dev nD) (t t' : Fin cfg0.N) : (iblk m c 1 t : Vec F S512 .i32) = iblk m c 1 t' := rfl
theorem iblk3_const (c : Dev nD) (t t' : Fin cfg0.N) : (iblk m c 3 t : Vec F S64x128 .f32) = iblk m c 3 t' := rfl

/-- The invariant: before the first point the scoped rest; after a point, the walk's result in its two scratch buffers. -/
def PhiS (c : Dev nD) : (n : ℕ) → n ≤ cfg0.N → sProp 𝕄
  | 0, _ => Pipeline.ΦA spec0 c
  | n + 1, hn => iprop(iprop((∃ d, owns (c : Thread nD τ) scM0 fullShare d) ∗ HeldAt (F := F) c scM1 scM2 (iblk m c 1 ⟨n, hn⟩) (iblk m c 3 ⟨n, hn⟩)) ∗ (∃ r, prngReg c r))

theorem PhiS_succ (c : Dev nD) (n : ℕ) (hn : n < cfg0.N) :
    PhiS m c (n + 1) hn = iprop(iprop((∃ d, owns (c : Thread nD τ) scM0 fullShare d) ∗ HeldAt (F := F) c scM1 scM2 (iblk m c 1 ⟨n, hn⟩) (iblk m c 3 ⟨n, hn⟩)) ∗ (∃ r, prngReg c r)) := rfl

/-- What the invariant gives the body at a point. -/
theorem PhiS_open (c : Dev nD) (t : Fin cfg0.N) (n : ℕ) (hn : n ≤ cfg0.N) (ht : n = t.val) :
    PhiS m c n hn ⊢ iprop((∃ d, owns (c : Thread nD τ) scM0 fullShare d)
      ∗ (∃ y13 y14, owns (c : Thread nD τ) scM1 fullShare y13 ∗ owns (c : Thread nD τ) scM2 fullShare y14
          ∗ ⌜¬ k0_cond1 (grid0.coords t) = 1#1 → Held (F := F) (iblk m c 1 t) (iblk m c 3 t) y13 y14⌝)
      ∗ (∃ r, prngReg c r)) := by
  cases n with
  | zero =>
    rw [show PhiS m c 0 hn = Pipeline.ΦA spec0 c from rfl, PhiA_eq]
    iintro ⟨⟨H0, ⟨%d1, H1⟩, ⟨%d2, H2⟩⟩, Hg⟩
    isplitl [H0]; · iexact H0
    isplitl [H1 H2]
    · iexists d1, d2
      isplitl [H1]; · iexact H1
      isplitl [H2]; · iexact H2
      ipureintro
      exact fun h => absurd ((cond1_iff t).mpr (by rw [← ht])) h
    iexact Hg
  | succ n =>
    rw [PhiS_succ]; unfold HeldAt
    iintro ⟨⟨H0, ⟨%d1, %d2, H1, H2, %h⟩⟩, Hg⟩
    isplitl [H0]; · iexact H0
    isplitl [H1 H2]
    · iexists d1, d2
      isplitl [H1]; · iexact H1
      isplitl [H2]; · iexact H2
      ipureintro
      intro _
      rw [iblk1_const m c t ⟨n, hn⟩, iblk3_const m c t ⟨n, hn⟩]
      exact h
    iexact Hg

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => outAt7 m c t
    | ⟨8, _⟩ => outAt8 m c t
    | ⟨9, _⟩ => outAt9 m c t
    | ⟨10, _⟩ => outAt10 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt7 m c t := by dsimp only [dats]
theorem after_8 (c : Dev nD) (t : Fin cfg0.N) : (dats m 0 c).after 8 t = outAt8 m c t := by dsimp only [dats]
theorem after_9 (c : Dev nD) (t : Fin cfg0.N) : (dats m 0 c).after 9 t = outAt9 m c t := by dsimp only [dats]
theorem after_10 (c : Dev nD) (t : Fin cfg0.N) : (dats m 0 c).after 10 t = outAt10 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9, after_10]
  rw [show (dats m 0 c).Φ t.succ = PhiS m c (t.val + 1) t.isLt from rfl, PhiS_succ, PhiS_castSucc m c t]
  unfold outAt7 outAt8 outAt9 outAt10 out7 out8 out9 out10
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave ⟨HS0, ⟨%y13, %y14, HS1, HS2, %hH⟩, Hg⟩ := (PhiS_open m c t t.val _ rfl) $$ HP
  iapply ((bodyRun c (grid0.coords t) _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t)).2.2.2.2.down y13 y14 hH _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, ⟨%e10, H10⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover9 c _ _ _ _ _ _ _ _ _ _ _ _ _ _ _ _ _ _ _ _ _ _ _ _ _ _ _ _ _ _ _ _ _ _ _ _)
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scoped rest back. -/
theorem hout (c : Dev nD) : (dats m 0 c).Φ (Fin.last cfg0.N) ⊢ Pipeline.ΦA spec0 c := by
  rw [show (dats m 0 c).Φ (Fin.last cfg0.N) = PhiS m c (15 + 1) (by rw [show cfg0.N = 16 from N_0]) from rfl, PhiS_succ, PhiA_eq]
  unfold HeldAt
  iintro ⟨⟨H0, ⟨%d1, %d2, H1, H2, -⟩⟩, Hg⟩
  isplitl [H0 H1 H2]
  · isplitl [H0]; · iexact H0
    isplitl [H1]; · iexists _; iexact H1
    iexists _; iexact H2
  iexact Hg

-- the implicit arguments are found by unifying the conclusion, which takes unfolding plain definitions in a metavariable's type
set_option backward.isDefEq.respectTransparency.types false in
/-- The launch: every array of the pipeline ends at what the proof data compute, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends, the arguments unchanged and every counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.KernelIdeal.Pieces.lean ====
/- The pieces the body stores, as one formula in the number of the row block. -/
module

public import proofs.«01_k».proof.Proof.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

theorem rows_inb : ∀ b : Fin 8, ∀ a, (![128 * b.val, 0] : Fin 2 → ℕ) a + S128x128.size a ≤ S1024x128.size a := by decide

theorem line_inb : ∀ b : Fin 8, ∀ a, (![b.val, 0] : Fin 2 → ℕ) a + S1x128.size a ≤ S8x128.size a := by decide

theorem column_slices : ∀ b : Fin 8, S128x8.Slices ![0, b.val] S128x1 := by decide

/-- The rows of row block `b`. -/
abbrev rowsRect (b : Fin 8) : Rect S1024x128 := Rect.unit (s := S1024x128) ![128 * b.val, 0] S128x128.size (rows_inb b)

/-- The line of the packed scales that row block `b` fills. -/
abbrev lineRect (b : Fin 8) : Rect S8x128 := Rect.unit (s := S8x128) ![b.val, 0] S1x128.size (line_inb b)

/-- Column `b` of the transposed ids, one per row, spread over the row. -/
def idsOf (b : Fin 8) (v : IVec S128x8 32) : IVec S128x128 32 :=
  broadcastTo S128x128 (shapeCast S128x1 (extractStridedSlice S128x1 ![0, b.val] v (column_slices b)) shapeCasts_S128x1_S128x1) broadcasts_S128x1_S128x128

/-- Column `b` of the transposed old scales, one per row, spread over the row. -/
def soldOf (b : Fin 8) (v : FVec F S128x8 .f32) : FVec F S128x128 .f32 :=
  broadcastTo S128x128 (shapeCast S128x1 (extractStridedSlice S128x1 ![0, b.val] v (column_slices b)) shapeCasts_S128x1_S128x1) broadcasts_S128x1_S128x128

/-- Where the byte of a row's id starts in its words: eight times the id's last two bits. -/
def shiftOf (ids : IVec S128x128 32) : IVec S128x128 32 :=
  shli (andi ids (broadcast S128x128 3#32)) (broadcast S128x128 3#32)

section
variable (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x4 : Vec F S1024x128 .i32) (x5 : Vec F S8x128 .f32) (x6 : Vec F S8x128 .i32) (y : Vec F S1024x128 .f32)

/-- The ids of row block `b`. -/
def bIds (b : Fin 8) : IVec S128x128 32 := idsOf b (k0_pay13 (View.readAt (Elt F) arg7.view (Rect.unit (s := S8x128) ![0, 0] S8x128.size inb_S8x128_S8x128_0_0).toLoadRect (harg7.unread x6)))

/-- The old scales of row block `b`. -/
def bSold (b : Fin 8) : FVec F S128x128 .f32 := soldOf b (k0_pay14 (View.readAt (Elt F) arg6.view (Rect.unit (s := S8x128) ![0, 0] S8x128.size inb_S8x128_S8x128_0_0).toLoadRect (harg6.unread x5)))

/-- The old words of row block `b`. -/
def bWord (b : Fin 8) : Vec F S128x128 .i32 := View.readAt (Elt F) arg5.view (rowsRect b).toLoadRect (harg5.unread x4)

/-- The gradient sums of row block `b`. -/
def bGrad (b : Fin 8) : Vec F S128x128 .f32 := View.readAt (Elt F) arg12.view (rowsRect b).toLoadRect (harg12.unread y)

/-- The seed of the rounding noise. -/
def bSeed : BitVec 32 := Scalar.muli (View.readAt (Elt F) arg1.view (Rect.unit (s := S1) ![0] S1.size inb_S1_S1_0).toLoadRect (harg1.unread x0) (Shape.Idx.first (by decide))) 2246822519#32

/-- The updated rows of row block `b`. -/
def bW (b : Fin 8) : FVec F S128x128 .f32 := k0_pay85 (bSold arg6 harg6 x5 b) (bWord arg5 harg5 x4 b) (shiftOf (bIds (F := F) arg7 harg7 x6 b)) (bGrad arg12 harg12 y b)

/-- The new scales of row block `b`. -/
def bS (b : Fin 8) : FVec F S128x1 .f32 := k0_pay86 (bSold arg6 harg6 x5 b) (bWord arg5 harg5 x4 b) (shiftOf (bIds (F := F) arg7 harg7 x6 b)) (bGrad arg12 harg12 y b)

/-- The rounding noise of row block `b`. -/
def bR (b : Fin 8) : FVec F S128x128 .f32 := k0_pay87 (bSeed (F := F) arg1 harg1 x0) k0_pay11 (bIds (F := F) arg7 harg7 x6 b)

/-- What row block `b` stores in the updated rows. -/
def piece7 (b : Fin 8) : View.Piece (Elt F) S1024x128 .f32 := ⟨rowsRect b, (bW arg5 harg5 arg6 harg6 arg7 harg7 arg12 harg12 x4 x5 x6 y b)⟩

/-- What row block `b` stores in the rounding errors. -/
def piece8 (b : Fin 8) : View.Piece (Elt F) S1024x128 .f32 := ⟨rowsRect b, k0_pay3 (bW arg5 harg5 arg6 harg6 arg7 harg7 arg12 harg12 x4 x5 x6 y b) (bS arg5 harg5 arg6 harg6 arg7 harg7 arg12 harg12 x4 x5 x6 y b) (bR (F := F) arg1 harg1 arg7 harg7 x0 x6 b)⟩

/-- What row block `b` stores in the codes. -/
def piece9 (b : Fin 8) : View.Piece (Elt F) S1024x128 .i8 := ⟨rowsRect b, k0_pay4 (bW arg5 harg5 arg6 harg6 arg7 harg7 arg12 harg12 x4 x5 x6 y b) (bS arg5 harg5 arg6 harg6 arg7 harg7 arg12 harg12 x4 x5 x6 y b) (bR (F := F) arg1 harg1 arg7 harg7 x0 x6 b)⟩

/-- What row block `b` stores in the packed scales. -/
def piece10 (b : Fin 8) : View.Piece (Elt F) S8x128 .f32 := ⟨lineRect b, k0_pay5 k0_pay12 (bS arg5 harg5 arg6 harg6 arg7 harg7 arg12 harg12 x4 x5 x6 y b)⟩

end

/-- The pieces the body stores in the updated rows are the eight row blocks'. -/
theorem pieces7 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) :
    (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 = [piece7 arg5 harg5 arg6 harg6 arg7 harg7 arg12 harg12 x4 x5 x6 (placed i x1 x3 x2) 7, piece7 arg5 harg5 arg6 harg6 arg7 harg7 arg12 harg12 x4 x5 x6 (placed i x1 x3 x2) 6, piece7 arg5 harg5 arg6 harg6 arg7 harg7 arg12 harg12 x4 x5 x6 (placed i x1 x3 x2) 5, piece7 arg5 harg5 arg6 harg6 arg7 harg7 arg12 harg12 x4 x5 x6 (placed i x1 x3 x2) 4, piece7 arg5 harg5 arg6 harg6 arg7 harg7 arg12 harg12 x4 x5 x6 (placed i x1 x3 x2) 3, piece7 arg5 harg5 arg6 harg6 arg7 harg7 arg12 harg12 x4 x5 x6 (placed i x1 x3 x2) 2, piece7 arg5 harg5 arg6 harg6 arg7 harg7 arg12 harg12 x4 x5 x6 (placed i x1 x3 x2) 1, piece7 arg5 harg5 arg6 harg6 arg7 harg7 arg12 harg12 x4 x5 x6 (placed i x1 x3 x2) 0] := rfl

/-- The pieces the body stores in the rounding errors are the eight row blocks'. -/
theorem pieces8 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) :
    (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 = [piece8 arg1 harg1 arg5 harg5 arg6 harg6 arg7 harg7 arg12 harg12 x0 x4 x5 x6 (placed i x1 x3 x2) 7, piece8 arg1 harg1 arg5 harg5 arg6 harg6 arg7 harg7 arg12 harg12 x0 x4 x5 x6 (placed i x1 x3 x2) 6, piece8 arg1 harg1 arg5 harg5 arg6 harg6 arg7 harg7 arg12 harg12 x0 x4 x5 x6 (placed i x1 x3 x2) 5, piece8 arg1 harg1 arg5 harg5 arg6 harg6 arg7 harg7 arg12 harg12 x0 x4 x5 x6 (placed i x1 x3 x2) 4, piece8 arg1 harg1 arg5 harg5 arg6 harg6 arg7 harg7 arg12 harg12 x0 x4 x5 x6 (placed i x1 x3 x2) 3, piece8 arg1 harg1 arg5 harg5 arg6 harg6 arg7 harg7 arg12 harg12 x0 x4 x5 x6 (placed i x1 x3 x2) 2, piece8 arg1 harg1 arg5 harg5 arg6 harg6 arg7 harg7 arg12 harg12 x0 x4 x5 x6 (placed i x1 x3 x2) 1, piece8 arg1 harg1 arg5 harg5 arg6 harg6 arg7 harg7 arg12 harg12 x0 x4 x5 x6 (placed i x1 x3 x2) 0] := rfl

/-- The pieces the body stores in the codes are the eight row blocks'. -/
theorem pieces9 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) :
    (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1 = [piece9 arg1 harg1 arg5 harg5 arg6 harg6 arg7 harg7 arg12 harg12 x0 x4 x5 x6 (placed i x1 x3 x2) 7, piece9 arg1 harg1 arg5 harg5 arg6 harg6 arg7 harg7 arg12 harg12 x0 x4 x5 x6 (placed i x1 x3 x2) 6, piece9 arg1 harg1 arg5 harg5 arg6 harg6 arg7 harg7 arg12 harg12 x0 x4 x5 x6 (placed i x1 x3 x2) 5, piece9 arg1 harg1 arg5 harg5 arg6 harg6 arg7 harg7 arg12 harg12 x0 x4 x5 x6 (placed i x1 x3 x2) 4, piece9 arg1 harg1 arg5 harg5 arg6 harg6 arg7 harg7 arg12 harg12 x0 x4 x5 x6 (placed i x1 x3 x2) 3, piece9 arg1 harg1 arg5 harg5 arg6 harg6 arg7 harg7 arg12 harg12 x0 x4 x5 x6 (placed i x1 x3 x2) 2, piece9 arg1 harg1 arg5 harg5 arg6 harg6 arg7 harg7 arg12 harg12 x0 x4 x5 x6 (placed i x1 x3 x2) 1, piece9 arg1 harg1 arg5 harg5 arg6 harg6 arg7 harg7 arg12 harg12 x0 x4 x5 x6 (placed i x1 x3 x2) 0] := rfl

/-- The pieces the body stores in the packed scales are the eight row blocks'. -/
theorem pieces10 (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec F S1 .i32) (x1 : Vec F S512 .i32) (x2 : Vec F S1024x128 .f32) (x3 : Vec F S64x128 .f32) (x4 : Vec F S1024x128 .i32) (x5 : Vec F S8x128 .f32) (x6 : Vec F S8x128 .i32) :
    (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1 = [piece10 arg5 harg5 arg6 harg6 arg7 harg7 arg12 harg12 x4 x5 x6 (placed i x1 x3 x2) 7, piece10 arg5 harg5 arg6 harg6 arg7 harg7 arg12 harg12 x4 x5 x6 (placed i x1 x3 x2) 6, piece10 arg5 harg5 arg6 harg6 arg7 harg7 arg12 harg12 x4 x5 x6 (placed i x1 x3 x2) 5, piece10 arg5 harg5 arg6 harg6 arg7 harg7 arg12 harg12 x4 x5 x6 (placed i x1 x3 x2) 4, piece10 arg5 harg5 arg6 harg6 arg7 harg7 arg12 harg12 x4 x5 x6 (placed i x1 x3 x2) 3, piece10 arg5 harg5 arg6 harg6 arg7 harg7 arg12 harg12 x4 x5 x6 (placed i x1 x3 x2) 2, piece10 arg5 harg5 arg6 harg6 arg7 harg7 arg12 harg12 x4 x5 x6 (placed i x1 x3 x2) 1, piece10 arg5 harg5 arg6 harg6 arg7 harg7 arg12 harg12 x4 x5 x6 (placed i x1 x3 x2) 0] := rfl

end Cert.KernelIdeal.Hand

end
-- ==== Proof.Row.lean ====
/- One row of the update over the extended reals: what its new values, scale, rounded values and rounding errors are,
   and the two facts about words and small integers that the kernel and the reference rely on. -/
module

public import Idealize.ShloMosaic.PureOps.Ideal
public import Idealize.ShloMosaic.PureOps.Ideal.Laws
public import Idealize.ShloMosaic.Lib.Pointwise

@[expose] public section

noncomputable section

namespace Cert

open Idealize.ShloMosaic

/-- What a row of the update is computed from: its old words, its id, its old scale, its gradient sums, and the step. -/
structure RowData where
  word : Fin 128 → BitVec 32
  id : BitVec 32
  sold : EReal
  grad : Fin 128 → EReal
  step : BitVec 32

namespace RowData

/-- The signed byte of a word that an id picks: the id's last two bits number it. -/
def code (word id : BitVec 32) : BitVec 8 := (IntOp.shrsi .host word (IntOp.muli 8#32 (IntOp.andi id 3#32))).setWidth 8

/-- The row's new values: the old byte times the old scale, less the learning rate times the gradient. -/
def w (ρ : RowData) (l : Fin 128) : EReal :=
  (((code (ρ.word l) ρ.id).signExtend 32).toInt : ℝ) * ρ.sold - Ideal.ofBits .f32 0x3D4CCCCD#32 * ρ.grad l

/-- The largest magnitude among the row's new values. -/
def peak (ρ : RowData) : EReal :=
  Finset.univ.fold max (Ideal.ofBits .f32 0xFF800000#32) fun l => FloatOps.absf (F := Ideal) (φ := .f32) (ρ.w l)

/-- The row's new scale. -/
def scale (ρ : RowData) : EReal := if 0 < ρ.peak then Ideal.div ρ.peak (Ideal.ofBits .f32 0x42FE0000#32) else 1

/-- A word's bits mixed: shifted right and added without carry, then multiplied. -/
def mix (h k c : BitVec 32) : BitVec 32 := IntOp.muli (IntOp.xori h (IntOp.shrui .host h k)) c

/-- The 24 noise bits of a place of the row. -/
def bits (ρ : RowData) (l : Fin 128) : BitVec 32 :=
  let h := IntOp.xori (IntOp.xori (IntOp.muli ρ.id 0x9E3779B1#32) (IntOp.muli ρ.step 0x85EBCA77#32)) (IntOp.muli (BitVec.ofNat 32 l.val) 0xC2B2AE3D#32)
  let h := mix (mix h 16#32 0x85EBCA6B#32) 13#32 0xC2B2AE35#32
  IntOp.shrui .host (IntOp.xori h (IntOp.shrui .host h 16#32)) 8#32

/-- The rounding noise of a place of the row, in [0, 1). -/
def noise (ρ : RowData) (l : Fin 128) : EReal := ((ρ.bits l).toNat : ℝ) * Ideal.ofBits .f32 0x33800000#32

/-- The new value over the new scale, rounded by the noise and clipped to [-127, 127]. -/
def rounded (ρ : RowData) (l : Fin 128) : EReal :=
  min (Ideal.ofBits .f32 0x42FE0000#32) (max (Ideal.ofBits .f32 0xC2FE0000#32) (Ideal.liftRound Int.floor (Ideal.div (ρ.w l) ρ.scale + ρ.noise l)))

/-- The rounding error. -/
def err (ρ : RowData) (l : Fin 128) : EReal := ρ.w l - ρ.rounded l * ρ.scale

/-- The new signed byte. -/
def codes (ρ : RowData) (l : Fin 128) : BitVec 8 := (Ideal.fptosi 32 (ρ.rounded l)).setWidth 8

/-! ## Words -/

theorem shrui_unit (u v : ArithUnit) (x y : BitVec 32) (h : y.toNat < 32) : IntOp.shrui u x y = IntOp.shrui v x y := by
  simp only [IntOp.shrui, if_pos h]

/-- A small word read as a signed integer is the natural number it is. -/
theorem shrui_toInt (u : ArithUnit) (x : BitVec 32) : (IntOp.shrui u x 8#32).toInt = ((IntOp.shrui u x 8#32).toNat : ℤ) := by
  rw [BitVec.toInt_eq_toNat_cond, if_pos]
  simp only [IntOp.shrui, BitVec.toNat_ofNat, Nat.reducePow, Nat.reduceMod, Nat.reduceLT, if_true, BitVec.ushiftRight_eq', BitVec.toNat_ushiftRight, Nat.shiftRight_eq_div_pow]
  have := x.isLt
  omega

theorem low_bits (x : BitVec 32) : x &&& 3#32 = 0#32 ∨ x &&& 3#32 = 1#32 ∨ x &&& 3#32 = 2#32 ∨ x &&& 3#32 = 3#32 := by
  have h : (x &&& 3#32).toNat < 4 := by
    rw [BitVec.toNat_and]
    exact Nat.lt_of_le_of_lt Nat.and_le_right (by decide)
  have e : x &&& 3#32 = BitVec.ofNat 32 (x &&& 3#32).toNat := by simp only [BitVec.ofNat_toNat, BitVec.setWidth_eq]
  generalize (x &&& 3#32).toNat = n at h e
  rw [e]
  interval_cases n <;> simp

/-- A byte moved to the top of the word and back down, signed, is the byte picked by shifting it down first. -/
theorem code_shift (word id : BitVec 32) :
    IntOp.shrsi .vector (IntOp.shli .vector word (IntOp.subi 24#32 (IntOp.shli .vector (IntOp.andi id 3#32) 3#32))) 24#32
      = (code word id).signExtend 32 := by
  have key : ∀ n : ℕ, n ≤ 3 → (word <<< (24 - 8 * n)).sshiftRight 24 = ((word.sshiftRight (8 * n)).setWidth 8).signExtend 32 := fun n hn => by
    ext i hi
    simp only [BitVec.getElem_sshiftRight, BitVec.getElem_signExtend, BitVec.getElem_setWidth, BitVec.getLsbD_sshiftRight, BitVec.getElem_shiftLeft, BitVec.msb_shiftLeft, BitVec.msb_setWidth]
    by_cases h : i < 8
    · have e : 24 + i - (24 - 8 * n) = 8 * n + i := by omega
      rw [dif_pos (by omega), dif_pos h, ← BitVec.getLsbD_eq_getElem, e]
      simp only [show ¬ 24 + i < 24 - 8 * n by omega, show ¬ 32 ≤ i by omega, show 8 * n + i < 32 by omega, decide_false, Bool.not_false, Bool.true_and, if_true]
    · have e : 32 - 1 - (24 - 8 * n) = 8 * n + 7 := by omega
      rw [dif_neg (by omega), dif_neg h, BitVec.getMsbD_eq_getLsbD, e]
      simp [show 24 - 8 * n < 32 by omega, show 8 * n + 7 < 32 by omega]
  unfold code
  simp only [IntOp.andi, IntOp.muli, IntOp.subi]
  rcases low_bits id with h | h | h | h <;> rw [h]
  · exact key 0 (by decide)
  · exact key 1 (by decide)
  · exact key 2 (by decide)
  · exact key 3 (by decide)

/-! ## Small integers -/

/-- Rounded values are integers from -127 to 127. -/
theorem rounded_int (ρ : RowData) (l : Fin 128) : ∃ z : ℤ, -127 ≤ z ∧ z ≤ 127 ∧ ρ.rounded l = ((z : ℝ) : EReal) := by
  have h1 : Ideal.ofBits .f32 0x42FE0000#32 = (((127 : ℤ) : ℝ) : EReal) := by
    simp [Ideal.ofBits, Ideal.ieee, -EReal.coe_mul]; norm_num
  have h2 : Ideal.ofBits .f32 0xC2FE0000#32 = (((-127 : ℤ) : ℝ) : EReal) := by
    simp [Ideal.ofBits, Ideal.ieee, -EReal.coe_mul]; norm_num
  unfold rounded
  rw [h1, h2]
  generalize Ideal.div (ρ.w l) ρ.scale + ρ.noise l = x
  induction x with
  | bot => exact ⟨-127, by omega, by omega, by
      show min _ (max _ (⊥ : EReal)) = _
      rw [max_eq_left bot_le, min_eq_right (by norm_cast)]⟩
  | top => exact ⟨127, by omega, by omega, by
      show min _ (max _ (⊤ : EReal)) = _
      rw [max_eq_right le_top, min_eq_left le_top]⟩
  | coe r =>
    refine ⟨min 127 (max (-127) ⌊r⌋), by omega, by omega, ?_⟩
    show min _ (max _ (((⌊r⌋ : ℤ) : ℝ) : EReal)) = _
    rw [Int.cast_min, Int.cast_max, EReal.coe_strictMono.monotone.map_min, EReal.coe_strictMono.monotone.map_max]

/-- An integer from -127 to 127 survives the conversion to a signed byte and back. -/
theorem byte_round_trip (z : ℤ) (h1 : -127 ≤ z) (h2 : z ≤ 127) :
    (((Ideal.fptosi 32 ((z : ℝ) : EReal)).setWidth 8).signExtend 32).toInt = z := by
  have hf : Ideal.fptosi 32 ((z : ℝ) : EReal) = BitVec.ofInt 32 z := by
    unfold Ideal.fptosi
    congr 1
    show max _ (min _ (if 0 ≤ (z : ℝ) then ⌊(z : ℝ)⌋ else ⌈(z : ℝ)⌉)) = z
    rw [Int.floor_intCast, Int.ceil_intCast, ite_self]
    norm_num
    omega
  rw [hf, BitVec.toInt_signExtend_of_le (by decide), BitVec.toInt_setWidth, BitVec.toNat_ofInt, Int.bmod_def]
  split <;> omega

/-- The byte stored for a rounded value reads back as that value. -/
theorem codes_toInt (ρ : RowData) (l : Fin 128) : ((((ρ.codes l).signExtend 32).toInt : ℝ) : EReal) = ρ.rounded l := by
  obtain ⟨z, h1, h2, h⟩ := ρ.rounded_int l
  unfold codes
  rw [h, byte_round_trip z h1 h2]

/-- The reciprocal of 127 in place of the division by it. -/
theorem div_127 (x : EReal) : x * ((1 / 127 : ℝ) : EReal) = Ideal.div x (Ideal.ofBits .f32 0x42FE0000#32) := by
  have h1 : Ideal.ofBits .f32 0x42FE0000#32 = ((127 : ℝ) : EReal) := by
    simp [Ideal.ofBits, Ideal.ieee, -EReal.coe_mul]; norm_num
  rw [h1]
  exact (Ideal.div_coe (by norm_num : (127 : ℝ) ≠ 0) x).symm

end RowData

end Cert

end
-- ==== Proof.KernelIdeal.Block.lean ====
/- A row block's stored values over the extended reals, place by place: they are the row's (`Cert.RowData`). -/
module

public import proofs.«01_k».proof.Proof.KernelIdeal.Pieces
public import proofs.«01_k».proof.Proof.Row
public import Idealize.ShloMosaic.Lib.Pointwise
public import Idealize.ShloMosaic.Lib.KernelVsHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The value of the reciprocal of 127 named in the kernel. -/
theorem inv_127 : Named.named (F := Ideal) (φ := .f32) κ "inv_127" 1006699012#32 = ((1 / 127 : ℝ) : EReal) :=
  IdealRules.named_const.ideal_named_scalar _ _ _ _ rfl

theorem idsOf_apply (v : Vec Ideal S8x128 .i32) (b : Fin 8) (r l : Fin 128) : idsOf b (k0_pay13 v) (ix2 r l) = v (ix2 b r) := by
  pointwise [idsOf, k0_pay13]

theorem soldOf_apply (v : Vec Ideal S8x128 .f32) (b : Fin 8) (r l : Fin 128) : soldOf b (k0_pay14 v) (ix2 r l) = v (ix2 b r) := by
  pointwise [soldOf, k0_pay14]

theorem shiftOf_apply (v : IVec S128x128 32) (r l : Fin 128) :
    shiftOf v (ix2 r l) = IntOp.shli .vector (IntOp.andi (v (ix2 r l)) 3#32) 3#32 := by
  pointwise [shiftOf]

section
variable {v550 : FVec Ideal S128x128 .f32} {v551 : Vec Ideal S128x128 .i32} {ids : IVec S128x128 32} {v563 : Vec Ideal S128x128 .f32}
  {ρ : RowData} {r : Fin 128}

/-- The new values the block computes for row `r` are the row's. -/
theorem pay85_row (hw : ∀ l, v551 (ix2 r l) = ρ.word l) (hi : ∀ l, ids (ix2 r l) = ρ.id) (hs : ∀ l, v550 (ix2 r l) = ρ.sold)
    (hg : ∀ l, v563 (ix2 r l) = ρ.grad l) (l : Fin 128) : k0_pay85 (F := Ideal) v550 v551 (shiftOf ids) v563 (ix2 r l) = ρ.w l := by
  have h : k0_pay85 (F := Ideal) v550 v551 (shiftOf ids) v563 (ix2 r l) =
      FloatOps.sitofp FTy.f32 (IntOp.shrsi .vector (IntOp.shli .vector (v551 (ix2 r l)) (IntOp.subi 24#32 (shiftOf ids (ix2 r l)))) 24#32) * v550 (ix2 r l)
        - Ideal.ofBits FTy.f32 1028443341#32 * v563 (ix2 r l) := by pointwise [k0_pay85]
  rw [h, shiftOf_apply, hw, hi, hs, hg, RowData.code_shift]
  rfl

/-- The new scale the block computes for row `r`, spread over the row, is the row's. -/
theorem pay86_row (hw : ∀ l, v551 (ix2 r l) = ρ.word l) (hi : ∀ l, ids (ix2 r l) = ρ.id) (hs : ∀ l, v550 (ix2 r l) = ρ.sold)
    (hg : ∀ l, v563 (ix2 r l) = ρ.grad l) (l : Fin 128) : k0_pay1 (k0_pay86 (F := Ideal) v550 v551 (shiftOf ids) v563) (ix2 r l) = ρ.scale := by
  have h : k0_pay1 (k0_pay86 (F := Ideal) v550 v551 (shiftOf ids) v563) (ix2 r l) =
      if 0 < Finset.fold max (Ideal.ofBits FTy.f32 4286578688#32) (fun x => FloatOps.absf (F := Ideal) (φ := .f32) (k0_pay85 (F := Ideal) v550 v551 (shiftOf ids) v563 (ix2 r x))) Finset.univ
      then Finset.fold max (Ideal.ofBits FTy.f32 4286578688#32) (fun x => FloatOps.absf (F := Ideal) (φ := .f32) (k0_pay85 (F := Ideal) v550 v551 (shiftOf ids) v563 (ix2 r x))) Finset.univ * Named.named κ "inv_127" 1006699012#32 else 1 := by
    pointwise [k0_pay86, k0_pay1]
  rw [h, inv_127, funext fun x => congrArg (FloatOps.absf (F := Ideal) (φ := .f32)) (pay85_row hw hi hs hg x), RowData.div_127]
  rfl

/-- The noise the block computes for row `r` is the row's. -/
theorem pay87_row (hi : ∀ l, ids (ix2 r l) = ρ.id) (l : Fin 128) :
    k0_pay87 (F := Ideal) (Scalar.muli ρ.step 2246822519#32) k0_pay11 ids (ix2 r l) = ρ.noise l := by
  have h : k0_pay87 (F := Ideal) (Scalar.muli ρ.step 2246822519#32) k0_pay11 ids (ix2 r l) =
      FloatOps.sitofp (F := Ideal) FTy.f32 (ρ.bits l) * Ideal.ofBits FTy.f32 864026624#32 := by
    unfold RowData.bits
    rw [← hi l]
    pointwise [k0_pay87, k0_pay11]
    rfl
  rw [h]
  refine congrArg (· * _) ?_
  show (((ρ.bits l).toInt : ℝ) : EReal) = _
  rw [show (ρ.bits l).toInt = ((ρ.bits l).toNat : ℤ) from RowData.shrui_toInt _ _, Int.cast_natCast]
end

section
variable {W N : FVec Ideal S128x128 .f32} {S : FVec Ideal S128x1 .f32} {ρ : RowData} {r : Fin 128}

theorem pay2_row (hW : ∀ l, W (ix2 r l) = ρ.w l) (hS : ∀ l, k0_pay1 S (ix2 r l) = ρ.scale) (hN : ∀ l, N (ix2 r l) = ρ.noise l) (l : Fin 128) :
    k0_pay2 W S N (ix2 r l) = ρ.rounded l := by
  have h : k0_pay2 W S N (ix2 r l) = min (Ideal.ofBits .f32 0x42FE0000#32) (max (Ideal.ofBits .f32 0xC2FE0000#32) (FloatOps.floor (F := Ideal) (φ := .f32) (Ideal.div (W (ix2 r l)) (k0_pay1 S (ix2 r l)) + N (ix2 r l)))) := by
    pointwise [k0_pay2]
  rw [h, hW, hS, hN]
  rfl

/-- The rounding errors stored for row `r` are the row's. -/
theorem pay3_row (hW : ∀ l, W (ix2 r l) = ρ.w l) (hS : ∀ l, k0_pay1 S (ix2 r l) = ρ.scale) (hN : ∀ l, N (ix2 r l) = ρ.noise l) (l : Fin 128) :
    k0_pay3 W S N (ix2 r l) = ρ.err l := by
  have h : k0_pay3 W S N (ix2 r l) = W (ix2 r l) - k0_pay2 W S N (ix2 r l) * k0_pay1 S (ix2 r l) := by
    pointwise [k0_pay3]
  rw [h, pay2_row hW hS hN, hW, hS]
  rfl

/-- The bytes stored for row `r` are the row's. -/
theorem pay4_row (hW : ∀ l, W (ix2 r l) = ρ.w l) (hS : ∀ l, k0_pay1 S (ix2 r l) = ρ.scale) (hN : ∀ l, N (ix2 r l) = ρ.noise l) (l : Fin 128) :
    k0_pay4 W S N (ix2 r l) = ρ.codes l := by
  have h : k0_pay4 W S N (ix2 r l) = BitVec.setWidth 8 (FloatOps.fptosi 32 (k0_pay2 W S N (ix2 r l))) := by
    pointwise [k0_pay4]
  rw [h, pay2_row hW hS hN]
  rfl

/-- The line of scales holds at place `r` the scale of row `r`: the sum down a column keeps the diagonal alone. -/
theorem pay5_row (hS : ∀ l, k0_pay1 S (ix2 r l) = ρ.scale) : k0_pay5 k0_pay12 S (ix2 0 r) = ρ.scale := by
  have h : k0_pay5 k0_pay12 S (ix2 0 r) = ∑ x : Fin 128, Scalar.select (IntOp.cmpi .eq (BitVec.ofNat 32 x.val) (BitVec.ofNat 32 r.val)) (k0_pay1 S (ix2 x r)) (0 : EReal) := by
    pointwise [k0_pay5, k0_pay12, k0_pay1]
  rw [h, Finset.sum_eq_single r]
  · rw [hS]
    simp [Scalar.select, IntOp.cmpi]
  · intro x _ hx
    have hne : BitVec.ofNat 32 x.val ≠ BitVec.ofNat 32 r.val := fun e => hx (Fin.ext (by
      have := congrArg BitVec.toNat e
      simp only [BitVec.toNat_ofNat] at this
      omega))
    rw [Scalar.select, IntOp.cmpi, beq_eq_false_iff_ne.mpr hne]
    rfl
  · exact fun h => absurd (Finset.mem_univ _) h
end

end Cert.KernelIdeal.Hand

end
-- ==== Proof.KernelIdeal.Stored.lean ====
/- What the body leaves in its output buffers over the extended reals, place by place. -/
module

public import proofs.«01_k».proof.Proof.KernelIdeal.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Row `R` of the block, over the step, the old words, the old scales, the ids and the gradient sums. The scales and
    the ids are packed, 128 rows to a line. -/
def blockRow (x0 : Vec Ideal S1 .i32) (x4 : Vec Ideal S1024x128 .i32) (x5 : Vec Ideal S8x128 .f32) (x6 : Vec Ideal S8x128 .i32) (y : Vec Ideal S1024x128 .f32) (R : Fin 1024) : RowData where
  word l := x4 (ix2 R l)
  id := x6 (ix2 (⟨R.val / 128, by omega⟩ : Fin 8) (⟨R.val % 128, by omega⟩ : Fin 128))
  sold := x5 (ix2 (⟨R.val / 128, by omega⟩ : Fin 8) (⟨R.val % 128, by omega⟩ : Fin 128))
  grad l := y (ix2 R l)
  step := x0 (ix1 (0 : Fin 1))

/-- Row `r` of row block `b`, as a row of the block. -/
abbrev rowIn (b : Fin 8) (r : Fin 128) : Fin 1024 := ⟨128 * b.val + r.val, by omega⟩

theorem rowsRect_emb (b : Fin 8) (r l : Fin 128) : (rowsRect b).emb (ix2 r l) = ix2 (rowIn b r) l :=
  funext fun a => Fin.ext (by
    rw [Rect.emb_apply]
    match a with
    | ⟨0, _⟩ => show 128 * b.val + 1 * r.val = 128 * b.val + r.val; omega
    | ⟨1, _⟩ => show 0 + 1 * l.val = l.val; omega)

theorem lineRect_emb (b : Fin 8) (l : Fin 128) : (lineRect b).emb (ix2 (0 : Fin 1) l) = ix2 b l :=
  funext fun a => Fin.ext (by
    rw [Rect.emb_apply]
    match a with
    | ⟨0, _⟩ => show b.val + 1 * 0 = b.val; omega
    | ⟨1, _⟩ => show 0 + 1 * l.val = l.val; omega)

section
variable (arg1 : Memref sig .tc .smem S1 .i32) (harg1 : arg1.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg12 : Memref sig .tc .vmem S1024x128 .f32) (harg12 : arg12.IsWhole)
  (x0 : Vec Ideal S1 .i32) (x4 : Vec Ideal S1024x128 .i32) (x5 : Vec Ideal S8x128 .f32) (x6 : Vec Ideal S8x128 .i32) (y : Vec Ideal S1024x128 .f32) (b : Fin 8) (r l : Fin 128)

theorem line_of : (⟨(rowIn b r).val / 128, by omega⟩ : Fin 8) = b := Fin.ext (by show (128 * b.val + r.val) / 128 = b.val; omega)
theorem lane_of : (⟨(rowIn b r).val % 128, by omega⟩ : Fin 128) = r := Fin.ext (by show (128 * b.val + r.val) % 128 = r.val; omega)

theorem bIds_row : bIds (F := Ideal) arg7 harg7 x6 b (ix2 r l) = (blockRow x0 x4 x5 x6 y (rowIn b r)).id := by
  unfold bIds
  rw [idsOf_apply, View.readAt_full, harg7.read_unread]
  show _ = x6 (ix2 _ _)
  rw [line_of, lane_of]

theorem bSold_row : bSold (F := Ideal) arg6 harg6 x5 b (ix2 r l) = (blockRow x0 x4 x5 x6 y (rowIn b r)).sold := by
  unfold bSold
  rw [soldOf_apply, View.readAt_full, harg6.read_unread]
  show _ = x5 (ix2 _ _)
  rw [line_of, lane_of]

theorem bWord_row : bWord (F := Ideal) arg5 harg5 x4 b (ix2 r l) = (blockRow x0 x4 x5 x6 y (rowIn b r)).word l := by
  unfold bWord
  rw [View.readAt_apply, harg5.read_unread]
  exact congrArg x4 (rowsRect_emb b r l)

theorem bGrad_row : bGrad (F := Ideal) arg12 harg12 y b (ix2 r l) = (blockRow x0 x4 x5 x6 y (rowIn b r)).grad l := by
  unfold bGrad
  rw [View.readAt_apply, harg12.read_unread]
  exact congrArg y (rowsRect_emb b r l)

theorem bSeed_row : bSeed (F := Ideal) arg1 harg1 x0 = Scalar.muli (blockRow x0 x4 x5 x6 y (rowIn b r)).step 2246822519#32 := by
  unfold bSeed
  rw [View.readAt_full, harg1.read_unread]
  exact congrArg (fun j => Scalar.muli (x0 j) 2246822519#32) ((eq_ix1 _).trans (congrArg ix1 (Subsingleton.elim (α := Fin 1) _ 0)))

theorem bW_row : bW (F := Ideal) arg5 harg5 arg6 harg6 arg7 harg7 arg12 harg12 x4 x5 x6 y b (ix2 r l) = (blockRow x0 x4 x5 x6 y (rowIn b r)).w l :=
  pay85_row (fun _ => bWord_row ..) (fun _ => bIds_row ..) (fun _ => bSold_row ..) (fun _ => bGrad_row ..) l

theorem bS_row : k0_pay1 (bS (F := Ideal) arg5 harg5 arg6 harg6 arg7 harg7 arg12 harg12 x4 x5 x6 y b) (ix2 r l) = (blockRow x0 x4 x5 x6 y (rowIn b r)).scale :=
  pay86_row (fun _ => bWord_row ..) (fun _ => bIds_row ..) (fun _ => bSold_row ..) (fun _ => bGrad_row ..) l

theorem bR_row : bR (F := Ideal) arg1 harg1 arg7 harg7 x0 x6 b (ix2 r l) = (blockRow x0 x4 x5 x6 y (rowIn b r)).noise l := by
  unfold bR
  rw [bSeed_row arg1 harg1 x0 x4 x5 x6 y b r]
  exact pay87_row (fun _ => bIds_row ..) l

/-- Each row block stores its rows' new values. -/
theorem piece7_row (x : (rowsRect b).shape.Idx) : (piece7 (F := Ideal) arg5 harg5 arg6 harg6 arg7 harg7 arg12 harg12 x4 x5 x6 y b).2 x
    = (fun z : S1024x128.Idx => (blockRow x0 x4 x5 x6 y (z 0)).w (z 1)) ((rowsRect b).emb x) := by
  obtain ⟨r, l, rfl⟩ : ∃ r l : Fin 128, x = ix2 r l := ⟨x 0, x 1, eq_ix2 x⟩
  rw [rowsRect_emb]
  exact bW_row ..

/-- Each row block stores its rows' rounding errors. -/
theorem piece8_row (x : (rowsRect b).shape.Idx) : (piece8 (F := Ideal) arg1 harg1 arg5 harg5 arg6 harg6 arg7 harg7 arg12 harg12 x0 x4 x5 x6 y b).2 x
    = (fun z : S1024x128.Idx => (blockRow x0 x4 x5 x6 y (z 0)).err (z 1)) ((rowsRect b).emb x) := by
  obtain ⟨r, l, rfl⟩ : ∃ r l : Fin 128, x = ix2 r l := ⟨x 0, x 1, eq_ix2 x⟩
  rw [rowsRect_emb]
  exact pay3_row (fun _ => bW_row ..) (fun _ => bS_row ..) (fun _ => bR_row ..) l

/-- Each row block stores its rows' bytes. -/
theorem piece9_row (x : (rowsRect b).shape.Idx) : (piece9 (F := Ideal) arg1 harg1 arg5 harg5 arg6 harg6 arg7 harg7 arg12 harg12 x0 x4 x5 x6 y b).2 x
    = (fun z : S1024x128.Idx => (blockRow x0 x4 x5 x6 y (z 0)).codes (z 1)) ((rowsRect b).emb x) := by
  obtain ⟨r, l, rfl⟩ : ∃ r l : Fin 128, x = ix2 r l := ⟨x 0, x 1, eq_ix2 x⟩
  rw [rowsRect_emb]
  exact pay4_row (fun _ => bW_row ..) (fun _ => bS_row ..) (fun _ => bR_row ..) l

/-- Each row block stores its rows' scales, as one line. -/
theorem piece10_row (x : (lineRect b).shape.Idx) : (piece10 (F := Ideal) arg5 harg5 arg6 harg6 arg7 harg7 arg12 harg12 x4 x5 x6 y b).2 x
    = (fun z : S8x128.Idx => (blockRow x0 x4 x5 x6 y (rowIn (z 0) (z 1))).scale) ((lineRect b).emb x) := by
  obtain ⟨r, rfl⟩ : ∃ r : Fin 128, x = ix2 (0 : Fin 1) r := ⟨x 1, (eq_ix2 x).trans (congrArg (ix2 · (x 1)) (Subsingleton.elim (α := Fin 1) _ _))⟩
  rw [lineRect_emb]
  exact pay5_row (fun _ => bS_row ..)

end

/-- One of eight listed members is the member of some number. -/
theorem of_mem_eight {α : Type} {f : Fin 8 → α} {p : α} (h : p ∈ [f 7, f 6, f 5, f 4, f 3, f 2, f 1, f 0]) : ∃ b, p = f b := by
  simp only [List.mem_cons, List.not_mem_nil, or_false] at h
  rcases h with h | h | h | h | h | h | h | h <;> exact ⟨_, h⟩

/-- What the body leaves in the updated rows. -/
theorem out7_apply (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec Ideal S1 .i32) (x1 : Vec Ideal S512 .i32) (x2 : Vec Ideal S1024x128 .f32) (x3 : Vec Ideal S64x128 .f32) (x4 : Vec Ideal S1024x128 .i32) (x5 : Vec Ideal S8x128 .f32) (x6 : Vec Ideal S8x128 .i32) (z : S1024x128.Idx) :
    out7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z = (blockRow x0 x4 x5 x6 (placed i x1 x3 x2) (z 0)).w (z 1) := by
  unfold out7
  refine View.read_writes_apply_of_pieces VO7 VO7.junk (fun z : S1024x128.Idx => (blockRow x0 x4 x5 x6 (placed i x1 x3 x2) (z 0)).w (z 1)) _ (fun p hp => ?_) z
    (cover7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z)
  rw [pieces7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6] at hp
  obtain ⟨b, rfl⟩ := of_mem_eight (f := piece7 (F := Ideal) arg5 harg5 arg6 harg6 arg7 harg7 arg12 harg12 x4 x5 x6 (placed i x1 x3 x2)) hp
  exact piece7_row arg5 harg5 arg6 harg6 arg7 harg7 arg12 harg12 x0 x4 x5 x6 (placed i x1 x3 x2) b

/-- What the body leaves in the rounding errors. -/
theorem out8_apply (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec Ideal S1 .i32) (x1 : Vec Ideal S512 .i32) (x2 : Vec Ideal S1024x128 .f32) (x3 : Vec Ideal S64x128 .f32) (x4 : Vec Ideal S1024x128 .i32) (x5 : Vec Ideal S8x128 .f32) (x6 : Vec Ideal S8x128 .i32) (z : S1024x128.Idx) :
    out8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z = (blockRow x0 x4 x5 x6 (placed i x1 x3 x2) (z 0)).err (z 1) := by
  unfold out8
  refine View.read_writes_apply_of_pieces VO8 VO8.junk (fun z : S1024x128.Idx => (blockRow x0 x4 x5 x6 (placed i x1 x3 x2) (z 0)).err (z 1)) _ (fun p hp => ?_) z
    (cover8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z)
  rw [pieces8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6] at hp
  obtain ⟨b, rfl⟩ := of_mem_eight (f := piece8 (F := Ideal) arg1 harg1 arg5 harg5 arg6 harg6 arg7 harg7 arg12 harg12 x0 x4 x5 x6 (placed i x1 x3 x2)) hp
  exact piece8_row arg1 harg1 arg5 harg5 arg6 harg6 arg7 harg7 arg12 harg12 x0 x4 x5 x6 (placed i x1 x3 x2) b

/-- What the body leaves in the bytes. -/
theorem out9_apply (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec Ideal S1 .i32) (x1 : Vec Ideal S512 .i32) (x2 : Vec Ideal S1024x128 .f32) (x3 : Vec Ideal S64x128 .f32) (x4 : Vec Ideal S1024x128 .i32) (x5 : Vec Ideal S8x128 .f32) (x6 : Vec Ideal S8x128 .i32) (z : S1024x128.Idx) :
    out9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z = (blockRow x0 x4 x5 x6 (placed i x1 x3 x2) (z 0)).codes (z 1) := by
  unfold out9
  refine View.read_writes_apply_of_pieces VO9 VO9.junk (fun z : S1024x128.Idx => (blockRow x0 x4 x5 x6 (placed i x1 x3 x2) (z 0)).codes (z 1)) _ (fun p hp => ?_) z
    (cover9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z)
  rw [pieces9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6] at hp
  obtain ⟨b, rfl⟩ := of_mem_eight (f := piece9 (F := Ideal) arg1 harg1 arg5 harg5 arg6 harg6 arg7 harg7 arg12 harg12 x0 x4 x5 x6 (placed i x1 x3 x2)) hp
  exact piece9_row arg1 harg1 arg5 harg5 arg6 harg6 arg7 harg7 arg12 harg12 x0 x4 x5 x6 (placed i x1 x3 x2) b

/-- What the body leaves in the packed scales. -/
theorem out10_apply (c : Dev nD) (i : grid0.Coords) (arg1 : Memref sig .tc .smem S1 .i32) (harg1 : arg1.IsWhole) (arg2 : Memref sig .tc .smem S512 .i32) (harg2 : arg2.IsWhole) (arg3 : Memref sig .tc .vmem S1024x128 .f32) (harg3 : arg3.IsWhole) (arg4 : Memref sig .tc .vmem S64x128 .f32) (harg4 : arg4.IsWhole) (arg5 : Memref sig .tc .vmem S1024x128 .i32) (harg5 : arg5.IsWhole) (arg6 : Memref sig .tc .vmem S8x128 .f32) (harg6 : arg6.IsWhole) (arg7 : Memref sig .tc .vmem S8x128 .i32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .i8) (harg10 : arg10.IsWhole) (arg11 : Memref sig .tc .vmem S8x128 .f32) (harg11 : arg11.IsWhole) (arg12 : Memref sig .tc .vmem S1024x128 .f32) (harg12 : arg12.IsWhole) (arg13 : Memref sig .tc .vmem S64x128 .f32) (harg13 : arg13.IsWhole) (arg14 : Memref sig .tc .smem S65 .i32) (harg14 : arg14.IsWhole) (x0 : Vec Ideal S1 .i32) (x1 : Vec Ideal S512 .i32) (x2 : Vec Ideal S1024x128 .f32) (x3 : Vec Ideal S64x128 .f32) (x4 : Vec Ideal S1024x128 .i32) (x5 : Vec Ideal S8x128 .f32) (x6 : Vec Ideal S8x128 .i32) (z : S8x128.Idx) :
    out10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z = (blockRow x0 x4 x5 x6 (placed i x1 x3 x2) (rowIn (z 0) (z 1))).scale := by
  unfold out10
  refine View.read_writes_apply_of_pieces VO10 VO10.junk (fun z : S8x128.Idx => (blockRow x0 x4 x5 x6 (placed i x1 x3 x2) (rowIn (z 0) (z 1))).scale) _ (fun p hp => ?_) z
    (cover10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 z)
  rw [pieces10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6] at hp
  obtain ⟨b, rfl⟩ := of_mem_eight (f := piece10 (F := Ideal) arg5 harg5 arg6 harg6 arg7 harg7 arg12 harg12 x4 x5 x6 (placed i x1 x3 x2)) hp
  exact piece10_row arg5 harg5 arg6 harg6 arg7 harg7 arg12 harg12 x0 x4 x5 x6 (placed i x1 x3 x2) b

end Cert.KernelIdeal.Hand

end
-- ==== Proof.Segments.lean ====
/- What the walk over the boundary partials leaves, when rows can be added in any order: the last opened row of a segment
   holds the sum of all the segment's partials, provided the partials of a segment are contiguous. -/
module

public import proofs.«01_k».proof.Proof.Fold
public import Mathlib.Algebra.BigOperators.Ring.Finset
public import Mathlib.Algebra.BigOperators.Group.Finset.Basic

@[expose] public section

namespace Cert.Fold

open Finset

variable {R : Type} [AddCommMonoid R] (seg : ℕ → BitVec 32) (part : ℕ → R)

/-- Between two entries of one segment every valid entry is of that segment. -/
def Contiguous : Prop := ∀ a b c, a < b → b < c → c < 64 → Valid (seg a) → Valid (seg b) → seg a = seg c → seg b = seg a

/-- What the walk keeps: opened rows carry their entry's segment; the opened rows of a segment add up to its partials;
    every segment met has an opened row; `hid` is the segment of the last valid entry; and two opened rows of one segment
    are entry 32 and the row it continues. -/
structure Sums (k : ℕ) (s : St R) : Prop where
  live : ∀ e < k, Valid (s.mid e) → s.mid e = seg e
  sum : ∀ u, Valid u → ∑ e ∈ range k, (if s.mid e = u then s.row e else 0) = ∑ e ∈ range k, if seg e = u then part e else 0
  found : ∀ e < k, Valid (seg e) → ∃ e' < k, s.mid e' = seg e
  last : Valid s.hid → ∃ p < k, seg p = s.hid ∧ ∀ q, p < q → q < k → ¬ Valid (seg q)
  none : ¬ Valid s.hid → ∀ q < k, ¬ Valid (seg q)
  uniq : ∀ e₁ e₂, e₁ < e₂ → e₂ < k → Valid (s.mid e₁) → s.mid e₁ = s.mid e₂ → e₂ = 32 ∧ Valid s.prior ∧ s.prior.toNat = e₁
  prior32 : 32 < k → Valid (s.mid 32) → Valid s.prior → s.prior.toNat < 32 ∧ s.mid s.prior.toNat = s.mid 32

theorem sums_init (row₀ : ℕ → R) : Sums seg part 0 (⟨0#32, -1#32, fun _ => 0#32, 0#32, row₀⟩ : St R) where
  live e he := absurd he (by omega)
  sum u _ := rfl
  found e he := absurd he (by omega)
  last h := absurd h not_valid_neg_one
  none _ q hq := absurd hq (by omega)
  uniq e₁ e₂ h he := absurd he (by omega)
  prior32 h := absurd h (by omega)

/-- The word written for entry `k`. -/
def midAt (k : ℕ) (s : St R) : BitVec 32 := if Valid (seg k) ∧ Fresh k (seg k) s.hid then seg k else -1#32

theorem midAt_valid {k : ℕ} {s : St R} (h : Valid (midAt seg k s)) : midAt seg k s = seg k ∧ Valid (seg k) ∧ Fresh k (seg k) s.hid := by
  unfold midAt at h ⊢
  by_cases hc : Valid (seg k) ∧ Fresh k (seg k) s.hid
  · rw [if_pos hc]; exact ⟨rfl, hc⟩
  · rw [if_neg hc] at h; exact absurd h not_valid_neg_one

theorem step_mid_lt {k : ℕ} {s : St R} {add : R → R → R} {e : ℕ} (he : e < k) : (step seg part add k s).mid e = s.mid e :=
  Function.update_of_ne (by omega) ..

theorem step_mid_self {k : ℕ} {s : St R} {add : R → R → R} : (step seg part add k s).mid k = midAt seg k s :=
  Function.update_self ..

theorem sums_step (hC : Contiguous seg) {k : ℕ} (hk : k < 64) {s : St R} (hg : Good k s) (h : Sums seg part k s) :
    Sums seg part (k + 1) (step seg part (· + ·) k s) where
  live e he hv := by
    by_cases hek : e = k
    · subst hek
      rw [step_mid_self] at hv ⊢
      exact (midAt_valid seg hv).1
    · rw [step_mid_lt seg part (by omega)] at hv ⊢
      exact h.live e (by omega) hv
  sum u hu := by
    have hmid : ∀ e ∈ range k, (if (step seg part (· + ·) k s).mid e = u then (step seg part (· + ·) k s).row e else 0)
        = if s.mid e = u then (step seg part (· + ·) k s).row e else 0 := fun e he => by
      rw [step_mid_lt seg part (mem_range.mp he)]
    rw [sum_range_succ, sum_range_succ, sum_congr rfl hmid, step_mid_self, ← h.sum u hu]
    by_cases hval : Valid (seg k)
    · by_cases hf : Fresh k (seg k) s.hid
      · rw [show (step seg part (· + ·) k s).row = Function.update s.row k (part k) by simp only [step, if_pos hval, if_pos hf],
          show midAt seg k s = seg k from if_pos ⟨hval, hf⟩, Function.update_self]
        refine congrArg₂ (· + ·) (sum_congr rfl fun e he => ?_) rfl
        rw [Function.update_of_ne (by have := mem_range.mp he; omega)]
      · have he : seg k = s.hid := by by_contra hne; exact hf (.inl hne)
        have hl := hg.hid_live (he ▸ hval)
        rw [show (step seg part (· + ·) k s).row = Function.update s.row s.head.toNat (s.row s.head.toNat + part k) by simp only [step, if_pos hval, if_neg hf],
          show midAt seg k s = -1#32 from if_neg (fun hc => hf hc.2), if_neg (fun hc : -1#32 = u => not_valid_neg_one (hc ▸ hu)), add_zero]
        have hs : ∀ e ∈ range k, (if s.mid e = u then Function.update s.row s.head.toNat (s.row s.head.toNat + part k) e else 0)
            = (if s.mid e = u then s.row e else 0) + if e = s.head.toNat then (if seg k = u then part k else 0) else 0 := fun e _ => by
          by_cases hee : e = s.head.toNat
          · subst hee
            rw [Function.update_self, if_pos rfl, hl.2, he]
            by_cases hue : s.hid = u
            · rw [if_pos hue, if_pos hue, if_pos hue]
            · rw [if_neg hue, if_neg hue, if_neg hue, add_zero]
          · rw [Function.update_of_ne hee, if_neg hee, add_zero]
        rw [sum_congr rfl hs, sum_add_distrib, sum_ite_eq', if_pos (mem_range.mpr hl.1)]
    · rw [show (step seg part (· + ·) k s).row = s.row by simp only [step, if_neg hval],
        show midAt seg k s = -1#32 from if_neg (fun hc => hval hc.1), if_neg (fun hc : -1#32 = u => not_valid_neg_one (hc ▸ hu)), if_neg (fun hc : seg k = u => hval (hc ▸ hu))]
  found e he hv := by
    by_cases hek : e = k
    · subst hek
      by_cases hf : Fresh e (seg e) s.hid
      · exact ⟨e, Nat.lt_succ_self e, by rw [step_mid_self, midAt, if_pos ⟨hv, hf⟩]⟩
      · have he : seg e = s.hid := by by_contra hne; exact hf (.inl hne)
        have hl := hg.hid_live (he ▸ hv)
        exact ⟨s.head.toNat, by omega, by rw [step_mid_lt seg part hl.1, hl.2, he]⟩
    · obtain ⟨e', he', heq⟩ := h.found e (by omega) hv
      exact ⟨e', by omega, by rw [step_mid_lt seg part he', heq]⟩
  last hv := by
    simp only [step] at hv ⊢
    by_cases hval : Valid (seg k)
    · rw [if_pos hval]; exact ⟨k, Nat.lt_succ_self k, rfl, fun q h1 h2 => absurd h1 (by omega)⟩
    · rw [if_neg hval] at hv ⊢
      obtain ⟨p, hp, hps, hq⟩ := h.last hv
      refine ⟨p, by omega, hps, fun q h1 h2 => ?_⟩
      by_cases hqk : q = k
      · subst hqk; exact hval
      · exact hq q h1 (by omega)
  none hv q hq := by
    simp only [step] at hv
    by_cases hval : Valid (seg k)
    · rw [if_pos hval] at hv; exact absurd hval hv
    · rw [if_neg hval] at hv
      by_cases hqk : q = k
      · subst hqk; exact hval
      · exact h.none hv q (by omega)
  uniq e₁ e₂ h12 he₂ hv heq := by
    rw [step_mid_lt seg part (by omega)] at hv heq
    by_cases hek : e₂ = k
    · subst hek
      rw [step_mid_self] at heq
      obtain ⟨hm, hval, hf⟩ := midAt_valid seg (heq ▸ hv)
      have hlive := h.live e₁ h12 hv
      have hseg : seg e₁ = seg e₂ := by rw [← hlive, heq, hm]
      have hhid : seg e₂ = s.hid := by
        by_cases hh : Valid s.hid
        · obtain ⟨p, hp, hps, hq⟩ := h.last hh
          by_cases hpe : p = e₁
          · rw [← hps, hpe, hseg]
          · have hlt : e₁ < p := by
              by_contra hc
              exact hq e₁ (by omega) h12 (hseg ▸ hval)
            rw [← hps, hC e₁ p e₂ hlt hp hk (hseg ▸ hval) (hps ▸ hh) hseg, hseg]
        · exact absurd (hseg ▸ hval) (h.none hh e₁ h12)
      have h32 : e₂ = 32 := by
        rcases hf with hne | h32
        · exact absurd hhid hne
        · exact h32
      have hp : (step seg part (· + ·) e₂ s).prior = s.head := by unfold step; exact if_pos ⟨h32, hhid⟩
      have hl := hg.hid_live (hhid ▸ hval)
      rw [hp]
      refine ⟨h32, valid_of_lt hg.head_lt, ?_⟩
      have hmm : s.mid s.head.toNat = s.mid e₁ := by rw [hl.2, heq, hm, hhid]
      rcases Nat.lt_trichotomy s.head.toNat e₁ with hlt | he | hgt
      · exact absurd (h.uniq _ _ hlt h12 (hmm ▸ hv) hmm).1 (by omega)
      · exact he
      · exact absurd (h.uniq _ _ hgt hl.1 hv hmm.symm).1 (by omega)
    · rw [step_mid_lt seg part (by omega)] at heq
      obtain ⟨h32, hp, hpe⟩ := h.uniq e₁ e₂ h12 (by omega) hv heq
      have : (step seg part (· + ·) k s).prior = s.prior := by
        simp only [step]
        rw [if_neg (by omega), if_neg (by omega)]
      rw [this]
      exact ⟨h32, hp, hpe⟩
  prior32 h32 hv hp := by
    by_cases hk32 : k = 32
    · subst hk32
      rw [step_mid_self] at hv ⊢
      obtain ⟨hm, hval, hf⟩ := midAt_valid seg hv
      by_cases heq : seg 32 = s.hid
      · have hpe : (step seg part (· + ·) 32 s).prior = s.head := by unfold step; exact if_pos ⟨rfl, heq⟩
        have hl := hg.hid_live (heq ▸ hval)
        rw [hpe, step_mid_lt seg part hl.1, hl.2, hm, heq]
        exact ⟨hl.1, rfl⟩
      · have hpe : (step seg part (· + ·) 32 s).prior = s.prior := by
          simp only [step]
          rw [if_neg (fun hc => heq hc.2), if_neg (by omega)]
        rw [hpe, hg.prior_early (by omega) (by omega)] at hp
        exact absurd hp not_valid_neg_one
    · have hpe : (step seg part (· + ·) k s).prior = s.prior := by
        simp only [step]
        rw [if_neg (by omega), if_neg (by omega)]
      rw [hpe] at hp ⊢
      rw [step_mid_lt seg part (show 32 < k by omega)] at hv ⊢
      obtain ⟨h1, h2⟩ := h.prior32 (by omega) hv hp
      rw [step_mid_lt seg part (by omega)]
      exact ⟨h1, h2⟩

theorem sums_run (hC : Contiguous seg) (row₀ : ℕ → R) :
    ∀ k, k ≤ 64 → Sums seg part k (run seg part (· + ·) (fun _ => 0#32) 0#32 row₀ k)
  | 0, _ => sums_init seg part row₀
  | k + 1, h => sums_step seg part hC (by omega) (good_run seg part (· + ·) _ _ _ k (by omega)) (sums_run hC row₀ k (by omega))

/-- The last opened row of a segment holds the sum of its partials. -/
theorem rows_last (hC : Contiguous seg) (dflt : ℕ → R) {e : ℕ} (he : e < 64) (hv : Valid (mids seg part (· + ·) dflt e))
    (hlast : ∀ e', e < e' → e' < 64 → mids seg part (· + ·) dflt e' ≠ mids seg part (· + ·) dflt e) :
    rows seg part (· + ·) dflt e = ∑ e' ∈ range 64, if seg e' = mids seg part (· + ·) dflt e then part e' else 0 := by
  have h := sums_run seg part hC dflt 64 (by omega)
  unfold mids at hv hlast ⊢
  unfold rows
  generalize run seg part (· + ·) (fun _ => 0#32) 0#32 dflt 64 = s at *
  rw [← h.sum _ hv]
  have hothers : ∀ e' ∈ range 64, e' ≠ e → (Valid s.prior → s.prior.toNat ≠ e' ∨ e ≠ 32) → (if s.mid e' = s.mid e then s.row e' else 0) = 0 := fun e' he' hne hp => by
    by_cases hm : s.mid e' = s.mid e
    · exfalso
      rcases Nat.lt_or_ge e e' with hlt | hge
      · exact hlast e' hlt (mem_range.mp he') hm
      · have := h.uniq e' e (by omega) he (hm ▸ hv) hm
        rcases hp this.2.1 with h1 | h1
        · exact h1 this.2.2
        · exact h1 this.1
    · rw [if_neg hm]
  unfold finish
  by_cases h32 : e = 32
  · subst h32
    by_cases hp : Valid s.prior
    · obtain ⟨hlt, hm⟩ := h.prior32 (by omega) hv hp
      rw [if_pos hp, Function.update_self, ← add_sum_erase _ _ (mem_range.mpr (show s.prior.toNat < 64 by omega)), if_pos hm]
      refine congrArg (_ + ·) (Eq.symm ((sum_eq_single 32 (fun e' he' hne => ?_) (fun hn => ?_)).trans (if_pos rfl)))
      · exact hothers e' (mem_of_mem_erase he') hne fun _ => .inl (ne_of_mem_erase he').symm
      · exact absurd (mem_erase.mpr ⟨by omega, mem_range.mpr he⟩) hn
    · rw [if_neg hp]
      refine Eq.symm ((sum_eq_single 32 (fun e' he' hne => ?_) (fun hn => absurd (mem_range.mpr he) hn)).trans (if_pos rfl))
      exact hothers e' he' hne fun hp' => absurd hp' hp
  · have : (if Valid s.prior then Function.update s.row 32 (s.row s.prior.toNat + s.row 32) else s.row) e = s.row e := by
      split
      · exact Function.update_of_ne h32 ..
      · rfl
    rw [this]
    refine Eq.symm ((sum_eq_single e (fun e' he' hne => ?_) (fun hn => absurd (mem_range.mpr he) hn)).trans (if_pos rfl))
    exact hothers e' he' hne fun _ => .inr h32

/-- Every segment met has an opened row. -/
theorem mids_found (hC : Contiguous seg) (dflt : ℕ → R) {e : ℕ} (he : e < 64) (hv : Valid (seg e)) : ∃ e' < 64, mids seg part (· + ·) dflt e' = seg e :=
  (sums_run seg part hC dflt 64 (by omega)).found e he hv

theorem mids_live (hC : Contiguous seg) (dflt : ℕ → R) {e : ℕ} (he : e < 64) (hv : Valid (mids seg part (· + ·) dflt e)) :
    mids seg part (· + ·) dflt e = seg e :=
  (sums_run seg part hC dflt 64 (by omega)).live e he hv

omit [AddCommMonoid R] in
/-- What placing leaves in a row: the row of the last entry whose segment names it, or what was there. -/
theorem place_last (base : BitVec 32) (mid : ℕ → BitVec 32) (row g : ℕ → R) {r : ℕ} (hr : r < 1024) : ∀ k,
    (∃ e < k, (mid e - base).toNat = r ∧ (∀ e', e < e' → e' < k → (mid e' - base).toNat ≠ r) ∧ place base mid row g k r = row e)
    ∨ ((∀ e < k, (mid e - base).toNat ≠ r) ∧ place base mid row g k r = g r)
  | 0 => .inr ⟨fun e he => absurd he (by omega), rfl⟩
  | k + 1 => by
    by_cases hk : (mid k - base).toNat = r
    · refine .inl ⟨k, Nat.lt_succ_self k, hk, fun e' h1 h2 => absurd h1 (by omega), ?_⟩
      rw [place, if_pos (hk ▸ hr), hk, Function.update_self]
    · have hsame : place base mid row g (k + 1) r = place base mid row g k r := by
        rw [place]
        split
        · exact Function.update_of_ne (fun h => hk h.symm) ..
        · rfl
      rw [hsame]
      rcases place_last base mid row g hr k with ⟨e, he, h1, h2, h3⟩ | ⟨h1, h2⟩
      · refine .inl ⟨e, by omega, h1, fun e' h4 h5 => ?_, h3⟩
        by_cases hek : e' = k
        · subst hek; exact hk
        · exact h2 e' h4 (by omega)
      · refine .inr ⟨fun e he => ?_, h2⟩
        by_cases hek : e = k
        · subst hek; exact hk
        · exact h1 e (by omega)

open Classical in
/-- The row of the sums at a grid point, in full: the sum of the segment's partials where there is one, and otherwise
    what the block held. -/
theorem place_sums (hC : Contiguous seg) (dflt g : ℕ → R) {base u : BitVec 32} (hu : Valid u) {r : ℕ} (hr : r < 1024) (hb : ∀ w : BitVec 32, (w - base).toNat = r ↔ w = u) :
    place base (mids seg part (· + ·) dflt) (rows seg part (· + ·) dflt) g 64 r
      = if ∃ e < 64, seg e = u then ∑ e ∈ range 64, (if seg e = u then part e else 0) else g r := by
  rcases place_last base (mids seg part (· + ·) dflt) (rows seg part (· + ·) dflt) g hr 64 with ⟨e, he, h1, h2, h3⟩ | ⟨h1, h2⟩
  · have hm := (hb _).mp h1
    have hv : Valid (mids seg part (· + ·) dflt e) := hm ▸ hu
    rw [h3, rows_last seg part hC dflt he hv (fun e' h4 h5 => fun hc => h2 e' h4 h5 ((hb _).mpr (hc.trans hm))), hm,
      if_pos ⟨e, he, (mids_live seg part hC dflt he hv).symm.trans hm⟩]
  · rw [h2, if_neg]
    rintro ⟨e, he, hs⟩
    obtain ⟨e', he', hm⟩ := mids_found seg part hC dflt he (hs ▸ hu)
    exact h1 e' he' ((hb _).mpr (hm.trans hs))

end Cert.Fold
-- ==== Proof.KernelIdeal.Placed.lean ====
/- The gradient sums of a grid point over the extended reals: a row that some boundary entry names takes the sum of
   all the partials of its name, every other row keeps what the block held. -/
module

public import proofs.«01_k».proof.Proof.KernelIdeal.Stored
public import proofs.«01_k».proof.Proof.Segments

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The gradient sum of a row numbered `u`: the sum of the partials that name it where there are any, `g` otherwise. -/
def sumOf (seg : ℕ → BitVec 32) (part : ℕ → EReal) (g : EReal) (u : BitVec 32) : EReal :=
  open Classical in if ∃ e < 64, seg e = u then ∑ e ∈ Finset.range 64, (if seg e = u then part e else 0) else g

/-- The number of row `R` of the block at a grid point. -/
abbrev rowNo (i : grid0.Coords) (R : Fin 1024) : BitVec 32 := BitVec.ofNat 32 (1024 * (i 0).val + R.val)

theorem rowNo_valid (i : grid0.Coords) (R : Fin 1024) : Fold.Valid (rowNo i R) := by
  have h : (i 0).val < 16 := (i 0).isLt
  show (0#32).sle _ = true
  rw [BitVec.sle_iff_toInt_le, BitVec.toInt_eq_toNat_cond, BitVec.toInt_eq_toNat_cond, BitVec.toNat_ofNat, BitVec.toNat_ofNat]
  split <;> split <;> omega

theorem rowNo_iff (i : grid0.Coords) (R : Fin 1024) (w : BitVec 32) : (w - baseOf i).toNat = R.val ↔ w = rowNo i R := by
  have h : (i 0).val < 16 := (i 0).isLt
  rw [← BitVec.toNat_inj, BitVec.toNat_sub, baseOf, BitVec.toNat_mul, BitVec.toNat_ofNat, BitVec.toNat_ofNat, BitVec.toNat_ofNat]
  have := w.isLt
  have := R.isLt
  omega

theorem placed_apply (i : grid0.Coords) (x1 : Vec Ideal S512 .i32) (x3 : Vec Ideal S64x128 .f32) (x2 : Vec Ideal S1024x128 .f32)
    (hC : Fold.Contiguous (segOf (F := Ideal) x1)) (R : Fin 1024) (l : Fin 128) :
    placed (F := Ideal) i x1 x3 x2 (ix2 R l) = sumOf (segOf (F := Ideal) x1) (fun e => rowOf (F := Ideal) x3 e (ix2 (0 : Fin 1) l)) (x2 (ix2 R l)) (rowNo i R) := by
  have key := Fold.place_sums (R := S1x128.Idx → EReal) (segOf (F := Ideal) x1) (rowOf (F := Ideal) x3) hC (fun _ => row0 (F := Ideal)) (blkOf (F := Ideal) x2)
    (rowNo_valid i R) R.isLt (rowNo_iff i R)
  have e : (fun | (0 : Fin 2) => (⟨0, by decide⟩ : Fin 1) | (1 : Fin 2) => l : S1x128.Idx) = ix2 (0 : Fin 1) l := by
    funext a
    match a with
    | ⟨0, _⟩ => rfl
    | ⟨1, _⟩ => rfl
  have := congrFun key (ix2 (0 : Fin 1) l)
  refine Eq.trans (congrArg (Fold.place _ _ _ (blkOf (F := Ideal) x2) 64 R.val : S1x128.Idx → EReal) e) (this.trans ?_)
  · unfold sumOf
    split
    · rw [Finset.sum_apply]
      refine Finset.sum_congr rfl fun e _ => ?_
      split <;> rfl
    · unfold blkOf
      rw [dif_pos R.isLt]
      refine congrArg x2 (funext fun a => ?_)
      match a with
      | ⟨0, _⟩ => rfl
      | ⟨1, _⟩ => rfl

end Cert.KernelIdeal.Hand

end
-- ==== Proof.KernelIdeal.Inputs.lean ====
/- The rows a grid point works on, read off the argument arrays: row `R` of the block at point `t` is row
   `1024 * t + R` of the table. -/
module

public import proofs.«01_k».proof.Proof.KernelIdeal.Placed

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

/-- The last 64 rows of the extended sums: the partials of the boundary entries. -/
def tail (a2 : Vec Ideal S16448x128 .f32) : Vec Ideal S64x128 .f32 :=
  fun z => a2 (ix2 (⟨16384 + (z (0 : Fin 2)).val, by have : (z (0 : Fin 2)).val < 64 := (z (0 : Fin 2)).isLt; omega⟩ : Fin 16448) (z (1 : Fin 2) : Fin 128))

/-- Row `R` of the table, over the argument arrays: the step, the boundary entries' segments, the sums extended by the
    partials, the old words, the packed old scales and the packed ids. -/
def tableRow (a0 : Vec Ideal S1 .i32) (a1 : Vec Ideal S512 .i32) (a2 : Vec Ideal S16448x128 .f32) (a3 : Vec Ideal S16384x128 .i32)
    (a4 : Vec Ideal S128x128 .f32) (a5 : Vec Ideal S128x128 .i32) (R : Fin 16384) : RowData where
  word l := a3 (ix2 R l)
  id := a5 (ix2 (⟨R.val / 128, by omega⟩ : Fin 128) (⟨R.val % 128, by omega⟩ : Fin 128))
  sold := a4 (ix2 (⟨R.val / 128, by omega⟩ : Fin 128) (⟨R.val % 128, by omega⟩ : Fin 128))
  grad l := sumOf (segOf (F := Ideal) a1) (fun e => rowOf (F := Ideal) (tail a2) e (ix2 (0 : Fin 1) l)) (a2 (ix2 (⟨R.val, by omega⟩ : Fin 16448) l)) (BitVec.ofNat 32 R.val)
  step := a0 (ix1 (0 : Fin 1))

variable (m : (ℓ : Loc nD τ sig) → Buf (Elt Ideal) ℓ)

theorem point_lt (t : Fin cfg0.N) : t.val < 16 := lt_of_lt_of_eq t.isLt N_0

/-- Row `R` of the block at point `t`, as a row of the table. -/
abbrev rowAt (t : Fin cfg0.N) (R : Fin 1024) : Fin 16384 := ⟨1024 * t.val + R.val, by have := point_lt t; omega⟩

theorem coords_val : ∀ t : Fin cfg0.N, (grid0.coords t 0).val = t.val := (by decide +kernel : ∀ t : Fin grid0.N, (grid0.coords t 0).val = t.val)
theorem index0 : ∀ t : Fin cfg0.N, win0_0.index t (0 : Fin 1) = 0 := (by decide +kernel : ∀ t : Fin grid0.N, _)
theorem index1 : ∀ t : Fin cfg0.N, win0_1.index t (0 : Fin 1) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 256 ∧ win0_3.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)

/-- The step's block is the step. -/
theorem blk_step (c : Dev nD) (t : Fin cfg0.N) : (iblk m c 0 t : Vec Ideal S1 .i32) = m ((c : Thread nD τ).loc main_arg0) := by
  funext y
  unfold iblk
  rw [View.read_apply]
  refine congrArg (m ((c : Thread nD τ).loc main_arg0)) (funext fun a => Fin.ext ?_)
  match a with
  | ⟨0, _⟩ => show win0_0.index t (0 : Fin 1) * 1 + 1 * (y 0).val = (y 0).val; rw [index0]; omega

/-- The segment words' block is all of them. -/
theorem blk_segs (c : Dev nD) (t : Fin cfg0.N) : (iblk m c 1 t : Vec Ideal S512 .i32) = m ((c : Thread nD τ).loc main_arg1) := by
  funext y
  unfold iblk
  rw [View.read_apply]
  refine congrArg (m ((c : Thread nD τ).loc main_arg1)) (funext fun a => Fin.ext ?_)
  match a with
  | ⟨0, _⟩ => show win0_1.index t (0 : Fin 1) * 512 + 1 * (y 0).val = (y 0).val; rw [index1]; omega

/-- The partials' block is the last 64 rows of the extended sums. -/
theorem blk_part (c : Dev nD) (t : Fin cfg0.N) : (iblk m c 3 t : Vec Ideal S64x128 .f32) = tail (m ((c : Thread nD τ).loc main_arg2)) := by
  funext y
  unfold iblk
  rw [View.read_apply]
  obtain ⟨h0, h1⟩ := index3 t
  refine congrArg (m ((c : Thread nD τ).loc main_arg2)) (funext fun a => Fin.ext ?_)
  match a with
  | ⟨0, _⟩ => show win0_3.index t (0 : Fin 2) * 64 + 1 * (y 0).val = 16384 + (y 0).val; rw [h0]; omega
  | ⟨1, _⟩ => show win0_3.index t (1 : Fin 2) * 128 + 1 * (y 1).val = (y 1).val; rw [h1]; omega

theorem blk_sums (c : Dev nD) (t : Fin cfg0.N) (R : Fin 1024) (l : Fin 128) :
    (X0_2 m c t : Vec Ideal S1024x128 .f32) (ix2 R l) = (m ((c : Thread nD τ).loc main_arg2) : Vec Ideal S16448x128 .f32) (ix2 (⟨(rowAt t R).val, by have := point_lt t; show 1024 * t.val + R.val < 16448; omega⟩ : Fin 16448) l) := by
  unfold X0_2 Pipeline.Window.fill
  rw [dif_pos (moved0_2 t _)]
  unfold iblk
  rw [View.read_apply]
  obtain ⟨h0, h1⟩ := index2 t
  refine congrArg (m ((c : Thread nD τ).loc main_arg2)) (funext fun a => Fin.ext ?_)
  match a with
  | ⟨0, _⟩ => show win0_2.index t (0 : Fin 2) * 1024 + 1 * R.val = 1024 * t.val + R.val; rw [h0]; omega
  | ⟨1, _⟩ => show win0_2.index t (1 : Fin 2) * 128 + 1 * l.val = l.val; rw [h1]; omega

theorem blk_words (c : Dev nD) (t : Fin cfg0.N) (R : Fin 1024) (l : Fin 128) :
    (iblk m c 4 t : Vec Ideal S1024x128 .i32) (ix2 R l) = (m ((c : Thread nD τ).loc main_arg3) : Vec Ideal S16384x128 .i32) (ix2 (rowAt t R) l) := by
  unfold iblk
  rw [View.read_apply]
  obtain ⟨h0, h1⟩ := index4 t
  refine congrArg (m ((c : Thread nD τ).loc main_arg3)) (funext fun a => Fin.ext ?_)
  match a with
  | ⟨0, _⟩ => show win0_4.index t (0 : Fin 2) * 1024 + 1 * R.val = 1024 * t.val + R.val; rw [h0]; omega
  | ⟨1, _⟩ => show win0_4.index t (1 : Fin 2) * 128 + 1 * l.val = l.val; rw [h1]; omega

/-- Line `b` of the packed scales and ids at point `t`, as a line of the table's. -/
abbrev lineAt (t : Fin cfg0.N) (b : Fin 8) : Fin 128 := ⟨8 * t.val + b.val, by have := point_lt t; omega⟩

theorem blk_scales (c : Dev nD) (t : Fin cfg0.N) (b : Fin 8) (l : Fin 128) :
    (iblk m c 5 t : Vec Ideal S8x128 .f32) (ix2 b l) = (m ((c : Thread nD τ).loc main_arg4) : Vec Ideal S128x128 .f32) (ix2 (lineAt t b) l) := by
  unfold iblk
  rw [View.read_apply]
  obtain ⟨h0, h1⟩ := index5 t
  refine congrArg (m ((c : Thread nD τ).loc main_arg4)) (funext fun a => Fin.ext ?_)
  match a with
  | ⟨0, _⟩ => show win0_5.index t (0 : Fin 2) * 8 + 1 * b.val = 8 * t.val + b.val; rw [h0]; omega
  | ⟨1, _⟩ => show win0_5.index t (1 : Fin 2) * 128 + 1 * l.val = l.val; rw [h1]; omega

theorem blk_ids (c : Dev nD) (t : Fin cfg0.N) (b : Fin 8) (l : Fin 128) :
    (iblk m c 6 t : Vec Ideal S8x128 .i32) (ix2 b l) = (m ((c : Thread nD τ).loc main_arg5) : Vec Ideal S128x128 .i32) (ix2 (lineAt t b) l) := by
  unfold iblk
  rw [View.read_apply]
  obtain ⟨h0, h1⟩ := index6 t
  refine congrArg (m ((c : Thread nD τ).loc main_arg5)) (funext fun a => Fin.ext ?_)
  match a with
  | ⟨0, _⟩ => show win0_6.index t (0 : Fin 2) * 8 + 1 * b.val = 8 * t.val + b.val; rw [h0]; omega
  | ⟨1, _⟩ => show win0_6.index t (1 : Fin 2) * 128 + 1 * l.val = l.val; rw [h1]; omega

/-- The table's row `R` over what device `c` holds at the start. -/
abbrev rowOn (c : Dev nD) (R : Fin 16384) : RowData :=
  tableRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R

/-- Row `R` of the block at point `t` is row `1024 * t + R` of the table. -/
theorem blockRow_eq (c : Dev nD) (hC : Fold.Contiguous (segOf (F := Ideal) (m ((c : Thread nD τ).loc main_arg1)))) (t : Fin cfg0.N) (R : Fin 1024) :
    blockRow (iblk m c 0 t) (iblk m c 4 t) (iblk m c 5 t) (iblk m c 6 t) (placed (F := Ideal) (grid0.coords t) (iblk m c 1 t) (iblk m c 3 t) (X0_2 m c t)) R
      = rowOn m c (rowAt t R) := by
  have hline : lineAt t ⟨R.val / 128, by omega⟩ = ⟨(rowAt t R).val / 128, by omega⟩ := Fin.ext (by
    show 8 * t.val + R.val / 128 = (1024 * t.val + R.val) / 128; omega)
  have hlane : (⟨R.val % 128, by omega⟩ : Fin 128) = ⟨(rowAt t R).val % 128, by omega⟩ := Fin.ext (by
    show R.val % 128 = (1024 * t.val + R.val) % 128; omega)
  unfold blockRow rowOn tableRow
  congr 1
  · exact funext fun l => blk_words m c t R l
  · rw [blk_ids, hline, hlane]
  · rw [blk_scales, hline, hlane]
  · funext l
    rw [blk_segs, blk_part, placed_apply _ _ _ _ hC, blk_sums, rowNo, coords_val]
  · rw [blk_step]

end Cert.KernelIdeal.Hand

end
-- ==== Proof.KernelIdeal.Arrays.lean ====
/- The kernel's four result arrays over the extended reals: every row is the row of the table (`tableRow`). -/
module

public import proofs.«01_k».proof.Proof.KernelIdeal.Inputs
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The table's row whose scale stands at line `b` and lane `l` of the packed scales. -/
abbrev tableNo (b l : Fin 128) : Fin 16384 := ⟨128 * b.val + l.val, by omega⟩

/-! ## The updated rows -/

/-- The updated rows of the whole table. -/
def G7 (c : Dev nD) : Vec Ideal S16384x128 .f32 := fun i => (rowOn m c (i 0)).w (i 1)

theorem index7 : ∀ t : Fin cfg0.N, win0_7.index t (0 : Fin 2) = t.val ∧ win0_7.index t (1 : Fin 2) = 0 := (by decide +kernel : ∀ t : Fin grid0.N, _)
theorem flush7 : ∀ t : Fin cfg0.N, (cfg0.win 7).flush t = true := (by decide +kernel : ∀ t : Fin grid0.N, win0_7.flush t = true)

/-- What point `t` writes back is block `t` of the table's updated rows. -/
theorem flushed7 (c : Dev nD) (hC : Fold.Contiguous (segOf (F := Ideal) (m ((c : Thread nD τ).loc main_arg1)))) (t : Fin cfg0.N) :
    (dats m 0 c).flushed 7 t = ((cfg0.win 7).blk t).view.read (Elt Ideal) (G7 m c) := by
  show (cfg0.win 7).cut (grid0.coords t) ((dats m 0 c).after 7 t) = _
  rw [after_7]
  funext y
  obtain ⟨e0, e1⟩ := index7 t
  have h0 : ((cfg0.win 7).blk t).view.emb y (0 : Fin 2) = rowAt t (y 0) := Fin.ext (by
    show win0_7.index t (0 : Fin 2) * 1024 + 1 * (y 0).val = 1024 * t.val + (y 0).val; rw [e0]; omega)
  have h1 : ((cfg0.win 7).blk t).view.emb y (1 : Fin 2) = (y 1 : Fin 128) := Fin.ext (by
    show win0_7.index t (1 : Fin 2) * 128 + 1 * (y 1).val = (y 1).val; rw [e1]; omega)
  refine (out7_apply ..).trans ?_
  exact (congrArg (fun ρ : RowData => ρ.w (y 1 : Fin 128)) (blockRow_eq m c hC t (y 0 : Fin 1024))).trans
    (congrArg₂ (fun R l => (rowOn m c R).w l) h0 h1).symm

theorem mem_blk7 (t : Fin cfg0.N) (i : S16384x128.Idx) : i ∈ ((cfg0.win 7).blk t).view.set
    ↔ ∀ a : Fin 2, win0_7.index t a * S1024x128.size a ≤ (i a).val ∧ (i a).val < win0_7.index t a * S1024x128.size a + S1024x128.size a := by
  show i ∈ ((View.whole main_v0_0).slice (win0_7.rect t)).set ↔ _
  rw [View.set_slice_whole, Rect.mem_set_unit]
  exact Iff.rfl

/-- Every place of the array is in some point's block. -/
theorem covered7 (i : S16384x128.Idx) : ∃ t : Fin cfg0.N, (cfg0.win 7).flush t = true ∧ i ∈ ((cfg0.win 7).blk t).view.set := by
  have h0 : (i 0).val < 16384 := (i 0).isLt
  have h1 : (i 1).val < 128 := (i 1).isLt
  obtain ⟨t, ht⟩ : ∃ t : Fin cfg0.N, t.val = (i 0).val / 1024 := ⟨⟨(i 0).val / 1024, lt_of_lt_of_eq (by omega) N_0.symm⟩, rfl⟩
  obtain ⟨e0, e1⟩ := index7 t
  refine ⟨t, flush7 t, ?_⟩
  rw [mem_blk7]
  intro a
  match a with
  | ⟨0, _⟩ => show win0_7.index t (0 : Fin 2) * 1024 ≤ (i 0).val ∧ (i 0).val < win0_7.index t (0 : Fin 2) * 1024 + 1024; rw [e0]; omega
  | ⟨1, _⟩ => show win0_7.index t (1 : Fin 2) * 128 ≤ (i 1).val ∧ (i 1).val < win0_7.index t (1 : Fin 2) * 128 + 128; rw [e1]; omega

/-- The array after the run. -/
theorem final7 (c : Dev nD) (hC : Fold.Contiguous (segOf (F := Ideal) (m ((c : Thread nD τ).loc main_arg1)))) : (dats m 0 c).arrAt 7 cfg0.N = G7 m c :=
  (dats m 0 c).arrAt_eq_of_cover 7 _ (fun t _ => flushed7 m c hC t) covered7

/-! ## The rounding errors -/

/-- The rounding errors of the whole table. -/
def G8 (c : Dev nD) : Vec Ideal S16384x128 .f32 := fun i => (rowOn m c (i 0)).err (i 1)

theorem index8 : ∀ t : Fin cfg0.N, win0_8.index t (0 : Fin 2) = t.val ∧ win0_8.index t (1 : Fin 2) = 0 := (by decide +kernel : ∀ t : Fin grid0.N, _)
theorem flush8 : ∀ t : Fin cfg0.N, (cfg0.win 8).flush t = true := (by decide +kernel : ∀ t : Fin grid0.N, win0_8.flush t = true)

/-- What point `t` writes back is block `t` of the table's rounding errors. -/
theorem flushed8 (c : Dev nD) (hC : Fold.Contiguous (segOf (F := Ideal) (m ((c : Thread nD τ).loc main_arg1)))) (t : Fin cfg0.N) :
    (dats m 0 c).flushed 8 t = ((cfg0.win 8).blk t).view.read (Elt Ideal) (G8 m c) := by
  show (cfg0.win 8).cut (grid0.coords t) ((dats m 0 c).after 8 t) = _
  rw [after_8]
  funext y
  obtain ⟨e0, e1⟩ := index8 t
  have h0 : ((cfg0.win 8).blk t).view.emb y (0 : Fin 2) = rowAt t (y 0) := Fin.ext (by
    show win0_8.index t (0 : Fin 2) * 1024 + 1 * (y 0).val = 1024 * t.val + (y 0).val; rw [e0]; omega)
  have h1 : ((cfg0.win 8).blk t).view.emb y (1 : Fin 2) = (y 1 : Fin 128) := Fin.ext (by
    show win0_8.index t (1 : Fin 2) * 128 + 1 * (y 1).val = (y 1).val; rw [e1]; omega)
  refine (out8_apply ..).trans ?_
  exact (congrArg (fun ρ : RowData => ρ.err (y 1 : Fin 128)) (blockRow_eq m c hC t (y 0 : Fin 1024))).trans
    (congrArg₂ (fun R l => (rowOn m c R).err l) h0 h1).symm

theorem mem_blk8 (t : Fin cfg0.N) (i : S16384x128.Idx) : i ∈ ((cfg0.win 8).blk t).view.set
    ↔ ∀ a : Fin 2, win0_8.index t a * S1024x128.size a ≤ (i a).val ∧ (i a).val < win0_8.index t a * S1024x128.size a + S1024x128.size a := by
  show i ∈ ((View.whole main_v0_1).slice (win0_8.rect t)).set ↔ _
  rw [View.set_slice_whole, Rect.mem_set_unit]
  exact Iff.rfl

/-- Every place of the array is in some point's block. -/
theorem covered8 (i : S16384x128.Idx) : ∃ t : Fin cfg0.N, (cfg0.win 8).flush t = true ∧ i ∈ ((cfg0.win 8).blk t).view.set := by
  have h0 : (i 0).val < 16384 := (i 0).isLt
  have h1 : (i 1).val < 128 := (i 1).isLt
  obtain ⟨t, ht⟩ : ∃ t : Fin cfg0.N, t.val = (i 0).val / 1024 := ⟨⟨(i 0).val / 1024, lt_of_lt_of_eq (by omega) N_0.symm⟩, rfl⟩
  obtain ⟨e0, e1⟩ := index8 t
  refine ⟨t, flush8 t, ?_⟩
  rw [mem_blk8]
  intro a
  match a with
  | ⟨0, _⟩ => show win0_8.index t (0 : Fin 2) * 1024 ≤ (i 0).val ∧ (i 0).val < win0_8.index t (0 : Fin 2) * 1024 + 1024; rw [e0]; omega
  | ⟨1, _⟩ => show win0_8.index t (1 : Fin 2) * 128 ≤ (i 1).val ∧ (i 1).val < win0_8.index t (1 : Fin 2) * 128 + 128; rw [e1]; omega

/-- The array after the run. -/
theorem final8 (c : Dev nD) (hC : Fold.Contiguous (segOf (F := Ideal) (m ((c : Thread nD τ).loc main_arg1)))) : (dats m 0 c).arrAt 8 cfg0.N = G8 m c :=
  (dats m 0 c).arrAt_eq_of_cover 8 _ (fun t _ => flushed8 m c hC t) covered8

/-! ## The bytes -/

/-- The bytes of the whole table. -/
def G9 (c : Dev nD) : Vec Ideal S16384x128 .i8 := fun i => (rowOn m c (i 0)).codes (i 1)

theorem index9 : ∀ t : Fin cfg0.N, win0_9.index t (0 : Fin 2) = t.val ∧ win0_9.index t (1 : Fin 2) = 0 := (by decide +kernel : ∀ t : Fin grid0.N, _)
theorem flush9 : ∀ t : Fin cfg0.N, (cfg0.win 9).flush t = true := (by decide +kernel : ∀ t : Fin grid0.N, win0_9.flush t = true)

/-- What point `t` writes back is block `t` of the table's bytes. -/
theorem flushed9 (c : Dev nD) (hC : Fold.Contiguous (segOf (F := Ideal) (m ((c : Thread nD τ).loc main_arg1)))) (t : Fin cfg0.N) :
    (dats m 0 c).flushed 9 t = ((cfg0.win 9).blk t).view.read (Elt Ideal) (G9 m c) := by
  show (cfg0.win 9).cut (grid0.coords t) ((dats m 0 c).after 9 t) = _
  rw [after_9]
  funext y
  obtain ⟨e0, e1⟩ := index9 t
  have h0 : ((cfg0.win 9).blk t).view.emb y (0 : Fin 2) = rowAt t (y 0) := Fin.ext (by
    show win0_9.index t (0 : Fin 2) * 1024 + 1 * (y 0).val = 1024 * t.val + (y 0).val; rw [e0]; omega)
  have h1 : ((cfg0.win 9).blk t).view.emb y (1 : Fin 2) = (y 1 : Fin 128) := Fin.ext (by
    show win0_9.index t (1 : Fin 2) * 128 + 1 * (y 1).val = (y 1).val; rw [e1]; omega)
  refine (out9_apply ..).trans ?_
  exact (congrArg (fun ρ : RowData => ρ.codes (y 1 : Fin 128)) (blockRow_eq m c hC t (y 0 : Fin 1024))).trans
    (congrArg₂ (fun R l => (rowOn m c R).codes l) h0 h1).symm

theorem mem_blk9 (t : Fin cfg0.N) (i : S16384x128.Idx) : i ∈ ((cfg0.win 9).blk t).view.set
    ↔ ∀ a : Fin 2, win0_9.index t a * S1024x128.size a ≤ (i a).val ∧ (i a).val < win0_9.index t a * S1024x128.size a + S1024x128.size a := by
  show i ∈ ((View.whole main_v0_2).slice (win0_9.rect t)).set ↔ _
  rw [View.set_slice_whole, Rect.mem_set_unit]
  exact Iff.rfl

/-- Every place of the array is in some point's block. -/
theorem covered9 (i : S16384x128.Idx) : ∃ t : Fin cfg0.N, (cfg0.win 9).flush t = true ∧ i ∈ ((cfg0.win 9).blk t).view.set := by
  have h0 : (i 0).val < 16384 := (i 0).isLt
  have h1 : (i 1).val < 128 := (i 1).isLt
  obtain ⟨t, ht⟩ : ∃ t : Fin cfg0.N, t.val = (i 0).val / 1024 := ⟨⟨(i 0).val / 1024, lt_of_lt_of_eq (by omega) N_0.symm⟩, rfl⟩
  obtain ⟨e0, e1⟩ := index9 t
  refine ⟨t, flush9 t, ?_⟩
  rw [mem_blk9]
  intro a
  match a with
  | ⟨0, _⟩ => show win0_9.index t (0 : Fin 2) * 1024 ≤ (i 0).val ∧ (i 0).val < win0_9.index t (0 : Fin 2) * 1024 + 1024; rw [e0]; omega
  | ⟨1, _⟩ => show win0_9.index t (1 : Fin 2) * 128 ≤ (i 1).val ∧ (i 1).val < win0_9.index t (1 : Fin 2) * 128 + 128; rw [e1]; omega

/-- The array after the run. -/
theorem final9 (c : Dev nD) (hC : Fold.Contiguous (segOf (F := Ideal) (m ((c : Thread nD τ).loc main_arg1)))) : (dats m 0 c).arrAt 9 cfg0.N = G9 m c :=
  (dats m 0 c).arrAt_eq_of_cover 9 _ (fun t _ => flushed9 m c hC t) covered9

/-! ## The packed scales -/

/-- The packed scales of the whole table. -/
def G10 (c : Dev nD) : Vec Ideal S128x128 .f32 := fun i => (rowOn m c (tableNo (i 0) (i 1))).scale

theorem index10 : ∀ t : Fin cfg0.N, win0_10.index t (0 : Fin 2) = t.val ∧ win0_10.index t (1 : Fin 2) = 0 := (by decide +kernel : ∀ t : Fin grid0.N, _)
theorem flush10 : ∀ t : Fin cfg0.N, (cfg0.win 10).flush t = true := (by decide +kernel : ∀ t : Fin grid0.N, win0_10.flush t = true)

/-- What point `t` writes back is block `t` of the table's packed scales. -/
theorem flushed10 (c : Dev nD) (hC : Fold.Contiguous (segOf (F := Ideal) (m ((c : Thread nD τ).loc main_arg1)))) (t : Fin cfg0.N) :
    (dats m 0 c).flushed 10 t = ((cfg0.win 10).blk t).view.read (Elt Ideal) (G10 m c) := by
  show (cfg0.win 10).cut (grid0.coords t) ((dats m 0 c).after 10 t) = _
  rw [after_10]
  funext y
  obtain ⟨e0, e1⟩ := index10 t
  have h0 : tableNo (((cfg0.win 10).blk t).view.emb y (0 : Fin 2)) (((cfg0.win 10).blk t).view.emb y (1 : Fin 2)) = rowAt t (rowIn (y 0) (y 1)) := Fin.ext (by
    show 128 * (win0_10.index t (0 : Fin 2) * 8 + 1 * (y 0).val) + (win0_10.index t (1 : Fin 2) * 128 + 1 * (y 1).val) = 1024 * t.val + (128 * (y 0).val + (y 1).val)
    rw [e0, e1]; omega)
  refine (out10_apply ..).trans ?_
  exact (congrArg (fun ρ : RowData => ρ.scale) (blockRow_eq m c hC t (rowIn (y 0) (y 1)))).trans
    (congrArg (fun R => (rowOn m c R).scale) h0).symm

theorem mem_blk10 (t : Fin cfg0.N) (i : S128x128.Idx) : i ∈ ((cfg0.win 10).blk t).view.set
    ↔ ∀ a : Fin 2, win0_10.index t a * S8x128.size a ≤ (i a).val ∧ (i a).val < win0_10.index t a * S8x128.size a + S8x128.size a := by
  show i ∈ ((View.whole main_v0_3).slice (win0_10.rect t)).set ↔ _
  rw [View.set_slice_whole, Rect.mem_set_unit]
  exact Iff.rfl

/-- Every place of the array is in some point's block. -/
theorem covered10 (i : S128x128.Idx) : ∃ t : Fin cfg0.N, (cfg0.win 10).flush t = true ∧ i ∈ ((cfg0.win 10).blk t).view.set := by
  have h0 : (i 0).val < 128 := (i 0).isLt
  have h1 : (i 1).val < 128 := (i 1).isLt
  obtain ⟨t, ht⟩ : ∃ t : Fin cfg0.N, t.val = (i 0).val / 8 := ⟨⟨(i 0).val / 8, lt_of_lt_of_eq (by omega) N_0.symm⟩, rfl⟩
  obtain ⟨e0, e1⟩ := index10 t
  refine ⟨t, flush10 t, ?_⟩
  rw [mem_blk10]
  intro a
  match a with
  | ⟨0, _⟩ => show win0_10.index t (0 : Fin 2) * 8 ≤ (i 0).val ∧ (i 0).val < win0_10.index t (0 : Fin 2) * 8 + 8; rw [e0]; omega
  | ⟨1, _⟩ => show win0_10.index t (1 : Fin 2) * 128 ≤ (i 1).val ∧ (i 1).val < win0_10.index t (1 : Fin 2) * 128 + 128; rw [e1]; omega

/-- The array after the run. -/
theorem final10 (c : Dev nD) (hC : Fold.Contiguous (segOf (F := Ideal) (m ((c : Thread nD τ).loc main_arg1)))) : (dats m 0 c).arrAt 10 cfg0.N = G10 m c :=
  (dats m 0 c).arrAt_eq_of_cover 10 _ (fun t _ => flushed10 m c hC t) covered10

/-- The kernel runs; where the boundary segments are contiguous, its four results are the table's rows. -/
theorem run (hC : ∀ c : Dev nD, Fold.Contiguous (segOf (F := Ideal) (m ((c : Thread nD τ).loc main_arg1)))) :
    θ_run defs (onTc (τ := τ) (main (F := Ideal))) ⟨m, fun _ => 0, ρ⟩ fun r => ∀ c : Dev nD,
      r.2.mem ((c.tc : Thread nD τ).loc main_v0_0) = G7 m c
      ∧ r.2.mem ((c.tc : Thread nD τ).loc main_v0_1) = G8 m c
      ∧ r.2.mem ((c.tc : Thread nD τ).loc main_v0_2) = G9 m c
      ∧ r.2.mem ((c.tc : Thread nD τ).loc main_v0_3) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 7).trans (final7 m c (hC c)), ((h.1 c).1 8).trans (final8 m c (hC c)),
      ((h.1 c).1 9).trans (final9 m c (hC c)), ((h.1 c).1 10).trans (final10 m c (hC c)), h.2 c⟩)
    (θ_run_and (run_main m ρ) (unchanged m ρ))

end Cert.KernelIdeal.Hand

end
-- ==== Proof.Pre.lean ====
/- The precondition read back: the valid boundary entries that name one segment stand next to each other. -/
module

public import proofs.«01_k».proof.Proof.Gen.Pre_segments_contiguous
public import proofs.«01_k».proof.Proof.KernelIdeal.Inputs
public import Idealize.ShloMosaic.Lib.Pointwise
public import Idealize.ShloMosaic.Lib.Affine

@[expose] public section

set_option maxRecDepth 16384

noncomputable section

namespace Cert.Pre_segments_contiguous.Hand

open Cert.Pre_segments_contiguous
open Idealize.ShloMosaic
open Cert.KernelIdeal.Hand (segOf)

attribute [local instance] Cert.Pre_segments_contiguous.Gen.facts

variable (x0 : Vec Ideal S1 .i32) (x1 : Vec Ideal S512 .i32) (x2 : Vec Ideal S16448x128 .f32) (x3 : Vec Ideal S16384x128 .i32)
  (x4 : Vec Ideal S128x128 .f32) (x5 : Vec Ideal S128x128 .i32)

/-- A boundary entry's segment, as the precondition numbers it. -/
theorem seg_at (a : Fin 64) (h : a.val / 2 * 16 + a.val % 2 < 512) : x1 (ix1 (⟨a.val / 2 * 16 + a.val % 2, h⟩ : Fin 512)) = segOf (F := Ideal) x1 a.val := by
  rw [segOf, dif_pos a.isLt]
  refine congrArg x1 (funext fun k => Fin.ext ?_)
  match k with
  | ⟨0, _⟩ => show a.val / 2 * 16 + a.val % 2 = 16 * (a.val / 2) + a.val % 2; omega

/-- Small numbers compared as words. -/
theorem small_slt (a b : ℕ) (h : a < b) (hb : b < 64) : IntOp.cmpi .slt (BitVec.ofNat 32 a) (BitVec.ofNat 32 b) = 1#1 := by
  have : (BitVec.ofNat 32 a).slt (BitVec.ofNat 32 b) = true := by
    rw [BitVec.slt_iff_toInt_lt, BitVec.toInt_eq_toNat_cond, BitVec.toInt_eq_toNat_cond, BitVec.toNat_ofNat, BitVec.toNat_ofNat]
    split <;> split <;> omega
  show BitVec.ofBool _ = 1#1
  rw [this]
  rfl

/-- Under the precondition, two valid entries of one segment have only entries of that segment between them. -/
theorem contiguous (h : fn (F := Ideal) x0 x1 x2 x3 x4 x5 = fun _ => 1#1) : Fold.Contiguous (segOf (F := Ideal) x1) := by
  intro a b c hab hbc hc ha hb hac
  have e := congrFun h (ix3 (⟨a, by omega⟩ : Fin 64) (⟨b, by omega⟩ : Fin 64) (⟨c, hc⟩ : Fin 64))
  pointwise [fn, fn_part1] at e
  rw [small_slt a b hab (by omega), small_slt b c hbc hc] at e
  have sa := seg_at x1 ⟨a, by omega⟩ (by dsimp only; omega)
  have sb := seg_at x1 ⟨b, by omega⟩ (by dsimp only; omega)
  have sc := seg_at x1 ⟨c, hc⟩ (by dsimp only; omega)
  dsimp only at sa sb sc
  rw [sa, sb, sc, ← hac] at e
  have ga : IntOp.cmpi .sge (segOf (F := Ideal) x1 a) 0#32 = 1#1 := congrArg BitVec.ofBool ha
  have gb : IntOp.cmpi .sge (segOf (F := Ideal) x1 b) 0#32 = 1#1 := congrArg BitVec.ofBool hb
  have gc : IntOp.cmpi .eq (segOf (F := Ideal) x1 a) (segOf (F := Ideal) x1 a) = 1#1 := congrArg BitVec.ofBool (beq_self_eq_true _)
  rw [ga, gb, gc] at e
  by_contra hn
  have gn : IntOp.cmpi .eq (segOf (F := Ideal) x1 a) (segOf (F := Ideal) x1 b) = 0#1 :=
    congrArg BitVec.ofBool (beq_eq_false_iff_ne.mpr fun q => hn q.symm)
  rw [gn] at e
  exact absurd e (by decide)

end Cert.Pre_segments_contiguous.Hand

end
-- ==== Proof.Reference.Grad.lean ====
/- The reference's gradient sums over the extended reals: at every row, the row of the table's. -/
module

public import proofs.«01_k».proof.Proof.Gen.ReferenceIdeal.Read
public import proofs.«01_k».proof.Proof.KernelIdeal.Inputs
public import Idealize.ShloMosaic.Lib.Pointwise
public import Idealize.ShloMosaic.Lib.KernelVsHost

@[expose] public section

set_option maxRecDepth 16384

noncomputable section

namespace Cert.ReferenceIdeal.Hand

open Cert.ReferenceIdeal Cert.ReferenceIdeal.Read
open Idealize.ShloMosaic
open Cert.KernelIdeal.Hand (segOf rowOf tail tableRow sumOf)

variable (x0 : Vec Ideal S1 .i32) (x1 : Vec Ideal S512 .i32) (x2 : Vec Ideal S16448x128 .f32) (x3 : Vec Ideal S16384x128 .i32)
  (x4 : Vec Ideal S128x128 .f32) (x5 : Vec Ideal S128x128 .i32) (R : Fin 16384) (l : Fin 128)

/-- The reference's segment words are the list's. -/
theorem segs (e : Fin 64) : val_main_v7 (F := Ideal) x1 (ix2 R e) = segOf (F := Ideal) x1 e.val := by
  rw [val_main_v7_apply, val_main_v4_apply, val_main_v3_apply, val_main_v2_apply, val_main_v1_apply, segOf, dif_pos e.isLt]
  refine congrArg x1 (funext fun a => Fin.ext ?_)
  match a with
  | ⟨0, _⟩ => show e.val / 2 * 16 + e.val % 2 = 16 * (e.val / 2) + e.val % 2; omega

/-- Whether an entry names a row. -/
theorem hit (e : Fin 64) : val_main_v9 (F := Ideal) x1 (ix2 R e) = BitVec.ofBool (segOf (F := Ideal) x1 e.val == BitVec.ofNat 32 R.val) := by
  rw [val_main_v9_apply, segs, val_main_v8_apply, val_main_v6_apply, val_main_v5_apply]
  rfl

/-- Words of one bit joined: the join is one exactly when one of them is. -/
theorem fold_or (p : Fin 64 → BitVec 1) : Finset.univ.fold IntOp.ori (0#1) p = 1#1 ↔ ∃ e, p e = 1#1 := by
  have key : ∀ y z : BitVec 1, IntOp.ori y z = 1#1 ↔ y = 1#1 ∨ z = 1#1 := by decide
  refine (Finset.fold_op_rel_iff_or (op := IntOp.ori) (r := fun _ b : BitVec 1 => b = 1#1) (@fun _ y z => key y z) (c := 0#1)).trans ?_
  constructor
  · rintro (h | ⟨e, _, h⟩)
    · exact absurd h (by decide)
    · exact ⟨e, h⟩
  · rintro ⟨e, h⟩
    exact Or.inr ⟨e, Finset.mem_univ e, h⟩

/-- Whether any boundary entry names the row. -/
theorem any_hit : val_main_v15 (F := Ideal) x1 (ix1 R) = 1#1 ↔ ∃ e < 64, segOf (F := Ideal) x1 e = BitVec.ofNat 32 R.val := by
  pointwise [val_main_v15]
  refine (fold_or fun e => val_main_v9 (F := Ideal) x1 (ix2 R e)).trans ?_
  constructor
  · rintro ⟨e, he⟩
    refine ⟨e.val, e.isLt, ?_⟩
    rw [hit] at he
    by_contra hn
    rw [beq_eq_false_iff_ne.mpr hn] at he
    exact absurd he (by decide)
  · rintro ⟨e, h, he⟩
    refine ⟨⟨e, h⟩, ?_⟩
    rw [hit, he, beq_self_eq_true]
    rfl

/-- One boundary entry's addend to a row. -/
theorem addend (e : Fin 64) : val_main_v13 (F := Ideal) x1 x2 (idx_main_v14 (ix2 R l) e)
    = if segOf (F := Ideal) x1 e.val = BitVec.ofNat 32 R.val then rowOf (F := Ideal) (tail x2) e.val (ix2 (0 : Fin 1) l) else 0 := by
  have hi : idx_main_v14 (ix2 R l) e = ix3 R e l := by
    funext a; match a with | ⟨0, _⟩ => rfl | ⟨1, _⟩ => rfl | ⟨2, _⟩ => rfl
  rw [hi]
  pointwise [val_main_v13, val_main_call0_v1, val_main_call0_v2, val_main_call0_v3, val_main_call0_v0, val_main_v10, val_main_v11, val_main_v12]
  rw [hit, rowOf, dif_pos e.isLt]
  by_cases h : segOf (F := Ideal) x1 e.val = BitVec.ofNat 32 R.val
  · rw [if_pos h, h, beq_self_eq_true]
    rfl
  · rw [if_neg h, beq_eq_false_iff_ne.mpr h]
    exact Ideal.ofBits_zero .f32

/-- The row's gradient sums. -/
theorem grad_eq : val_main_v18 (F := Ideal) x1 x2 (ix2 R l) = (tableRow x0 x1 x2 x3 x4 x5 R).grad l := by
  pointwise [val_main_v18, val_main_v17, val_main_call1_v0, val_main_v16]
  show _ = sumOf _ _ _ _
  rw [sumOf]
  by_cases h : ∃ e < 64, segOf (F := Ideal) x1 e = BitVec.ofNat 32 R.val
  · rw [if_pos h, (any_hit x1 R).mpr h, val_main_v14_apply, Finset.sum_range]
    refine (congrArg₂ (· + ·) (?_ : _ = (0 : EReal)) (Finset.sum_congr rfl fun e _ => addend x1 x2 R l e)).trans (zero_add _)
    exact Ideal.ofBits_zero .f32
  · have h0 : val_main_v15 (F := Ideal) x1 (ix1 R) = 0#1 := by
      have := mt (any_hit x1 R).mp h
      revert this
      generalize val_main_v15 (F := Ideal) x1 (ix1 R) = b
      revert b
      decide
    rw [if_neg h, h0]
    rfl

end Cert.ReferenceIdeal.Hand

end
-- ==== Proof.Reference.Weight.lean ====
/- The reference's new values and scales over the extended reals: at every row, the row of the table's. -/
module

public import proofs.«01_k».proof.Proof.Gen.ReferenceIdeal.Read
public import proofs.«01_k».proof.Proof.KernelIdeal.Inputs
public import proofs.«01_k».proof.Proof.Reference.Grad
public import Idealize.ShloMosaic.Lib.Pointwise
public import Idealize.ShloMosaic.Lib.IdealHost
public import Idealize.ShloMosaic.Lib.KernelVsHost

@[expose] public section

set_option maxRecDepth 16384

noncomputable section

namespace Cert.ReferenceIdeal.Hand

open Cert.ReferenceIdeal Cert.ReferenceIdeal.Read
open Idealize.ShloMosaic
open Cert.KernelIdeal.Hand (segOf rowOf tail tableRow sumOf)

variable (x0 : Vec Ideal S1 .i32) (x1 : Vec Ideal S512 .i32) (x2 : Vec Ideal S16448x128 .f32) (x3 : Vec Ideal S16384x128 .i32)
  (x4 : Vec Ideal S128x128 .f32) (x5 : Vec Ideal S128x128 .i32) (R : Fin 16384) (l : Fin 128)

/-- The row's new values. -/
theorem w_eq : val_main_v35 (F := Ideal) x1 x2 x3 x4 x5 (ix2 R l) = (tableRow x0 x1 x2 x3 x4 x5 R).w l := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_c_1, val_main_c_2, val_main_cst_3, val_main_v0]
  rw [grad_eq x0 x1 x2 x3 x4 x5, RowData.w]
  generalize (tableRow x0 x1 x2 x3 x4 x5 R).grad l = g
  rfl

/-- The row's new scale. -/
theorem scale_eq : val_main_v43 (F := Ideal) x1 x2 x3 x4 x5 (ix1 R) = (tableRow x0 x1 x2 x3 x4 x5 R).scale := by
  pointwise [val_main_v43, val_main_v42, val_main_v41, val_main_v40, val_main_v39, val_main_v38, val_main_v37, val_main_call2_v1, val_main_call2_v0]
  simp only [w_eq x0 x1 x2 x3 x4 x5]
  generalize (tableRow x0 x1 x2 x3 x4 x5 R) = ρ
  rw [RowData.scale]
  have hp : Finset.univ.fold max (val_main_cst_4 (F := Ideal) (Shape.Idx.first Gen.h_S_)) (fun l => FloatOps.absf (F := Ideal) (φ := .f32) (ρ.w l)) = ρ.peak := rfl
  have h0 : val_main_cst_5 (F := Ideal) ix0 = 0 := Ideal.ofBits_zero .f32
  have h1 : id (val_main_cst_7 (F := Ideal)) ix0 = (1 : EReal) := Ideal.ofBits_one_f32
  have h2 : val_main_cst_6 (F := Ideal) ix0 = Ideal.ofBits .f32 0x42FE0000#32 := rfl
  rw [hp, h0, h1, h2]

end Cert.ReferenceIdeal.Hand

end
-- ==== Proof.Reference.Noise.lean ====
/- The reference's rounding noise over the extended reals: at every row, the row of the table's. -/
module

public import proofs.«01_k».proof.Proof.Gen.ReferenceIdeal.Read
public import proofs.«01_k».proof.Proof.KernelIdeal.Inputs
public import Idealize.ShloMosaic.Lib.Pointwise
public import Idealize.ShloMosaic.Lib.KernelVsHost

@[expose] public section

set_option maxRecDepth 16384

noncomputable section

namespace Cert.ReferenceIdeal.Hand

open Cert.ReferenceIdeal Cert.ReferenceIdeal.Read
open Idealize.ShloMosaic
open Cert.KernelIdeal.Hand (segOf rowOf tail tableRow sumOf)

variable (x0 : Vec Ideal S1 .i32) (x1 : Vec Ideal S512 .i32) (x2 : Vec Ideal S16448x128 .f32) (x3 : Vec Ideal S16384x128 .i32)
  (x4 : Vec Ideal S128x128 .f32) (x5 : Vec Ideal S128x128 .i32) (R : Fin 16384) (l : Fin 128)

/-- The step's word. -/
theorem step_word (i : S_.Idx) : val_main_v36 (F := Ideal) x0 i = x0 (ix1 (0 : Fin 1)) := by
  unfold val_main_v36
  exact congrArg x0 ((eq_ix1 _).trans (congrArg ix1 (Subsingleton.elim (α := Fin 1) _ 0)))

/-- The noise bits before mixing. -/
theorem seed_eq : val_main_v59 (F := Ideal) x0 x5 (ix2 R l) = IntOp.xori (IntOp.xori (IntOp.muli (tableRow x0 x1 x2 x3 x4 x5 R).id 0x9E3779B1#32) (IntOp.muli (tableRow x0 x1 x2 x3 x4 x5 R).step 0x85EBCA77#32)) (IntOp.muli (BitVec.ofNat 32 l.val) 0xC2B2AE3D#32) := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v0, id, val_main_c_8, val_main_c_9, val_main_c_10]
  rw [step_word]
  rfl

/-- The noise bits. -/
theorem bits_eq : val_main_v74 (F := Ideal) x0 x5 (ix2 R l) = (tableRow x0 x1 x2 x3 x4 x5 R).bits l := by
  rw [val_main_v74_apply, val_main_v72_apply, val_main_v71_apply, val_main_v69_apply, val_main_v67_apply, val_main_v66_apply, val_main_v64_apply, val_main_v62_apply, val_main_v61_apply, seed_eq x0 x1 x2 x3 x4 x5]
  rfl

/-- The noise. -/
theorem noise_eq : val_main_v77 (F := Ideal) x0 x5 (ix2 R l) = (tableRow x0 x1 x2 x3 x4 x5 R).noise l := by
  rw [val_main_v77_apply, val_main_v75_apply, bits_eq x0 x1 x2 x3 x4 x5]
  rfl

end Cert.ReferenceIdeal.Hand

end
-- ==== Proof.Reference.Results.lean ====
/- The reference's results over the extended reals: at every place, those of the row of the table. -/
module

public import proofs.«01_k».proof.Proof.Gen.ReferenceIdeal.Read
public import proofs.«01_k».proof.Proof.KernelIdeal.Inputs
public import proofs.«01_k».proof.Proof.Reference.Weight
public import proofs.«01_k».proof.Proof.Reference.Noise
public import Idealize.ShloMosaic.Lib.Pointwise
public import Idealize.ShloMosaic.Lib.KernelVsHost

@[expose] public section

set_option maxRecDepth 16384

noncomputable section

namespace Cert.ReferenceIdeal.Hand

open Cert.ReferenceIdeal Cert.ReferenceIdeal.Read
open Idealize.ShloMosaic
open Cert.KernelIdeal.Hand (segOf rowOf tail tableRow sumOf)

variable (x0 : Vec Ideal S1 .i32) (x1 : Vec Ideal S512 .i32) (x2 : Vec Ideal S16448x128 .f32) (x3 : Vec Ideal S16384x128 .i32)
  (x4 : Vec Ideal S128x128 .f32) (x5 : Vec Ideal S128x128 .i32) (R : Fin 16384) (l : Fin 128)

/-- The new value over the new scale, rounded and clipped. -/
theorem rounded_eq : val_main_v83 (F := Ideal) x0 x1 x2 x3 x4 x5 (ix2 R l) = (tableRow x0 x1 x2 x3 x4 x5 R).rounded l := by
  have h79 : val_main_v79 (F := Ideal) x1 x2 x3 x4 x5 (ix2 R l) = (tableRow x0 x1 x2 x3 x4 x5 R).scale := by
    pointwise [val_main_v79, val_main_v78]
    exact scale_eq x0 x1 x2 x3 x4 x5 R
  rw [val_main_v83_apply, val_main_call3_v2_apply, val_main_v82_apply, val_main_v81_apply, val_main_v80_apply, h79, w_eq x0 x1 x2 x3 x4 x5, noise_eq x0 x1 x2 x3 x4 x5]
  generalize (tableRow x0 x1 x2 x3 x4 x5 R) = ρ
  rfl

/-- The new signed bytes. -/
theorem codes_eq : val_main_v85 (F := Ideal) x0 x1 x2 x3 x4 x5 (ix2 R l) = (tableRow x0 x1 x2 x3 x4 x5 R).codes l := by
  rw [val_main_v85_apply, val_main_v84_apply, rounded_eq]
  rfl

/-- The rounding errors. -/
theorem err_eq : val_main_v91 (F := Ideal) x0 x1 x2 x3 x4 x5 (ix2 R l) = (tableRow x0 x1 x2 x3 x4 x5 R).err l := by
  have h89 : val_main_v89 (F := Ideal) x1 x2 x3 x4 x5 (ix2 R l) = (tableRow x0 x1 x2 x3 x4 x5 R).scale := by
    pointwise [val_main_v89, val_main_v88]
    exact scale_eq x0 x1 x2 x3 x4 x5 R
  rw [val_main_v91_apply, val_main_v90_apply, val_main_v87_apply, val_main_v86_apply, codes_eq, h89, w_eq x0 x1 x2 x3 x4 x5]
  have h := (tableRow x0 x1 x2 x3 x4 x5 R).codes_toInt l
  generalize (tableRow x0 x1 x2 x3 x4 x5 R) = ρ at h ⊢
  rw [RowData.err, ← h]
  rfl

/-- The new scales, packed 128 to a row. -/
theorem scales_eq (b : Fin 128) : val_main_v92 (F := Ideal) x1 x2 x3 x4 x5 (ix2 b l)
    = (tableRow x0 x1 x2 x3 x4 x5 ⟨128 * b.val + l.val, by omega⟩).scale := by
  rw [val_main_v92_apply, ← scale_eq x0 x1 x2 x3 x4 x5]
  refine congrArg (val_main_v43 (F := Ideal) x1 x2 x3 x4 x5) (funext fun a => Fin.ext ?_)
  match a with
  | ⟨0, _⟩ => show b.val * 128 + l.val = 128 * b.val + l.val; omega

end Cert.ReferenceIdeal.Hand

end
-- ==== Proof.Merge.Names.lean ====
/- Names for what the merge call's copies touch: block `b` of the table and of the result (5000 rows of words), slot `s` of
   the ring, and the two semaphores of a slot; and that the kernel's computed slices are these. -/
module

public import proofs.«01_k».proof.Defs
public import proofs.«01_k».proof.Proof.Gen.Merge.Launch
public import proofs.«01_k».proof.Proof.Gen.Merge.Skeleton
public import proofs.«01_k».proof.Proof.Gen.Merge.Loops
public import proofs.«01_k».proof.Proof.Gen.Merge.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 20000

noncomputable section

namespace Cert.Proof.Merge

open Cert.Merge Cert.Merge.Gen
open Idealize.ShloMosaic
open Idealize.ShloMosaic.TcCoe Idealize.ShloMosaic.Tactic

abbrev tabM : Memref sig .tc .hbm S500000x128 .i32 := Memref.whole main_arg2
abbrev outM : Memref sig .tc .hbm S500000x128 .i32 := Memref.whole main_v0
abbrev bufM : Memref sig .tc .vmem S8x5000x128 .i32 := Memref.whole cc0_scratch0

/-- The slot of block number `k`. -/
def sl (k : ℕ) : Fin 8 := ⟨k % 8, Nat.mod_lt _ (by decide)⟩
/-- Block number `k`. -/
def bk (k : ℕ) : Fin 100 := ⟨k % 100, Nat.mod_lt _ (by decide)⟩

theorem bk_val {k : ℕ} (h : k < 100) : (bk k).val = k := Nat.mod_eq_of_lt h
theorem sl_add (k : ℕ) : sl (k + 8) = sl k := Fin.ext (Nat.add_mod_right k 8)

abbrev blkOff (b : Fin 100) : Fin 2 → Nat := ![5000 * b.val, 0]
theorem blkOff_inb (b : Fin 100) : ∀ a, blkOff b a + S5000x128.size a ≤ S500000x128.size a := by
  have := b.isLt; intro a; fin_cases a
  · show 5000 * b.val + 5000 ≤ 500000; omega
  · show 0 + 128 ≤ 128; omega
abbrev slotOff (s : Fin 8) : Fin 3 → Nat := ![s.val, 0, 0]
theorem slotOff_inb (s : Fin 8) : ∀ a, slotOff s a + S1x5000x128.size a ≤ S8x5000x128.size a := by
  have := s.isLt; intro a; fin_cases a
  · show s.val + 1 ≤ 8; omega
  · show 0 + 5000 ≤ 5000; omega
  · show 0 + 128 ≤ 128; omega
abbrev semOff (s : Fin 8) : Fin 1 → Nat := ![s.val]
theorem semOff_inb (s : Fin 8) : ∀ a, semOff s a + S1.size a ≤ S8.size a := by
  have := s.isLt; intro a; fin_cases a; show s.val + 1 ≤ 8; omega

/-- Block `b` of the table; -/
def tb (b : Fin 100) : Memref sig .tc .hbm S5000x128 .i32 :=
  tabM.slice (Rect.unit (s := S500000x128) (blkOff b) S5000x128.size (blkOff_inb b)) (fun _ => rfl)
/-- of the result; -/
def ob (b : Fin 100) : Memref sig .tc .hbm S5000x128 .i32 :=
  outM.slice (Rect.unit (s := S500000x128) (blkOff b) S5000x128.size (blkOff_inb b)) (fun _ => rfl)
/-- slot `s` of the ring; -/
def rs (s : Fin 8) : Memref sig .tc .vmem S5000x128 .i32 :=
  (bufM.slice (Rect.unit (s := S8x5000x128) (slotOff s) S1x5000x128.size (slotOff_inb s)) (fun _ => rfl)).squeeze S5000x128 Facts₀.squeezes_S1x5000x128_S5000x128
/-- its semaphore for copies in, -/
def ci (s : Fin 8) : DmaSems sig S_ := (cc0_scratch1.slice (Rect.unit (s := S8) (semOff s) S1.size (semOff_inb s))).squeeze S_ Facts₀.squeezes_S1_S_
/-- and for copies out. -/
def co (s : Fin 8) : DmaSems sig S_ := (cc0_scratch2.slice (Rect.unit (s := S8) (semOff s) S1.size (semOff_inb s))).squeeze S_ Facts₀.squeezes_S1_S_

instance (s : Fin 8) : ClosedOff (slotOff s) := ⟨slotOff s, rfl⟩
instance (b : Fin 100) : ClosedOff (blkOff b) := ⟨blkOff b, rfl⟩

theorem trips1 : k0_t1_loop.trips = 100 := by decide

/-! ## The offsets of trip `k` -/

theorem off1_eq : ∀ k : Fin k0_t1_loop.trips, k0_off1 k = semOff (sl k.val) := by decide
theorem off2_eq : ∀ k : Fin k0_t1_loop.trips, k0_off2 k = slotOff (sl k.val) := by decide
theorem off3_eq : ∀ k : Fin k0_t1_loop.trips, k0_off3 k = blkOff (bk k.val) := by decide
theorem off4_eq : ∀ k : Fin k0_t1_loop.trips, k0_off4 k = ![k.val] := by decide
theorem off5_eq : ∀ k : Fin k0_t1_loop.trips, k0_off5 k = ![k.val + 1] := by decide
theorem off12_eq : ∀ k : Fin k0_t1_loop.trips, k0_off12 k = semOff (sl k.val) := by decide
theorem off13_eq : ∀ k : Fin k0_t1_loop.trips, k0_off13 k = blkOff (bk k.val) := by decide
theorem off14_eq : ∀ k : Fin k0_t1_loop.trips, k0_off14 k = slotOff (sl k.val) := by decide
theorem off15_eq : ∀ k : Fin k0_t1_loop.trips, k0_off15 k = semOff (sl (k.val + 5)) := by decide
theorem off16_eq : ∀ k : Fin k0_t1_loop.trips, 3 ≤ k.val → k0_off16 k = blkOff (bk (k.val - 3)) := by decide
theorem off17_eq : ∀ k : Fin k0_t1_loop.trips, k0_off17 k = slotOff (sl (k.val + 5)) := by decide
theorem off18_eq : ∀ k : Fin k0_t1_loop.trips, k0_off18 k = semOff (sl (k.val + 5)) := by decide
theorem off19_eq : ∀ k : Fin k0_t1_loop.trips, k0_off19 k = slotOff (sl (k.val + 5)) := by decide
theorem off20_eq : ∀ k : Fin k0_t1_loop.trips, k.val + 5 < 100 → k0_off20 k = blkOff (bk (k.val + 5)) := by decide
theorem cond1_iff : ∀ k : Fin k0_t1_loop.trips, k0_cond1 k = 1#1 ↔ 3 ≤ k.val := by decide
theorem cond2_iff : ∀ k : Fin k0_t1_loop.trips, k0_cond2 k = 1#1 ↔ k.val + 5 < 100 := by decide

/-! ## The kernel's slices by their names -/

theorem ci_congr {off : Fin 1 → Nat} {s : Fin 8} (e : off = semOff s) (hh) :
    (cc0_scratch1.slice (Rect.unit (s := S8) off S1.size hh)).squeeze S_ Facts₀.squeezes_S1_S_ = ci s :=
  congrArg (fun A : DmaSems sig S1 => A.squeeze S_ Facts₀.squeezes_S1_S_) (SemArray.slice_unit_congr _ e _ _)
theorem co_congr {off : Fin 1 → Nat} {s : Fin 8} (e : off = semOff s) (hh) :
    (cc0_scratch2.slice (Rect.unit (s := S8) off S1.size hh)).squeeze S_ Facts₀.squeezes_S1_S_ = co s :=
  congrArg (fun A : DmaSems sig S1 => A.squeeze S_ Facts₀.squeezes_S1_S_) (SemArray.slice_unit_congr _ e _ _)
theorem rs_congr {off : Fin 3 → Nat} {s : Fin 8} (e : off = slotOff s) (hh hs) :
    (bufM.slice (Rect.unit (s := S8x5000x128) off S1x5000x128.size hh) hs).squeeze S5000x128 Facts₀.squeezes_S1x5000x128_S5000x128 = rs s :=
  congrArg (fun M : Memref sig .tc .vmem S1x5000x128 .i32 => M.squeeze S5000x128 Facts₀.squeezes_S1x5000x128_S5000x128) (Memref.slice_unit_congr _ e _ _ _ _)
theorem tb_congr {off : Fin 2 → Nat} {b : Fin 100} (e : off = blkOff b) (hh hs) :
    tabM.slice (Rect.unit (s := S500000x128) off S5000x128.size hh) hs = tb b := Memref.slice_unit_congr _ e _ _ _ (fun _ => rfl)
theorem ob_congr {off : Fin 2 → Nat} {b : Fin 100} (e : off = blkOff b) (hh hs) :
    outM.slice (Rect.unit (s := S500000x128) off S5000x128.size hh) hs = ob b := Memref.slice_unit_congr _ e _ _ _ (fun _ => rfl)

@[sl_canon] theorem ciL0 (hh) : (cc0_scratch1.slice (Rect.unit (s := S8) ![0] S1.size hh)).squeeze S_ Facts₀.squeezes_S1_S_ = ci 0 := ci_congr (by decide) _
@[sl_canon] theorem ciL1 (hh) : (cc0_scratch1.slice (Rect.unit (s := S8) ![1] S1.size hh)).squeeze S_ Facts₀.squeezes_S1_S_ = ci 1 := ci_congr (by decide) _
@[sl_canon] theorem ciL2 (hh) : (cc0_scratch1.slice (Rect.unit (s := S8) ![2] S1.size hh)).squeeze S_ Facts₀.squeezes_S1_S_ = ci 2 := ci_congr (by decide) _
@[sl_canon] theorem ciL3 (hh) : (cc0_scratch1.slice (Rect.unit (s := S8) ![3] S1.size hh)).squeeze S_ Facts₀.squeezes_S1_S_ = ci 3 := ci_congr (by decide) _
@[sl_canon] theorem ciL4 (hh) : (cc0_scratch1.slice (Rect.unit (s := S8) ![4] S1.size hh)).squeeze S_ Facts₀.squeezes_S1_S_ = ci 4 := ci_congr (by decide) _
@[sl_canon] theorem coL1 (hh) : (cc0_scratch2.slice (Rect.unit (s := S8) ![1] S1.size hh)).squeeze S_ Facts₀.squeezes_S1_S_ = co 1 := co_congr (by decide) _
@[sl_canon] theorem coL2 (hh) : (cc0_scratch2.slice (Rect.unit (s := S8) ![2] S1.size hh)).squeeze S_ Facts₀.squeezes_S1_S_ = co 2 := co_congr (by decide) _
@[sl_canon] theorem coL3 (hh) : (cc0_scratch2.slice (Rect.unit (s := S8) ![3] S1.size hh)).squeeze S_ Facts₀.squeezes_S1_S_ = co 3 := co_congr (by decide) _
@[sl_canon] theorem rsL0 (hh hs) : (bufM.slice (Rect.unit (s := S8x5000x128) ![0, 0, 0] S1x5000x128.size hh) hs).squeeze S5000x128 Facts₀.squeezes_S1x5000x128_S5000x128 = rs 0 := rs_congr (by decide) _ _
@[sl_canon] theorem rsL1 (hh hs) : (bufM.slice (Rect.unit (s := S8x5000x128) ![1, 0, 0] S1x5000x128.size hh) hs).squeeze S5000x128 Facts₀.squeezes_S1x5000x128_S5000x128 = rs 1 := rs_congr (by decide) _ _
@[sl_canon] theorem rsL2 (hh hs) : (bufM.slice (Rect.unit (s := S8x5000x128) ![2, 0, 0] S1x5000x128.size hh) hs).squeeze S5000x128 Facts₀.squeezes_S1x5000x128_S5000x128 = rs 2 := rs_congr (by decide) _ _
@[sl_canon] theorem rsL3 (hh hs) : (bufM.slice (Rect.unit (s := S8x5000x128) ![3, 0, 0] S1x5000x128.size hh) hs).squeeze S5000x128 Facts₀.squeezes_S1x5000x128_S5000x128 = rs 3 := rs_congr (by decide) _ _
@[sl_canon] theorem rsL4 (hh hs) : (bufM.slice (Rect.unit (s := S8x5000x128) ![4, 0, 0] S1x5000x128.size hh) hs).squeeze S5000x128 Facts₀.squeezes_S1x5000x128_S5000x128 = rs 4 := rs_congr (by decide) _ _
@[sl_canon] theorem tbL0 (hh hs) : tabM.slice (Rect.unit (s := S500000x128) ![0, 0] S5000x128.size hh) hs = tb 0 := tb_congr (by decide) _ _
@[sl_canon] theorem tbL1 (hh hs) : tabM.slice (Rect.unit (s := S500000x128) ![5000, 0] S5000x128.size hh) hs = tb 1 := tb_congr (by decide) _ _
@[sl_canon] theorem tbL2 (hh hs) : tabM.slice (Rect.unit (s := S500000x128) ![10000, 0] S5000x128.size hh) hs = tb 2 := tb_congr (by decide) _ _
@[sl_canon] theorem tbL3 (hh hs) : tabM.slice (Rect.unit (s := S500000x128) ![15000, 0] S5000x128.size hh) hs = tb 3 := tb_congr (by decide) _ _
@[sl_canon] theorem tbL4 (hh hs) : tabM.slice (Rect.unit (s := S500000x128) ![20000, 0] S5000x128.size hh) hs = tb 4 := tb_congr (by decide) _ _
@[sl_canon] theorem obL97 (hh hs) : outM.slice (Rect.unit (s := S500000x128) ![485000, 0] S5000x128.size hh) hs = ob 97 := ob_congr (by decide) _ _
@[sl_canon] theorem obL98 (hh hs) : outM.slice (Rect.unit (s := S500000x128) ![490000, 0] S5000x128.size hh) hs = ob 98 := ob_congr (by decide) _ _
@[sl_canon] theorem obL99 (hh hs) : outM.slice (Rect.unit (s := S500000x128) ![495000, 0] S5000x128.size hh) hs = ob 99 := ob_congr (by decide) _ _

@[sl_canon] theorem ciW (k : Fin k0_t1_loop.trips) (hh) :
    (cc0_scratch1.slice (Rect.unit (s := S8) (k0_off1 k) S1.size hh)).squeeze S_ Facts₀.squeezes_S1_S_ = ci (sl k.val) := ci_congr (off1_eq k) _
@[sl_canon] theorem rsW (k : Fin k0_t1_loop.trips) (hh hs) :
    (bufM.slice (Rect.unit (s := S8x5000x128) (k0_off2 k) S1x5000x128.size hh) hs).squeeze S5000x128 Facts₀.squeezes_S1x5000x128_S5000x128 = rs (sl k.val) := rs_congr (off2_eq k) _ _
@[sl_canon] theorem tbW (k : Fin k0_t1_loop.trips) (hh hs) :
    tabM.slice (Rect.unit (s := S500000x128) (k0_off3 k) S5000x128.size hh) hs = tb (bk k.val) := tb_congr (off3_eq k) _ _
@[sl_canon] theorem coI (k : Fin k0_t1_loop.trips) (hh) :
    (cc0_scratch2.slice (Rect.unit (s := S8) (k0_off12 k) S1.size hh)).squeeze S_ Facts₀.squeezes_S1_S_ = co (sl k.val) := co_congr (off12_eq k) _
@[sl_canon] theorem obI (k : Fin k0_t1_loop.trips) (hh hs) :
    outM.slice (Rect.unit (s := S500000x128) (k0_off13 k) S5000x128.size hh) hs = ob (bk k.val) := ob_congr (off13_eq k) _ _
@[sl_canon] theorem rsI (k : Fin k0_t1_loop.trips) (hh hs) :
    (bufM.slice (Rect.unit (s := S8x5000x128) (k0_off14 k) S1x5000x128.size hh) hs).squeeze S5000x128 Facts₀.squeezes_S1x5000x128_S5000x128 = rs (sl k.val) := rs_congr (off14_eq k) _ _
@[sl_canon] theorem coW (k : Fin k0_t1_loop.trips) (hh) :
    (cc0_scratch2.slice (Rect.unit (s := S8) (k0_off15 k) S1.size hh)).squeeze S_ Facts₀.squeezes_S1_S_ = co (sl (k.val + 5)) := co_congr (off15_eq k) _
@[sl_canon] theorem obW (k : Fin k0_t1_loop.trips) (h3 : 3 ≤ k.val) (hh hs) :
    outM.slice (Rect.unit (s := S500000x128) (k0_off16 k) S5000x128.size hh) hs = ob (bk (k.val - 3)) := ob_congr (off16_eq k h3) _ _
@[sl_canon] theorem rsOW (k : Fin k0_t1_loop.trips) (hh hs) :
    (bufM.slice (Rect.unit (s := S8x5000x128) (k0_off17 k) S1x5000x128.size hh) hs).squeeze S5000x128 Facts₀.squeezes_S1x5000x128_S5000x128 = rs (sl (k.val + 5)) := rs_congr (off17_eq k) _ _
@[sl_canon] theorem ciN (k : Fin k0_t1_loop.trips) (hh) :
    (cc0_scratch1.slice (Rect.unit (s := S8) (k0_off18 k) S1.size hh)).squeeze S_ Facts₀.squeezes_S1_S_ = ci (sl (k.val + 5)) := ci_congr (off18_eq k) _
@[sl_canon] theorem rsN (k : Fin k0_t1_loop.trips) (hh hs) :
    (bufM.slice (Rect.unit (s := S8x5000x128) (k0_off19 k) S1x5000x128.size hh) hs).squeeze S5000x128 Facts₀.squeezes_S1x5000x128_S5000x128 = rs (sl (k.val + 5)) := rs_congr (off19_eq k) _ _
@[sl_canon] theorem tbN (k : Fin k0_t1_loop.trips) (h5 : k.val + 5 < 100) (hh hs) :
    tabM.slice (Rect.unit (s := S500000x128) (k0_off20 k) S5000x128.size hh) hs = tb (bk (k.val + 5)) := tb_congr (off20_eq k h5) _ _

end Cert.Proof.Merge

end
-- ==== Proof.Merge.Words.lean ====
/- The words of the merge: one put of a row's bytes into the words of its table row, and what the words of a row hold
   after the first `n` puts. -/
module

public import proofs.«01_k».proof.Proof.Gen.Merge.Skeleton
public import Idealize.ShloMosaic.Lib.Affine
public import Idealize.ShloMosaic.Lib.ValueIdx

@[expose] public section

noncomputable section

namespace Cert.Proof.Merge

open Cert.Merge Cert.Merge.Gen
open Idealize.ShloMosaic Idealize.ShloMosaic.ValueIdx

/-- One put: byte `j % 4` of the code word takes the place of byte `id % 4` of the table word. -/
def put (j id cw w : BitVec 32) : BitVec 32 :=
  IntOp.ori (IntOp.andi w (Scalar.xori (Scalar.shli 255#32 (Scalar.shli (Scalar.andi id 3#32) 3#32)) 4294967295#32))
    (IntOp.shrui .vector (IntOp.andi (IntOp.shli .vector cw (Scalar.subi 24#32 (Scalar.shli (Scalar.andi j 3#32) 3#32))) 4278190080#32)
      (Scalar.subi 24#32 (Scalar.shli (Scalar.andi id 3#32) 3#32)))

/-- A word of table row `r` after the first `n` puts, from `w`: those of the ids in that row of words. -/
def after (ids : ℕ → BitVec 32) (cw : ℕ → BitVec 32) (r : ℕ) (w : BitVec 32) : ℕ → BitVec 32
  | 0 => w
  | n + 1 => if (ids n).toNat / 4 = r then put (BitVec.ofNat 32 n) (ids n) (cw (n / 4)) (after ids cw r w n) else after ids cw r w n

theorem after_eq_of_miss (ids cw r w) {n m : ℕ} (h : n ≤ m) (hm : ∀ j, n ≤ j → j < m → (ids j).toNat / 4 ≠ r) :
    after ids cw r w m = after ids cw r w n := by
  induction m, h using Nat.le_induction with
  | base => rfl
  | succ m hnm ih =>
    rw [after, if_neg (hm m hnm (Nat.lt_succ_self m))]
    exact ih fun j h1 h2 => hm j h1 (Nat.lt_succ_of_lt h2)

section Loop
variable (v50 v53 : BitVec 32)
open Affine

theorem toInt_of_isInt {x : BitVec 32} {e : Int} (h : IsInt x e) : x.toInt = e := by
  delta Affine.IsInt at h; exact h

theorem toInt_small {x : BitVec 32} (h : x.toNat < 2 ^ 31) : x.toInt = x.toNat := by
  have hc := BitVec.toInt_eq_toNat_cond x; split at hc <;> omega

variable (hle : v50.toNat ≤ v53.toNat) (hU : v53.toNat ≤ 16384)
include hle hU

theorem isInt_v58 : IsInt (Scalar.addi v50 (Scalar.muli (Scalar.divsi (Scalar.subi v53 v50) 1#32) 1#32)) (v53.toNat : Int) := by
  have e0 := toInt_small (x := v50) (by omega)
  have e3 := toInt_small (x := v53) (by omega)
  have h0 : IsInt v50 (v50.toNat : Int) := by have := word v50; rwa [e0] at this
  have h3 : IsInt v53 (v53.toNat : Int) := by have := word v53; rwa [e3] at this
  have h4 : IsInt (Scalar.subi v53 v50) ((v53.toNat : Int) - v50.toNat) := subi h3 h0 ⟨rfl, by omega, by omega⟩
  have h5 : IsInt (Scalar.divsi (Scalar.subi v53 v50) 1#32) ((v53.toNat : Int) - v50.toNat) := divsi_one h4 (ofNat (e := 1) 1 ⟨rfl, by decide⟩) ⟨rfl, rfl⟩
  have h6 : IsInt (Scalar.muli (Scalar.divsi (Scalar.subi v53 v50) 1#32) 1#32) ((v53.toNat : Int) - v50.toNat) :=
    muli h5 (ofNat (e := 1) 1 ⟨rfl, by decide⟩) ⟨by omega, by omega, by omega⟩
  exact addi h0 h6 ⟨by omega, by omega, by omega⟩

theorem isInt_v55 : IsInt (Scalar.addi v50 (Scalar.subi v53 v50)) (v53.toNat : Int) := by
  have e0 := toInt_small (x := v50) (by omega)
  have e3 := toInt_small (x := v53) (by omega)
  have h0 : IsInt v50 (v50.toNat : Int) := by have := word v50; rwa [e0] at this
  have h3 : IsInt v53 (v53.toNat : Int) := by have := word v53; rwa [e3] at this
  have h4 : IsInt (Scalar.subi v53 v50) ((v53.toNat : Int) - v50.toNat) := subi h3 h0 ⟨rfl, by omega, by omega⟩
  exact addi h0 h4 ⟨by omega, by omega, by omega⟩

/-- The loop over a block's ids runs from the first bound to the second; -/
theorem trips2 : (k0_t2_loop v50 v53).trips = v53.toNat - v50.toNat := by
  show Scf.trips v50 (Scalar.addi v50 (Scalar.muli (Scalar.divsi (Scalar.subi v53 v50) 1#32) 1#32)) 1#32 = _
  unfold Scf.trips; rw [toInt_of_isInt (isInt_v58 v50 v53 hle hU), toInt_small (x := v50) (by omega)]; simp
/-- the loop after it runs no trip. -/
theorem trips3 : (k0_t3_loop v50 v53).trips = 0 := by
  show Scf.trips (Scalar.addi v50 (Scalar.muli (Scalar.divsi (Scalar.subi v53 v50) 1#32) 1#32)) (Scalar.addi v50 (Scalar.subi v53 v50)) 1#32 = 0
  unfold Scf.trips; rw [toInt_of_isInt (isInt_v58 v50 v53 hle hU), toInt_of_isInt (isInt_v55 v50 v53 hle hU)]; simp

theorem iv_eq (k : Fin (k0_t2_loop v50 v53).trips) : Scf.iv v50 1#32 k.val = BitVec.ofNat 32 (v50.toNat + k.val) := by
  unfold Scf.iv; apply BitVec.eq_of_toNat_eq; simp
theorem ix_lt (k : Fin (k0_t2_loop v50 v53).trips) : v50.toNat + k.val < v53.toNat := by
  have := Nat.lt_of_lt_of_eq k.isLt (trips2 v50 v53 hle hU); omega

theorem off6_eq (k : Fin (k0_t2_loop v50 v53).trips) : k0_off6 v50 v53 k = ![v50.toNat + k.val] := by
  have := ix_lt v50 v53 hle hU k
  show ![(Scalar.indexCast (Scf.iv v50 1#32 k.val)).toNat] = _
  rw [iv_eq v50 v53 hle hU k]
  show ![(BitVec.ofNat 32 (v50.toNat + k.val)).toNat] = _
  rw [BitVec.toNat_ofNat, Nat.mod_eq_of_lt (by omega)]
theorem off7_eq (k : Fin (k0_t2_loop v50 v53).trips) : k0_off7 v50 v53 k = ![(v50.toNat + k.val) / 4, 0] := by
  have := ix_lt v50 v53 hle hU k
  have hj : IsInt (Scf.iv v50 1#32 k.val) ((v50.toNat + k.val : ℕ) : Int) := by
    rw [iv_eq v50 v53 hle hU k]; exact ofNat _ ⟨rfl, by omega⟩
  exact vec_cons (indexCast (shrsi (e := ((v50.toNat + k.val) / 4 : ℕ)) hj (ofNat (e := 2) 2 ⟨rfl, by decide⟩) 2 4 (by decide) (by refine ⟨?_, ?_⟩ <;> omega))) rfl rfl

theorem chk1_of : k0_chk1 v50 v53 := by
  have t3 := trips3 v50 v53 hle hU
  have e0 := toInt_small (x := v50) (by omega)
  refine ⟨⟨(by decide : (0 : Int) < (1#32 : BitVec 32).toInt), ?_⟩, fun k a => ?_, fun k a => ?_, ⟨(by decide : (0 : Int) < (1#32 : BitVec 32).toInt), ?_⟩, fun k => ?_, fun k => ?_⟩
  · have := trips2 v50 v53 hle hU
    show v50.toInt + ((k0_t2_loop v50 v53).trips : Int) * (1#32 : BitVec 32).toInt < 2 ^ 31
    rw [this, e0, show (1#32 : BitVec 32).toInt = 1 by decide]; omega
  · have := ix_lt v50 v53 hle hU k
    rw [off6_eq v50 v53 hle hU k]; fin_cases a; show v50.toNat + k.val + 1 ≤ 16384; omega
  · have := ix_lt v50 v53 hle hU k
    rw [off7_eq v50 v53 hle hU k]; fin_cases a
    · show (v50.toNat + k.val) / 4 + 1 ≤ 4096; omega
    · show 0 + 128 ≤ 128; omega
  · show (Scalar.addi v50 (Scalar.muli (Scalar.divsi (Scalar.subi v53 v50) 1#32) 1#32)).toInt + ((k0_t3_loop v50 v53).trips : Int) * (1#32 : BitVec 32).toInt < 2 ^ 31
    rw [t3, toInt_of_isInt (isInt_v58 v50 v53 hle hU)]; simp; omega
  · exact absurd k.isLt (by omega)
  · exact absurd k.isLt (by omega)
end Loop

/-- The place of id `v` in its slot: row `v / 4` of the table's words, less the block's first row. -/
theorem off8_eq (k : Fin k0_t1_loop.trips) (v : BitVec 32) (h0 : 20000 * k.val ≤ v.toNat) (h1 : v.toNat < 20000 * (k.val + 1)) :
    k0_off8 k v = ![k.val % 8, v.toNat / 4 - 5000 * k.val, 0] := by
  have hk : k.val < 100 := k.isLt
  have hi : Affine.IsInt (Scf.iv 0#32 1#32 k.val) (k.val : Int) :=
    Affine.iv (e := k.val) (Affine.ofNat (e := 0) 0 ⟨rfl, by decide⟩) (Affine.ofNat (e := 1) 1 ⟨rfl, by decide⟩) k.val ⟨by omega, by omega, by omega⟩
  have hr : Affine.IsInt (Scalar.remsi (Scf.iv 0#32 1#32 k.val) 8#32) ((k.val % 8 : ℕ) : Int) :=
    Affine.remsi hi (Affine.ofNat (e := 8) 8 ⟨rfl, by decide⟩) ⟨by omega, by omega, by omega⟩
  have hm : Affine.IsInt (Scalar.muli (Scf.iv 0#32 1#32 k.val) 5000#32) ((5000 * k.val : ℕ) : Int) :=
    Affine.muli hi (Affine.ofNat (e := 5000) 5000 ⟨rfl, by decide⟩) ⟨by push_cast; omega, by omega, by omega⟩
  have hv : Affine.IsInt v (v.toNat : Int) := by have := Affine.word v; rwa [toInt_small (by omega)] at this
  have hs : Affine.IsInt (Scalar.shrsi v 2#32) ((v.toNat / 4 : ℕ) : Int) :=
    Affine.shrsi hv (Affine.ofNat (e := 2) 2 ⟨rfl, by decide⟩) 2 4 (by decide) (by refine ⟨?_, ?_⟩ <;> omega)
  have hd : Affine.IsInt (Scalar.subi (Scalar.shrsi v 2#32) (Scalar.muli (Scf.iv 0#32 1#32 k.val) 5000#32)) ((v.toNat / 4 - 5000 * k.val : ℕ) : Int) :=
    Affine.subi hs hm ⟨by omega, by omega, by omega⟩
  exact Affine.vec_cons (Affine.indexCast hr) rfl (Affine.vec_cons (Affine.indexCast hd) rfl rfl)

theorem chk2_of (k : Fin k0_t1_loop.trips) (v : BitVec 32) (h0 : 20000 * k.val ≤ v.toNat) (h1 : v.toNat < 20000 * (k.val + 1)) :
    k0_chk2 k v := by
  intro a; rw [off8_eq k v h0 h1]; fin_cases a
  · show k.val % 8 + 1 ≤ 8; omega
  · show v.toNat / 4 - 5000 * k.val + 1 ≤ 5000; omega
  · show 0 + 128 ≤ 128; omega

end Cert.Proof.Merge

end
-- ==== Proof.Merge.Puts.lean ====
/- The loop over a block's ids: each trip puts the bytes of one row into its table row's words, in the block's slot. -/
module

public import proofs.«01_k».proof.Proof.Merge.Names
public import proofs.«01_k».proof.Proof.Merge.Words
public import Idealize.ShloMosaic.Lib.WritesUnit
public import Idealize.ShloMosaic.Lib.Pipeline.Value

@[expose] public section

noncomputable section

namespace Cert.Proof.Merge

open Cert.Merge Cert.Merge.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

theorem entails_of_eq {P Q : sProp 𝕄} (e : P = Q) : P ⊢ Q := e ▸ .rfl

section Pieces
variable (c : Dev nD)

/-- Slot `s` held with contents `f`; -/
abbrev slotP (s : Fin 8) (f : Buf (Elt F) ((rs s).view.loc (c : Thread nD τ))) : sProp 𝕄 :=
  (rs s).view.loc (c : Thread nD τ) ↦[(rs s).view.set]{fullShare} f
/-- block `b` of the table at its contents; -/
abbrev tabP (XT : Buf (Elt F) (tabM.view.loc (c : Thread nD τ))) (b : Fin 100) : sProp 𝕄 :=
  (tb b).view.loc (c : Thread nD τ) ↦[(tb b).view.set]{fullShare} XT

end Pieces

section Values
variable (c : Dev nD) (XT : Buf (Elt F) (tabM.view.loc (c : Thread nD τ)))
  (arg1 : Memref sig .tc .smem S16384 .i32) (arg3 : Memref sig .tc .vmem S4096x128 .i32)
  (gI : Buf (Elt F) (arg1.view.loc (c : Thread nD τ))) (gC : Buf (Elt F) (arg3.view.loc (c : Thread nD τ)))

/-- Id number `j`; -/
def idAt (j : ℕ) : BitVec 32 := if h : j < 16384 then arg1.view.read (Elt F) gI (ix1 ⟨j, h⟩) else 0
/-- the word of the codes in row `r`, column `cc`; -/
def codeAt (cc r : ℕ) : BitVec 32 := if h : r < 4096 ∧ cc < 128 then arg3.view.read (Elt F) gC (ix2 ⟨r, h.1⟩ ⟨cc, h.2⟩) else 0
/-- of the table. -/
def tabAt (cc r : ℕ) : BitVec 32 := if h : r < 500000 ∧ cc < 128 then tabM.view.read (Elt F) XT (ix2 ⟨r, h.1⟩ ⟨cc, h.2⟩) else 0
/-- The word of row `r`, column `cc` after `n` puts. -/
def wordAt (n cc r : ℕ) : BitVec 32 := after (idAt c arg1 gI) (codeAt c arg3 gC cc) r (tabAt c XT cc r) n

/-- Slot `k % 8` holds block `k` after `n` puts. -/
def Holds (n k : ℕ) (f : Buf (Elt F) (bufM.view.loc (c : Thread nD τ))) : Prop :=
  ∀ (x : Fin 5000) (cc : Fin 128), bufM.view.read (Elt F) f (ix3 (sl k) x cc) = wordAt c XT arg1 arg3 gI gC n cc.val (5000 * k + x.val)

/-- Ids `lo` to `hi` are those of block `k`. -/
def InBlock (lo hi k : ℕ) : Prop := lo ≤ hi ∧ hi ≤ 16384 ∧
  ∀ j, lo ≤ j → j < hi → 20000 * k ≤ (idAt c arg1 gI j).toNat ∧ (idAt c arg1 gI j).toNat < 20000 * (k + 1)

end Values

theorem put_congr {a a' b b' d d' : BitVec 32} (h : a = a') (h' : b = b') (h'' : d = d') (w : BitVec 32) : put a b d w = put a' b' d' w := by
  subst h; subst h'; subst h''; rfl

/-- The stored word of column `cc` is the put of the code word into the table word. -/
theorem pay_apply (v50 v53 : BitVec 32) (j : Fin (k0_t2_loop v50 v53).trips) (id : BitVec 32) (cv : IVec S1x128 32) (wv : IVec S1x1x128 32) (cc : Fin 128) :
    k0_pay1 (F := F) v50 v53 j id cv wv (ix3 0 0 cc) = put (Scf.iv v50 1#32 j) id (cv (ix2 0 cc)) (wv (ix3 0 0 cc)) := by
  have e1 : ∀ v : IVec S1x128 32, shapeCast S1x1x128 v shapeCasts_S1x128_S1x1x128 (ix3 0 0 cc) = v (ix2 0 cc) := fun v =>
    (shapeCast_addUnit_apply ![1, 128] v shapeCasts_S1x128_S1x1x128 _).trans (congrArg v (funext fun a => by fin_cases a <;> rfl))
  have e2 : ∀ v : IVec S1x1x128 32, shapeCast S1x128 v shapeCasts_S1x1x128_S1x128 (ix2 0 cc) = v (ix3 0 0 cc) := fun v =>
    (shapeCast_dropUnit_apply ![1, 128] v shapeCasts_S1x1x128_S1x128 _).trans (congrArg v (funext fun a => by fin_cases a <;> rfl))
  unfold k0_pay1
  refine (e1 _).trans ?_
  show IntOp.ori (IntOp.andi (shapeCast S1x128 wv shapeCasts_S1x1x128_S1x128 (ix2 0 cc)) _) _ = _
  rw [e2]; rfl

section Loop

variable (c : Dev nD) (XT : Buf (Elt F) (tabM.view.loc (c : Thread nD τ)))
  (arg0 : Memref sig .tc .smem S128 .i32) (harg0 : arg0.IsWhole)
  (arg1 : Memref sig .tc .smem S16384 .i32) (harg1 : arg1.IsWhole)
  (arg3 : Memref sig .tc .vmem S4096x128 .i32) (harg3 : arg3.IsWhole)
  (gI : Buf (Elt F) (arg1.view.loc (c : Thread nD τ))) (gC : Buf (Elt F) (arg3.view.loc (c : Thread nD τ)))
  (k : Fin k0_t1_loop.trips) (v50 v53 : BitVec 32) (hw : k0_chk1 v50 v53)

abbrev idsP : sProp 𝕄 := arg1.view.loc (c : Thread nD τ) ↦[arg1.view.set]{fullShare} gI
abbrev codesP : sProp 𝕄 := arg3.view.loc (c : Thread nD τ) ↦[arg3.view.set]{fullShare} gC

abbrev putG (v50 v53 : Elt F .i32) (hw : k0_chk1 v50 v53) (j : Fin (k0_t2_loop v50 v53).trips) : Prog (TpuEff nD τ sig (Elt F) Λ₀ .tc) (BitVec 32) :=
  k0_t2_body (F := F) arg0 harg0 arg1 harg1 tabM (Memref.isWhole_whole _) arg3 harg3 outM (Memref.isWhole_whole _) bufM (Memref.isWhole_whole _) cc0_scratch1 cc0_scratch2 0#32 1#32 k v50 v53 hw j 0#32

/-- The resources before the put of id `n`. -/
def putsAt (n : ℕ) : sProp 𝕄 :=
  iprop(idsP c arg1 gI ∗ codesP c arg3 gC ∗ tabP c XT (bk k.val) ∗ ∃ f, slotP c (sl k.val) f ∗ ⌜Holds c XT arg1 arg3 gI gC n k.val f⌝)

theorem read_code {off : Fin 2 → ℕ} (n : ℕ) (inb : ∀ a, off a + S1x128.size a ≤ S4096x128.size a) (e : off = ![n, 0]) (cc : Fin 128) :
    arg3.view.readAt (Elt F) (Rect.unit (s := S4096x128) off S1x128.size inb).toLoadRect gC (ix2 0 cc) = codeAt c arg3 gC cc.val n := by
  subst e
  have hn : n + 1 ≤ 4096 := inb 0
  unfold codeAt; rw [dif_pos ⟨by omega, cc.isLt⟩, View.readAt_apply]
  congr 1
  funext a; apply Fin.ext; fin_cases a
  · show n + 1 * 0 = n; omega
  · show 0 + 1 * cc.val = cc.val; omega

/-- One put, in the slot's contents. -/
theorem holds_put (off : Fin 3 → ℕ) (inb : ∀ a, off a + S1x1x128.size a ≤ S8x5000x128.size a) (n : ℕ)
    (hb : 20000 * k.val ≤ (idAt c arg1 gI n).toNat ∧ (idAt c arg1 gI n).toNat < 20000 * (k.val + 1))
    (e : off = ![(sl k.val).val, (idAt c arg1 gI n).toNat / 4 - 5000 * k.val, 0])
    (f : Buf (Elt F) (bufM.view.loc (c : Thread nD τ))) (hf : Holds c XT arg1 arg3 gI gC n k.val f)
    (pay : S1x1x128.Idx → Elt F .i32)
    (hp : ∀ cc : Fin 128, pay (ix3 0 0 cc) = put (BitVec.ofNat 32 n) (idAt c arg1 gI n) (codeAt c arg3 gC cc.val (n / 4))
      (bufM.view.readAt (Elt F) (Rect.unit (s := S8x5000x128) off S1x1x128.size inb).toLoadRect f (ix3 0 0 cc))) :
    Holds c XT arg1 arg3 gI gC (n + 1) k.val (View.write (Elt F) (bufM.view.slice (Rect.unit (s := S8x5000x128) off S1x1x128.size inb)) f pay Finset.univ) := by
  subst e
  intro x cc
  unfold wordAt; rw [after]
  by_cases h : (idAt c arg1 gI n).toNat / 4 = 5000 * k.val + x.val
  · rw [if_pos h]
    have ey : (ix3 (sl k.val) x cc : S8x5000x128.Idx) = (Rect.unit (s := S8x5000x128) _ S1x1x128.size inb).emb (ix3 0 0 cc) := by
      funext a; apply Fin.ext; fin_cases a
      · show (sl k.val).val = (sl k.val).val + 1 * 0; omega
      · show x.val = ((idAt c arg1 gI n).toNat / 4 - 5000 * k.val) + 1 * 0; omega
      · show cc.val = 0 + 1 * cc.val; omega
    have hw : bufM.view.readAt (Elt F) (Rect.unit (s := S8x5000x128) _ S1x1x128.size inb).toLoadRect f (ix3 0 0 cc)
        = bufM.view.read (Elt F) f (ix3 (sl k.val) x cc) := by
      rw [ey]; rfl
    have hfx := hf x cc
    have hp' := hp cc
    rw [hw, hfx] at hp'
    refine Eq.trans ?_ hp'
    rw [ey]; exact View.read_slice_write_emb _ _ _ (Finset.mem_univ _)
  · rw [if_neg h]
    refine (View.read_slice_write_of_not_mem _ _ _ _ ?_).trans (hf x cc)
    rw [Rect.map_emb_univ, Rect.mem_set_unit]
    intro hall
    have h1 : ((idAt c arg1 gI n).toNat / 4 - 5000 * k.val) ≤ x.val ∧ x.val < ((idAt c arg1 gI n).toNat / 4 - 5000 * k.val) + 1 := hall 1
    omega

theorem putsAt_intro (n : ℕ) (f : Buf (Elt F) (bufM.view.loc (c : Thread nD τ))) (hf : Holds c XT arg1 arg3 gI gC n k.val f) :
    iprop(idsP c arg1 gI ∗ codesP c arg3 gC ∗ tabP c XT (bk k.val) ∗ slotP c (sl k.val) f) ⊢ putsAt c XT arg1 arg3 gI gC k n := by
  iintro ⟨HI, HC, HT, HS⟩
  unfold putsAt
  isplitl [HI]; · iexact HI
  isplitl [HC]; · iexact HC
  isplitl [HT]; · iexact HT
  iexists f; isplitl [HS]; · iexact HS
  ipureintro; exact hf
theorem putsAt_elim (n : ℕ) : putsAt c XT arg1 arg3 gI gC k n ⊢
    iprop(idsP c arg1 gI ∗ codesP c arg3 gC ∗ tabP c XT (bk k.val) ∗ ∃ f, slotP c (sl k.val) f ∗ ⌜Holds c XT arg1 arg3 gI gC n k.val f⌝) := by
  unfold putsAt; exact .rfl

/-- The id read at an offset that is `n` is id number `n`. -/
theorem read_id {off : Fin 1 → ℕ} (n : ℕ) (inb : ∀ a, off a + S1.size a ≤ S16384.size a) (e : off = ![n]) (x) :
    arg1.view.readAt (Elt F) (Rect.unit (s := S16384) off S1.size inb).toLoadRect gI x = idAt c arg1 gI n := by
  subst e
  have hn : n + 1 ≤ 16384 := inb 0
  unfold idAt; rw [dif_pos (by omega), View.readAt_apply]
  congr 1
  funext a; apply Fin.ext; fin_cases a
  have : (x 0).val < 1 := (x 0).isLt
  show n + 1 * (x 0).val = n; omega

theorem put_run (hB : InBlock c arg1 gI v50.toNat v53.toNat k.val) (j : Fin (k0_t2_loop v50 v53).trips) :
    putsAt c XT arg1 arg3 gI gC k (v50.toNat + j.val) ⊢ wp frame (wpE (defs₀ (F := F)) 𝒱₀ (c : Thread nD τ) none) Set.univ
      (putG arg0 harg0 arg1 harg1 arg3 harg3 k v50 v53 hw j) (fun _ => putsAt c XT arg1 arg3 gI gC k (v50.toNat + (j.val + 1))) := by
  have hj := ix_lt v50 v53 hB.1 hB.2.1 j
  have hb := hB.2.2 _ (Nat.le_add_right v50.toNat j.val) hj
  have e8 := off8_eq k _ hb.1 hb.2
  unfold putsAt
  iintro ⟨HI, HC, HT, ⟨%f, HS, %hf⟩⟩
  dsimp only [putG]
  sl_unfold [k0_t2_body]
  sl_exec
  have er : put_run.sl.r c arg1 gI v50 v53 hw j = idAt c arg1 gI (v50.toNat + j.val) := read_id c arg1 gI _ _ (off6_eq v50 v53 hB.1 hB.2.1 j) _
  have hchk : k0_chk2 k (put_run.sl.r c arg1 gI v50 v53 hw j) := by rw [er]; exact chk2_of k _ hb.1 hb.2
  have hx : (idAt c arg1 gI (v50.toNat + j.val)).toNat / 4 - 5000 * k.val < 5000 := by omega
  letI : ClosedOff (k0_off8 k (put_run.sl.r c arg1 gI v50 v53 hw j)) :=
    ⟨![(sl k.val).val, (idAt c arg1 gI (v50.toNat + j.val)).toNat / 4 - 5000 * k.val, 0], by rw [er]; exact e8⟩
  sl_exec
  sl_step
  isplitl [HI]; · iexact HI
  isplitl [HC]; · iexact HC
  isplitl [HT]; · iexact HT
  iexists _; isplitl [HS]
  · iexact HS
  · ipureintro
    refine holds_put c XT arg1 arg3 gI gC k _ _ _ hb ((congrArg (k0_off8 k) er).trans e8) f hf _ fun cc => ?_
    exact (pay_apply _ _ _ _ _ _ _).trans (put_congr (iv_eq v50 v53 hB.1 hB.2.1 j) er (read_code c arg3 gC _ _ (off7_eq v50 v53 hB.1 hB.2.1 j) cc) _)

variable (arg0 : Memref sig .tc .smem S128 .i32) (harg0 : arg0.IsWhole)

set_option warn.classDefReducibility false in
/-- The loop over a block's ids: before trip `j`, the puts of the first `j` of them are in the slot. -/
@[sl_loop] def loopInv2 (init : BitVec 32) :
    LoopInvTy_k0_t2 (F := F) Unit ℕ (UU nD τ) ℕ 𝒱₀ c none Set.univ arg0 harg0 arg1 harg1 tabM (Memref.isWhole_whole _) arg3 harg3 outM (Memref.isWhole_whole _) bufM (Memref.isWhole_whole _) cc0_scratch1 cc0_scratch2 0#32 1#32 k v50 v53 hw init where
  inv j _ := iprop(⌜InBlock c arg1 gI v50.toNat v53.toNat k.val⌝ ∗ putsAt c XT arg1 arg3 gI gC k (v50.toNat + j))
  step j a := by
    iintro ⟨%hB, H⟩
    iapply (wp_wand_r Idealize.ShloMosaic.frame (wpE (defs₀ (F := F)) 𝒱₀ (c : Thread nD τ) none) Set.univ)
    isplitl [H]
    · iapply (put_run c XT arg0 harg0 arg1 harg1 arg3 harg3 gI gC k v50 v53 hw hB j); iexact H
    · iintro %_ H'
      isplitr; · ipureintro; exact hB
      iexact H'

set_option warn.classDefReducibility false in
/-- The loop over what the unrolling leaves: it makes no trip. -/
@[sl_loop] def loopInv3 (init : BitVec 32) :
    LoopInvTy_k0_t3 (F := F) Unit ℕ (UU nD τ) ℕ 𝒱₀ c none Set.univ arg0 harg0 arg1 harg1 tabM (Memref.isWhole_whole _) arg3 harg3 outM (Memref.isWhole_whole _) bufM (Memref.isWhole_whole _) cc0_scratch1 cc0_scratch2 0#32 1#32 k v50 v53 hw init where
  inv _ _ := iprop(⌜InBlock c arg1 gI v50.toNat v53.toNat k.val⌝ ∗ putsAt c XT arg1 arg3 gI gC k (v50.toNat + (k0_t2_loop v50 v53).trips))
  step j a := by
    iintro ⟨%hB, -⟩
    exact (Nat.not_lt_zero _ (Nat.lt_of_lt_of_eq j.isLt (trips3 v50 v53 hB.1 hB.2.1))).elim

end Loop

end Cert.Proof.Merge

end
-- ==== Proof.Merge.Trip.lean ====
/- One trip of the merge: a block's copy in is awaited, its bytes are put in, its copy out is started, and the slot three trips back is freed and refilled. -/
module

public import proofs.«01_k».proof.Proof.Merge.Puts

@[expose] public section

noncomputable section

namespace Cert.Proof.Merge

open Cert.Merge Cert.Merge.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem ix2_eta (i : S500000x128.Idx) : i = ix2 (i 0) (i 1) := by funext a; fin_cases a <;> rfl

/-- A slot reads as the ring does. -/
theorem rs_read (s : Fin 8) (f : cc0_scratch0.ty.Contents (Elt F)) (x : Fin 5000) (cc : Fin 128) :
    (rs s).view.read (Elt F) f (ix2 x cc) = bufM.view.read (Elt F) f (ix3 s x cc) := by
  unfold rs
  rw [Memref.read_squeeze_slice (hc := by exact Facts₀.squeezes_S1x5000x128_S5000x128.numel_eq)]
  refine (shapeCast_dropUnit_apply ![5000, 128] _ _ _).trans ?_
  rw [View.readAt_apply]
  congr 1
  funext a; apply Fin.ext; fin_cases a
  · show s.val + 1 * 0 = s.val; omega
  · show 0 + 1 * x.val = x.val; omega
  · show 0 + 1 * cc.val = cc.val; omega
theorem tb_read (b : Fin 100) (f : main_arg2.ty.Contents (Elt F)) (x : Fin 5000) (cc : Fin 128) :
    (tb b).view.read (Elt F) f (ix2 x cc) = tabM.view.read (Elt F) f (ix2 ⟨5000 * b.val + x.val, by omega⟩ cc) := by
  show tabM.view.read (Elt F) f ((Rect.unit (s := S500000x128) (blkOff b) S5000x128.size (blkOff_inb b)).emb (ix2 x cc)) = _
  congr 1
  funext a; apply Fin.ext; fin_cases a
  · show 5000 * b.val + 1 * x.val = 5000 * b.val + x.val; omega
  · show 0 + 1 * cc.val = cc.val; omega
theorem ob_read (b : Fin 100) (f : main_v0.ty.Contents (Elt F)) (x : Fin 5000) (cc : Fin 128) :
    (ob b).view.read (Elt F) f (ix2 x cc) = outM.view.read (Elt F) f (ix2 ⟨5000 * b.val + x.val, by omega⟩ cc) := by
  show outM.view.read (Elt F) f ((Rect.unit (s := S500000x128) (blkOff b) S5000x128.size (blkOff_inb b)).emb (ix2 x cc)) = _
  congr 1
  funext a; apply Fin.ext; fin_cases a
  · show 5000 * b.val + 1 * x.val = 5000 * b.val + x.val; omega
  · show 0 + 1 * cc.val = cc.val; omega

section Pieces
variable (c : Dev nD) (XT : Buf (Elt F) (tabM.view.loc (c : Thread nD τ)))
  (arg0 : Memref sig .tc .smem S128 .i32) (arg1 : Memref sig .tc .smem S16384 .i32) (arg3 : Memref sig .tc .vmem S4096x128 .i32)
  (gB : Buf (Elt F) (arg0.view.loc (c : Thread nD τ)))
  (gI : Buf (Elt F) (arg1.view.loc (c : Thread nD τ))) (gC : Buf (Elt F) (arg3.view.loc (c : Thread nD τ)))

/-- The start of block `n`'s ids. -/
def startAt (n : ℕ) : BitVec 32 := if h : n < 128 then arg0.view.read (Elt F) gB (ix1 ⟨n, h⟩) else 0

/-- The starts split the ids by their block. -/
def Starts : Prop := ∀ b < 100, (startAt c arg0 gB b).toNat ≤ (startAt c arg0 gB (b + 1)).toNat ∧ (startAt c arg0 gB (b + 1)).toNat ≤ 16384 ∧
  ∀ j < 16384, ((startAt c arg0 gB b).toNat ≤ j ∧ j < (startAt c arg0 gB (b + 1)).toNat) ↔ (idAt c arg1 gI j).toNat / 20000 = b

/-- The words of the result. -/
def outC : Buf (Elt F) (outM.view.loc (c : Thread nD τ)) :=
  outM.view.writes (Elt F) outM.view.junk [⟨Rect.whole S500000x128, fun i => wordAt c XT arg1 arg3 gI gC 16384 (i 1).val (i 0).val⟩]

abbrev obP (b : Fin 100) (f : Buf (Elt F) ((ob b).view.loc (c : Thread nD τ))) : sProp 𝕄 :=
  (ob b).view.loc (c : Thread nD τ) ↦[(ob b).view.set]{fullShare} f
/-- Block `b` of the result is done. -/
abbrev doneP (b : Fin 100) : sProp 𝕄 := obP c b (show Buf (Elt F) ((ob b).view.loc (c : Thread nD τ)) from outC c XT arg1 arg3 gI gC)
abbrev ciC (s : Fin 8) : sProp 𝕄 := semVal ((c : Thread nD τ), SemLoc.dma (ci s).sem) 0
abbrev coC (s : Fin 8) : sProp 𝕄 := semVal ((c : Thread nD τ), SemLoc.dma (co s).sem) 0
abbrev inL (s : Fin 8) (b : Fin 100) (f : Buf (Elt F) ((rs s).view.loc (c : Thread nD τ))) : Buf (Elt F) ((rs s).view.loc (c : Thread nD τ)) :=
  (rs s).view.writes (Elt F) f [⟨Rect.whole S5000x128, ReadAs.same.apply ((tb b).view.read (Elt F) XT)⟩]
abbrev outL (s : Fin 8) (b : Fin 100) (g : Buf (Elt F) ((ob b).view.loc (c : Thread nD τ))) (f : Buf (Elt F) ((rs s).view.loc (c : Thread nD τ))) :
    Buf (Elt F) ((ob b).view.loc (c : Thread nD τ)) :=
  (ob b).view.writes (Elt F) g [⟨Rect.whole S5000x128, ReadAs.same.apply ((rs s).view.read (Elt F) f)⟩]

/-- Slot `s` is being filled with block `b`; -/
def inF (s : Fin 8) (b : Fin 100) : sProp 𝕄 :=
  iprop(∃ f, Transfers.Flight countersEmb (c : Thread nD τ) (SemLoc.dma (ci s).sem) () 80000 iprop(slotP c s (inL c XT s b f) ∗ tabP c XT b))
/-- its finished words are being copied to block `b` of the result. -/
def outF (s : Fin 8) (b : Fin 100) : sProp 𝕄 :=
  iprop(∃ f g, ⌜∀ x cc, (rs s).view.read (Elt F) f (ix2 x cc) = wordAt c XT arg1 arg3 gI gC 16384 cc.val (5000 * b.val + x.val)⌝
    ∗ Transfers.Flight countersEmb (c : Thread nD τ) (SemLoc.dma (co s).sem) () 80000 iprop(obP c b (outL c s b g f) ∗ slotP c s f))
abbrev bndP : sProp 𝕄 := arg0.view.loc (c : Thread nD τ) ↦[arg0.view.set]{fullShare} gB

/-- What every trip uses. -/
abbrev baseP : sProp 𝕄 := iprop(bndP c arg0 gB ∗ idsP c arg1 gI ∗ codesP c arg3 gC ∗ ∃ W, owes (c : Thread nD τ) 0 W)

theorem read_start {off : Fin 1 → ℕ} (n : ℕ) (inb : ∀ a, off a + S1.size a ≤ S128.size a) (e : off = ![n]) (x) :
    arg0.view.readAt (Elt F) (Rect.unit (s := S128) off S1.size inb).toLoadRect gB x = startAt c arg0 gB n := by
  subst e
  have hn : n + 1 ≤ 128 := inb 0
  unfold startAt; rw [dif_pos (by omega), View.readAt_apply]
  congr 1
  funext a; apply Fin.ext; fin_cases a
  have : (x 0).val < 1 := (x 0).isLt
  show n + 1 * (x 0).val = n; omega

variable (hS : Starts c arg0 arg1 gB gI)
include hS

theorem inBlock_of {k : ℕ} (hk : k < 100) : InBlock c arg1 gI (startAt c arg0 gB k).toNat (startAt c arg0 gB (k + 1)).toNat k := by
  obtain ⟨h1, h2, h3⟩ := hS k hk
  refine ⟨h1, h2, fun j hl hh => ?_⟩
  have := (h3 j (by omega)).1 ⟨hl, hh⟩
  omega

/-- A block just copied in holds its words before any of its puts. -/
theorem holds_in {k : ℕ} (hk : k < 100) (f : Buf (Elt F) ((rs (sl k)).view.loc (c : Thread nD τ))) :
    Holds c XT arg1 arg3 gI gC (startAt c arg0 gB k).toNat k (inL c XT (sl k) (bk k) f) := by
  intro x cc
  obtain ⟨h1, h2, h3⟩ := hS k hk
  refine (rs_read (F := F) (sl k) (inL c XT (sl k) (bk k) f) x cc).symm.trans ?_
  refine (congrFun (View.read_writes_whole (rs (sl k)).view f _) (ix2 x cc)).trans ?_
  refine (tb_read (F := F) (bk k) XT x cc).trans ?_
  have hx := x.isLt
  unfold wordAt
  rw [after_eq_of_miss (idAt c arg1 gI) _ _ _ (Nat.zero_le _) (fun j _ hj e => by
    have := (h3 j (by omega)).2 (by omega); omega)]
  unfold after tabAt
  rw [dif_pos ⟨by omega, cc.isLt⟩]
  congr 2
  apply Fin.ext; show 5000 * (bk k).val + x.val = _; rw [bk_val hk]

/-- After its own puts a block holds its final words. -/
theorem holds_out {k : ℕ} (hk : k < 100) (n : ℕ) (hn : n = (startAt c arg0 gB (k + 1)).toNat) (f : Buf (Elt F) ((rs (sl k)).view.loc (c : Thread nD τ)))
    (hf : Holds c XT arg1 arg3 gI gC n k f) (x : Fin 5000) (cc : Fin 128) :
    (rs (sl k)).view.read (Elt F) f (ix2 x cc) = wordAt c XT arg1 arg3 gI gC 16384 cc.val (5000 * (bk k).val + x.val) := by
  subst hn
  obtain ⟨h1, h2, h3⟩ := hS k hk
  have hx := x.isLt
  rw [bk_val hk]
  refine (rs_read (F := F) (sl k) f x cc).trans ((hf x cc).trans ?_)
  unfold wordAt
  rw [after_eq_of_miss (idAt c arg1 gI) _ _ _ h2 (fun j hl hj e => by
    have := (h3 j (by omega)).2 (by omega); omega)]

omit hS in
/-- A block copied out is a block of the result. -/
theorem ob_done (s : Fin 8) (b : Fin 100) (g : Buf (Elt F) ((ob b).view.loc (c : Thread nD τ))) (f : Buf (Elt F) ((rs s).view.loc (c : Thread nD τ)))
    (hf : ∀ x cc, (rs s).view.read (Elt F) f (ix2 x cc) = wordAt c XT arg1 arg3 gI gC 16384 cc.val (5000 * b.val + x.val)) :
    obP c b (outL c s b g f) ⊢ doneP c XT arg1 arg3 gI gC b := by
  refine entails_of_eq ((pointsTo_rep (c := (c : Thread nD τ)) (ob b) (outL c s b g f) fullShare).trans
    (Eq.trans (congrArg (fun w => ((ob b).view.loc (c : Thread nD τ) ↦[(ob b).view.set]{fullShare} (ob b).view.rep w : sProp 𝕄)) ?_)
      (pointsTo_rep (c := (c : Thread nD τ)) (ob b) (outC c XT arg1 arg3 gI gC) fullShare).symm))
  refine (View.read_writes_whole (ob b).view g _).trans ?_
  funext i
  obtain ⟨x, cc, rfl⟩ : ∃ x cc, i = ix2 x cc := ⟨i 0, i 1, by funext a; fin_cases a <;> rfl⟩
  refine (hf x cc).trans (Eq.symm ((ob_read (F := F) b _ x cc).trans ?_))
  exact congrFun (View.read_writes_whole outM.view _ _) _

end Pieces

section Run
variable (c : Dev nD) (XT : Buf (Elt F) (tabM.view.loc (c : Thread nD τ)))
  (arg0 : Memref sig .tc .smem S128 .i32) (harg0 : arg0.IsWhole) (arg1 : Memref sig .tc .smem S16384 .i32) (harg1 : arg1.IsWhole)
  (arg3 : Memref sig .tc .vmem S4096x128 .i32) (harg3 : arg3.IsWhole)
  (gB : Buf (Elt F) (arg0.view.loc (c : Thread nD τ)))
  (gI : Buf (Elt F) (arg1.view.loc (c : Thread nD τ))) (gC : Buf (Elt F) (arg3.view.loc (c : Thread nD τ)))
  (k : Fin k0_t1_loop.trips) (hS : Starts c arg0 arg1 gB gI)

abbrev tripG : Prog (TpuEff nD τ sig (Elt F) Λ₀ .tc) Unit :=
  k0_t1_body (F := F) arg0 harg0 arg1 harg1 tabM (Memref.isWhole_whole _) arg3 harg3 outM (Memref.isWhole_whole _) bufM (Memref.isWhole_whole _) cc0_scratch1 cc0_scratch2 k ()

attribute [local irreducible] putsAt in
include hS in
/-- Trips 0 to 2: the slot to refill is free. -/
theorem trip_first (h3 : ¬ 3 ≤ k.val) :
    iprop(baseP c arg0 arg1 arg3 gB gI gC ∗ inF c XT (sl k.val) (bk k.val) ∗ coC c (sl k.val) ∗ (∃ f, obP c (bk k.val) f)
        ∗ (∃ f, slotP c (sl (k.val + 5)) f) ∗ ciC c (sl (k.val + 5)) ∗ coC c (sl (k.val + 5)) ∗ tabP c XT (bk (k.val + 5)))
      ⊢ wp frame (wpE (defs₀ (F := F)) 𝒱₀ (c : Thread nD τ) none) Set.univ (tripG arg0 harg0 arg1 harg1 arg3 harg3 k) (fun _ =>
    iprop(baseP c arg0 arg1 arg3 gB gI gC ∗ outF c XT arg1 arg3 gI gC (sl k.val) (bk k.val) ∗ ciC c (sl k.val) ∗ tabP c XT (bk k.val)
        ∗ inF c XT (sl (k.val + 5)) (bk (k.val + 5)) ∗ coC c (sl (k.val + 5)))) := by
  have hk : k.val < 100 := by omega
  unfold inF outF
  iintro ⟨⟨HB, HI, HC, ⟨%W, HW⟩⟩, ⟨%fi, HF⟩, Hco, ⟨%fo, HO⟩, ⟨%f3, HS3⟩, Hci, Hco3, HT⟩
  dsimp only [tripG]
  have hc1 : ¬ k0_cond1 k = 1#1 := fun h => h3 ((cond1_iff k).1 h)
  have h5 : k.val + 5 < 100 := by omega
  have hc2 := (cond2_iff k).2 h5
  sl_unfold [k0_t1_body]
  irw [k0_part1_eq_skeleton]
  sl_unfold [k0_part1_skel]
  sl_exec
  have e0 : trip_first.sl.r c arg0 gB k = startAt c arg0 gB k.val := read_start c arg0 gB _ _ (off4_eq k) _
  have e1 : trip_first.sl.r_1 c arg0 gB k = startAt c arg0 gB (k.val + 1) := read_start c arg0 gB _ _ (off5_eq k) _
  have hB : InBlock c arg1 gI (trip_first.sl.r c arg0 gB k).toNat (trip_first.sl.r_1 c arg0 gB k).toNat k.val := by
    rw [e0, e1]; exact inBlock_of c arg0 arg1 gB gI hS hk
  have hchk : k0_chk1 (trip_first.sl.r c arg0 gB k) (trip_first.sl.r_1 c arg0 gB k) := chk1_of _ _ hB.1 hB.2.1
  have hH : Holds c XT arg1 arg3 gI gC ((trip_first.sl.r c arg0 gB k).toNat + 0) k.val (inL c XT (sl k.val) (bk k.val) fi) := by
    rw [e0]; exact holds_in c XT arg0 arg1 arg3 gB gI gC hS hk fi
  ihave HP : putsAt c XT arg1 arg3 gI gC k ((trip_first.sl.r c arg0 gB k).toNat + 0) $$ [HI HC HF_dst HF_src]
  · iapply (putsAt_intro c XT arg1 arg3 gI gC k _ _ hH)
    isplitl [HI]; · iexact HI
    isplitl [HC]; · iexact HC
    isplitl [HF_src]; · iexact HF_src
    iexact HF_dst
  sl_exec
  irw [Idealize.SL.Sem.Prog.bind_assoc]
  sl_exec
  irw [Idealize.SL.Sem.Prog.bind_assoc]
  sl_exec
  ihave HP' := (putsAt_elim c XT arg1 arg3 gI gC k _) $$ [HP]
  · iexact HP
  icases HP' with ⟨HI, HC, HTk, ⟨%f, HS, %hf⟩⟩
  sl_exec
  sl_step
  have hn : (trip_first.sl.r c arg0 gB k).toNat + (k0_t2_loop (trip_first.sl.r c arg0 gB k) (trip_first.sl.r_1 c arg0 gB k)).trips = (startAt c arg0 gB (k.val + 1)).toNat := by
    rw [trips2 _ _ hB.1 hB.2.1, ← e1]; have := hB.1; omega
  isplitl [HB HI HC HW]
  · isplitl [HB]; · iexact HB
    isplitl [HI]; · iexact HI
    isplitl [HC]; · iexact HC
    iexists _; iexact HW
  isplitl [Hco]
  · iexists f, fo
    isplitr
    · ipureintro; exact holds_out c XT arg0 arg1 arg3 gB gI gC hS hk _ hn f hf
    iexact Hco
  isplitl [HF]; · iexact HF
  isplitl [HTk]; · iexact HTk
  isplitl [Hci]; · iexists f3; iexact Hci
  iexact Hco3

attribute [local irreducible] putsAt in
include hS in
/-- Trips 3 to 94: the slot to refill is freed by the copy out of three trips back. -/
theorem trip_mid (h3 : 3 ≤ k.val) (h5 : k.val + 5 < 100) :
    iprop(baseP c arg0 arg1 arg3 gB gI gC ∗ inF c XT (sl k.val) (bk k.val) ∗ coC c (sl k.val) ∗ (∃ f, obP c (bk k.val) f)
        ∗ outF c XT arg1 arg3 gI gC (sl (k.val + 5)) (bk (k.val - 3)) ∗ ciC c (sl (k.val + 5)) ∗ tabP c XT (bk (k.val + 5)))
      ⊢ wp frame (wpE (defs₀ (F := F)) 𝒱₀ (c : Thread nD τ) none) Set.univ (tripG arg0 harg0 arg1 harg1 arg3 harg3 k) (fun _ =>
    iprop(baseP c arg0 arg1 arg3 gB gI gC ∗ outF c XT arg1 arg3 gI gC (sl k.val) (bk k.val) ∗ ciC c (sl k.val) ∗ tabP c XT (bk k.val)
        ∗ inF c XT (sl (k.val + 5)) (bk (k.val + 5)) ∗ coC c (sl (k.val + 5)) ∗ doneP c XT arg1 arg3 gI gC (bk (k.val - 3)))) := by
  have hk : k.val < 100 := by omega
  unfold inF outF
  iintro ⟨⟨HB, HI, HC, ⟨%W, HW⟩⟩, ⟨%fi, HF⟩, Hco, ⟨%fo, HO⟩, ⟨%f3, %g3, %h3r, HF3⟩, Hci, HT⟩
  dsimp only [tripG]
  have hc1 := (cond1_iff k).2 h3
  have hc2 := (cond2_iff k).2 h5
  sl_unfold [k0_t1_body]
  irw [k0_part1_eq_skeleton]
  sl_unfold [k0_part1_skel]
  sl_exec
  have e0 : trip_mid.sl.r c arg0 gB k = startAt c arg0 gB k.val := read_start c arg0 gB _ _ (off4_eq k) _
  have e1 : trip_mid.sl.r_1 c arg0 gB k = startAt c arg0 gB (k.val + 1) := read_start c arg0 gB _ _ (off5_eq k) _
  have hB : InBlock c arg1 gI (trip_mid.sl.r c arg0 gB k).toNat (trip_mid.sl.r_1 c arg0 gB k).toNat k.val := by
    rw [e0, e1]; exact inBlock_of c arg0 arg1 gB gI hS hk
  have hchk : k0_chk1 (trip_mid.sl.r c arg0 gB k) (trip_mid.sl.r_1 c arg0 gB k) := chk1_of _ _ hB.1 hB.2.1
  have hH : Holds c XT arg1 arg3 gI gC ((trip_mid.sl.r c arg0 gB k).toNat + 0) k.val (inL c XT (sl k.val) (bk k.val) fi) := by
    rw [e0]; exact holds_in c XT arg0 arg1 arg3 gB gI gC hS hk fi
  ihave HP : putsAt c XT arg1 arg3 gI gC k ((trip_mid.sl.r c arg0 gB k).toNat + 0) $$ [HI HC HF_dst HF_src]
  · iapply (putsAt_intro c XT arg1 arg3 gI gC k _ _ hH)
    isplitl [HI]; · iexact HI
    isplitl [HC]; · iexact HC
    isplitl [HF_src]; · iexact HF_src
    iexact HF_dst
  sl_exec
  irw [Idealize.SL.Sem.Prog.bind_assoc]
  sl_exec
  irw [Idealize.SL.Sem.Prog.bind_assoc]
  sl_exec
  ihave HP' := (putsAt_elim c XT arg1 arg3 gI gC k _) $$ [HP]
  · iexact HP
  icases HP' with ⟨HI, HC, HTk, ⟨%f, HS, %hf⟩⟩
  sl_exec
  sl_step
  have hn : (trip_mid.sl.r c arg0 gB k).toNat + (k0_t2_loop (trip_mid.sl.r c arg0 gB k) (trip_mid.sl.r_1 c arg0 gB k)).trips = (startAt c arg0 gB (k.val + 1)).toNat := by
    rw [trips2 _ _ hB.1 hB.2.1, ← e1]; have := hB.1; omega
  isplitl [HB HI HC HW]
  · isplitl [HB]; · iexact HB
    isplitl [HI]; · iexact HI
    isplitl [HC]; · iexact HC
    iexists _; iexact HW
  isplitl [Hco]
  · iexists f, fo
    isplitr
    · ipureintro; exact holds_out c XT arg0 arg1 arg3 gB gI gC hS hk _ hn f hf
    iexact Hco
  isplitl [HF]; · iexact HF
  isplitl [HTk]; · iexact HTk
  isplitl [Hci]; · iexists f3; iexact Hci
  isplitl [HF3]; · iexact HF3
  iapply (ob_done c XT arg1 arg3 gI gC (sl (k.val + 5)) (bk (k.val - 3)) g3 f3 h3r); iexact HF3_dst

attribute [local irreducible] putsAt in
include hS in
/-- Trips 95 to 99: nothing is left to refill with. -/
theorem trip_last (h5 : ¬ k.val + 5 < 100) :
    iprop(baseP c arg0 arg1 arg3 gB gI gC ∗ inF c XT (sl k.val) (bk k.val) ∗ coC c (sl k.val) ∗ (∃ f, obP c (bk k.val) f)
        ∗ outF c XT arg1 arg3 gI gC (sl (k.val + 5)) (bk (k.val - 3)))
      ⊢ wp frame (wpE (defs₀ (F := F)) 𝒱₀ (c : Thread nD τ) none) Set.univ (tripG arg0 harg0 arg1 harg1 arg3 harg3 k) (fun _ =>
    iprop(baseP c arg0 arg1 arg3 gB gI gC ∗ outF c XT arg1 arg3 gI gC (sl k.val) (bk k.val) ∗ ciC c (sl k.val) ∗ tabP c XT (bk k.val)
        ∗ (∃ f, slotP c (sl (k.val + 5)) f) ∗ coC c (sl (k.val + 5)) ∗ doneP c XT arg1 arg3 gI gC (bk (k.val - 3)))) := by
  have hk : k.val < 100 := Nat.lt_of_lt_of_eq k.isLt trips1
  unfold inF outF
  iintro ⟨⟨HB, HI, HC, ⟨%W, HW⟩⟩, ⟨%fi, HF⟩, Hco, ⟨%fo, HO⟩, ⟨%f3, %g3, %h3r, HF3⟩⟩
  dsimp only [tripG]
  have h3 : 3 ≤ k.val := by omega
  have hc1 := (cond1_iff k).2 h3
  have hc2 : ¬ k0_cond2 k = 1#1 := fun h => h5 ((cond2_iff k).1 h)
  sl_unfold [k0_t1_body]
  irw [k0_part1_eq_skeleton]
  sl_unfold [k0_part1_skel]
  sl_exec
  have e0 : trip_last.sl.r c arg0 gB k = startAt c arg0 gB k.val := read_start c arg0 gB _ _ (off4_eq k) _
  have e1 : trip_last.sl.r_1 c arg0 gB k = startAt c arg0 gB (k.val + 1) := read_start c arg0 gB _ _ (off5_eq k) _
  have hB : InBlock c arg1 gI (trip_last.sl.r c arg0 gB k).toNat (trip_last.sl.r_1 c arg0 gB k).toNat k.val := by
    rw [e0, e1]; exact inBlock_of c arg0 arg1 gB gI hS hk
  have hchk : k0_chk1 (trip_last.sl.r c arg0 gB k) (trip_last.sl.r_1 c arg0 gB k) := chk1_of _ _ hB.1 hB.2.1
  have hH : Holds c XT arg1 arg3 gI gC ((trip_last.sl.r c arg0 gB k).toNat + 0) k.val (inL c XT (sl k.val) (bk k.val) fi) := by
    rw [e0]; exact holds_in c XT arg0 arg1 arg3 gB gI gC hS hk fi
  ihave HP : putsAt c XT arg1 arg3 gI gC k ((trip_last.sl.r c arg0 gB k).toNat + 0) $$ [HI HC HF_dst HF_src]
  · iapply (putsAt_intro c XT arg1 arg3 gI gC k _ _ hH)
    isplitl [HI]; · iexact HI
    isplitl [HC]; · iexact HC
    isplitl [HF_src]; · iexact HF_src
    iexact HF_dst
  sl_exec
  irw [Idealize.SL.Sem.Prog.bind_assoc]
  sl_exec
  irw [Idealize.SL.Sem.Prog.bind_assoc]
  sl_exec
  ihave HP' := (putsAt_elim c XT arg1 arg3 gI gC k _) $$ [HP]
  · iexact HP
  icases HP' with ⟨HI, HC, HTk, ⟨%f, HS, %hf⟩⟩
  sl_exec
  sl_step
  have hn : (trip_last.sl.r c arg0 gB k).toNat + (k0_t2_loop (trip_last.sl.r c arg0 gB k) (trip_last.sl.r_1 c arg0 gB k)).trips = (startAt c arg0 gB (k.val + 1)).toNat := by
    rw [trips2 _ _ hB.1 hB.2.1, ← e1]; have := hB.1; omega
  isplitl [HB HI HC HW]
  · isplitl [HB]; · iexact HB
    isplitl [HI]; · iexact HI
    isplitl [HC]; · iexact HC
    iexists _; iexact HW
  isplitl [Hco]
  · iexists f, fo
    isplitr
    · ipureintro; exact holds_out c XT arg0 arg1 arg3 gB gI gC hS hk _ hn f hf
    iexact Hco
  isplitl [HF]; · iexact HF
  isplitl [HTk]; · iexact HTk
  isplitl [HF3_src]; · iexists f3; iexact HF3_src
  isplitl [HF3]; · iexact HF3
  iapply (ob_done c XT arg1 arg3 gI gC (sl (k.val + 5)) (bk (k.val - 3)) g3 f3 h3r); iexact HF3_dst

end Run

end Cert.Proof.Merge

end
-- ==== Proof.Merge.State.lean ====
/- What is held before trip `k` of the merge: each slot filling, emptying or free, and which blocks of the table and the result are at rest. -/
module

public import proofs.«01_k».proof.Proof.Merge.Trip

@[expose] public section

noncomputable section

namespace Cert.Proof.Merge

open Cert.Merge Cert.Merge.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- How far slot `s` is ahead of trip `k`. -/
def rel (k : ℕ) (s : Fin 8) : ℕ := (s.val + 8 - k % 8) % 8
theorem rel_sl (k j : ℕ) (h : j < 8) : rel k (sl (k + j)) = j := by
  unfold rel; show ((k + j) % 8 + 8 - k % 8) % 8 = j; omega
theorem rel_self (k : ℕ) : rel k (sl k) = 0 := rel_sl k 0 (by decide)
theorem rel_next_self (k : ℕ) : rel (k + 1) (sl k) = 7 := by
  unfold rel; show (k % 8 + 8 - (k + 1) % 8) % 8 = 7; omega
theorem rel_next_five (k : ℕ) : rel (k + 1) (sl (k + 5)) = 4 := rel_sl (k + 1) 4 (by decide)
theorem rel_next (k : ℕ) (s : Fin 8) (h : s ≠ sl k) : rel (k + 1) s + 1 = rel k s := by
  have h' : s.val ≠ k % 8 := fun e => h (Fin.ext e)
  have := s.isLt
  unfold rel; omega
theorem rel_ne_five (k : ℕ) (s : Fin 8) (h : s ≠ sl (k + 5)) : rel k s ≠ 5 := by
  have h' : s.val ≠ (k + 5) % 8 := fun e => h (Fin.ext e)
  have := s.isLt
  unfold rel; omega
theorem rel_ne_zero (k : ℕ) (s : Fin 8) (h : s ≠ sl k) : rel k s ≠ 0 := by
  have := rel_next k s h; omega
theorem sl_ne (k : ℕ) : sl (k + 5) ≠ sl k := fun e => by
  have : (k + 5) % 8 = k % 8 := congrArg Fin.val e
  omega

theorem bigSep_out {ι : Type} [DecidableEq ι] {s : Finset ι} {i : ι} (h : i ∈ s) (Φ : ι → sProp 𝕄) :
    bigSep s Φ = iprop(Φ i ∗ bigSep (s.erase i) Φ) := bigSep_erase h
theorem bigSep_in {ι : Type} [DecidableEq ι] {s : Finset ι} {i : ι} (h : i ∉ s) (Φ : ι → sProp 𝕄) :
    bigSep (insert i s) Φ = iprop(Φ i ∗ bigSep s Φ) := bigSep_insert h

section State
variable (c : Dev nD) (XT : Buf (Elt F) (tabM.view.loc (c : Thread nD τ)))
  (arg0 : Memref sig .tc .smem S128 .i32) (arg1 : Memref sig .tc .smem S16384 .i32) (arg3 : Memref sig .tc .vmem S4096x128 .i32)
  (gB : Buf (Elt F) (arg0.view.loc (c : Thread nD τ)))
  (gI : Buf (Elt F) (arg1.view.loc (c : Thread nD τ))) (gC : Buf (Elt F) (arg3.view.loc (c : Thread nD τ)))

/-- A free slot. -/
def freeS (s : Fin 8) : sProp 𝕄 := iprop((∃ f, slotP c s f) ∗ ciC c s ∗ coC c s)

/-- Slot `s`, `j` ahead of trip `k`: five blocks are filling, and the last three are emptying. -/
def slotAt (k j : ℕ) (s : Fin 8) : sProp 𝕄 :=
  if j < 5 then (if k + j < 100 then iprop(inF c XT s (bk (k + j)) ∗ coC c s) else freeS c s)
  else (if 8 ≤ k + j then iprop(outF c XT arg1 arg3 gI gC s (bk (k + j - 8)) ∗ ciC c s) else freeS c s)
abbrev slotS (k : ℕ) (s : Fin 8) : sProp 𝕄 := slotAt c XT arg1 arg3 gI gC k (rel k s) s

/-- The table's blocks at rest before trip `k`; -/
def homeS (k : ℕ) : Finset (Fin 100) := Finset.univ.filter fun b => b.val < k ∨ k + 5 ≤ b.val
/-- the result's blocks not yet written, -/
def rawS (k : ℕ) : Finset (Fin 100) := Finset.univ.filter fun b => k ≤ b.val
/-- and those done. -/
def doneS (k : ℕ) : Finset (Fin 100) := Finset.univ.filter fun b => b.val + 3 < k
abbrev rawP (b : Fin 100) : sProp 𝕄 := iprop(∃ f, obP c b f)

/-- All that is held before trip `k`. -/
def stateAt (k : ℕ) : sProp 𝕄 :=
  iprop(baseP c arg0 arg1 arg3 gB gI gC ∗ bigSep Finset.univ (slotS c XT arg1 arg3 gI gC k)
    ∗ bigSep (homeS k) (tabP c XT) ∗ bigSep (rawS k) (rawP c) ∗ bigSep (doneS k) (doneP c XT arg1 arg3 gI gC))

theorem homeS_out (k : ℕ) (h : k + 5 < 100) : homeS k = insert (bk (k + 5)) ((homeS k).erase (bk (k + 5))) := by
  rw [Finset.insert_erase]; simp only [homeS, Finset.mem_filter, Finset.mem_univ, true_and, bk_val h]; omega
theorem homeS_next (k : ℕ) (h : k + 5 < 100) : homeS (k + 1) = insert (bk k) ((homeS k).erase (bk (k + 5))) := by
  ext b; have := b.isLt
  simp only [homeS, Finset.mem_filter, Finset.mem_univ, true_and, Finset.mem_insert, Finset.mem_erase, ne_eq, Fin.ext_iff, bk_val h, bk_val (show k < 100 by omega)]; omega
theorem homeS_next_last (k : ℕ) (h : ¬ k + 5 < 100) (hk : k < 100) : homeS (k + 1) = insert (bk k) (homeS k) := by
  ext b; have := b.isLt
  simp only [homeS, Finset.mem_filter, Finset.mem_univ, true_and, Finset.mem_insert, Fin.ext_iff, bk_val hk]; omega
theorem bk_not_home (k : ℕ) (hk : k < 100) : bk k ∉ homeS k := by
  simp only [homeS, Finset.mem_filter, Finset.mem_univ, true_and, bk_val hk]; omega
theorem rawS_out (k : ℕ) (hk : k < 100) : rawS k = insert (bk k) (rawS (k + 1)) := by
  ext b; have := b.isLt
  simp only [rawS, Finset.mem_filter, Finset.mem_univ, true_and, Finset.mem_insert, Fin.ext_iff, bk_val hk]; omega
theorem bk_not_raw (k : ℕ) (hk : k < 100) : bk k ∉ rawS (k + 1) := by
  simp only [rawS, Finset.mem_filter, Finset.mem_univ, true_and, bk_val hk]; omega
theorem doneS_next (k : ℕ) (h3 : 3 ≤ k) (hk : k < 100) : doneS (k + 1) = insert (bk (k - 3)) (doneS k) := by
  ext b; have := b.isLt
  simp only [doneS, Finset.mem_filter, Finset.mem_univ, true_and, Finset.mem_insert, Fin.ext_iff, bk_val (show k - 3 < 100 by omega)]; omega
theorem bk_not_done (k : ℕ) (h3 : 3 ≤ k) (hk : k < 100) : bk (k - 3) ∉ doneS k := by
  simp only [doneS, Finset.mem_filter, Finset.mem_univ, true_and, bk_val (show k - 3 < 100 by omega)]; omega
theorem doneS_first (k : ℕ) (h3 : ¬ 3 ≤ k) : doneS (k + 1) = doneS k := by
  ext b; simp only [doneS, Finset.mem_filter, Finset.mem_univ, true_and]; omega

/-- The slots a trip leaves alone. -/
abbrev restS (k : ℕ) : Finset (Fin 8) := (Finset.univ.erase (sl k)).erase (sl (k + 5))

theorem slots_split (k : ℕ) (P : Fin 8 → sProp 𝕄) :
    bigSep Finset.univ P = iprop(P (sl k) ∗ P (sl (k + 5)) ∗ bigSep (restS k) P) := by
  conv_lhs => rw [bigSep_erase (Finset.mem_univ (sl k)), bigSep_erase (Finset.mem_erase.2 ⟨sl_ne k, Finset.mem_univ (sl (k + 5))⟩)]
  rfl

theorem rest_same (k : ℕ) : bigSep (restS k) (slotS c XT arg1 arg3 gI gC k) = bigSep (restS k) (slotS c XT arg1 arg3 gI gC (k + 1)) :=
  bigSep_congr fun s hs => by
    have h5 := (Finset.mem_erase.1 hs).1
    have h0 := (Finset.mem_erase.1 (Finset.mem_erase.1 hs).2).1
    have e := rel_next k s h0
    have n5 := rel_ne_five k s h5
    have e1 : k + 1 + rel (k + 1) s = k + rel k s := by omega
    unfold slotS slotAt
    rw [e1]
    by_cases h : rel k s < 5
    · rw [if_pos h, if_pos (show rel (k + 1) s < 5 by omega)]
    · rw [if_neg h, if_neg (show ¬ rel (k + 1) s < 5 by omega)]

theorem slot_here (k : ℕ) (hk : k < 100) : slotS c XT arg1 arg3 gI gC k (sl k) = iprop(inF c XT (sl k) (bk k) ∗ coC c (sl k)) := by
  unfold slotS slotAt; rw [rel_self, if_pos (by decide), if_pos (by omega)]; rfl
theorem slot_gone (k : ℕ) : slotS c XT arg1 arg3 gI gC (k + 1) (sl k) = iprop(outF c XT arg1 arg3 gI gC (sl k) (bk k) ∗ ciC c (sl k)) := by
  unfold slotS slotAt; rw [rel_next_self, if_neg (by decide), if_pos (by omega), show k + 1 + 7 - 8 = k by omega]
theorem slot_five (k : ℕ) (h3 : 3 ≤ k) : slotS c XT arg1 arg3 gI gC k (sl (k + 5)) = iprop(outF c XT arg1 arg3 gI gC (sl (k + 5)) (bk (k - 3)) ∗ ciC c (sl (k + 5))) := by
  unfold slotS slotAt; rw [rel_sl k 5 (by decide), if_neg (by decide), if_pos (by omega)]; rfl
theorem slot_five_first (k : ℕ) (h3 : ¬ 3 ≤ k) : slotS c XT arg1 arg3 gI gC k (sl (k + 5)) = freeS c (sl (k + 5)) := by
  unfold slotS slotAt; rw [rel_sl k 5 (by decide), if_neg (by decide), if_neg (by omega)]
theorem slot_filled (k : ℕ) (h5 : k + 5 < 100) : slotS c XT arg1 arg3 gI gC (k + 1) (sl (k + 5)) = iprop(inF c XT (sl (k + 5)) (bk (k + 5)) ∗ coC c (sl (k + 5))) := by
  unfold slotS slotAt; rw [rel_next_five, if_pos (by decide), if_pos (by omega)]
theorem slot_freed (k : ℕ) (h5 : ¬ k + 5 < 100) : slotS c XT arg1 arg3 gI gC (k + 1) (sl (k + 5)) = freeS c (sl (k + 5)) := by
  unfold slotS slotAt; rw [rel_next_five, if_pos (by decide), if_neg (by omega)]

end State

end Cert.Proof.Merge

end
-- ==== Proof.Merge.Loop.lean ====
/- One trip of the merge over everything held, and the invariant of its main loop. -/
module

public import proofs.«01_k».proof.Proof.Merge.State

@[expose] public section

noncomputable section

namespace Cert.Proof.Merge

open Cert.Merge Cert.Merge.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop
variable (c : Dev nD) (XT : Buf (Elt F) (tabM.view.loc (c : Thread nD τ)))
  (arg0 : Memref sig .tc .smem S128 .i32) (harg0 : arg0.IsWhole) (arg1 : Memref sig .tc .smem S16384 .i32) (harg1 : arg1.IsWhole)
  (arg3 : Memref sig .tc .vmem S4096x128 .i32) (harg3 : arg3.IsWhole)
  (gB : Buf (Elt F) (arg0.view.loc (c : Thread nD τ)))
  (gI : Buf (Elt F) (arg1.view.loc (c : Thread nD τ))) (gC : Buf (Elt F) (arg3.view.loc (c : Thread nD τ)))

section Step
variable (k : Fin k0_t1_loop.trips) (hS : Starts c arg0 arg1 gB gI)
include hS

theorem step_first (h3 : ¬ 3 ≤ k.val) :
    stateAt c XT arg0 arg1 arg3 gB gI gC k.val
      ⊢ wp frame (wpE (defs₀ (F := F)) 𝒱₀ (c : Thread nD τ) none) Set.univ (tripG arg0 harg0 arg1 harg1 arg3 harg3 k) (fun _ =>
        stateAt c XT arg0 arg1 arg3 gB gI gC (k.val + 1)) := by
  have hk : k.val < 100 := by omega
  have h5 : k.val + 5 < 100 := by omega
  unfold stateAt
  rw [slots_split k.val, slots_split k.val, slot_here c XT arg1 arg3 gI gC k.val hk, slot_gone, slot_five_first c XT arg1 arg3 gI gC k.val h3,
    slot_filled c XT arg1 arg3 gI gC k.val h5, rest_same,
    homeS_next k.val h5, bigSep_in (fun h => bk_not_home k.val hk (Finset.mem_of_mem_erase h)),
    bigSep_out (show bk (k.val + 5) ∈ homeS k.val by rw [homeS_out k.val h5]; exact Finset.mem_insert_self _ _),
    rawS_out k.val hk, bigSep_in (bk_not_raw k.val hk), doneS_first k.val h3]
  unfold freeS
  iintro ⟨HB, ⟨⟨HF, Hco⟩, ⟨Hs5, Hci5, Hco5⟩, HR⟩, ⟨HT5, HT⟩, ⟨HO, HRaw⟩, HD⟩
  iapply (wp_wand_r Idealize.ShloMosaic.frame (wpE (defs₀ (F := F)) 𝒱₀ (c : Thread nD τ) none) Set.univ)
  isplitl [HB HF Hco Hs5 Hci5 Hco5 HT5 HO]
  · iapply (trip_first c XT arg0 harg0 arg1 harg1 arg3 harg3 gB gI gC k hS h3)
    isplitl [HB]; · iexact HB
    isplitl [HF]; · iexact HF
    isplitl [Hco]; · iexact Hco
    isplitl [HO]; · iexact HO
    isplitl [Hs5]; · iexact Hs5
    isplitl [Hci5]; · iexact Hci5
    isplitl [Hco5]; · iexact Hco5
    iexact HT5
  · iintro %_ ⟨HB, HF, Hci, HT5, HF5, Hco5⟩
    isplitl [HB]; · iexact HB
    isplitl [HF Hci HF5 Hco5 HR]
    · isplitl [HF Hci]
      · isplitl [HF]; · iexact HF
        iexact Hci
      isplitl [HF5 Hco5]
      · isplitl [HF5]; · iexact HF5
        iexact Hco5
      iexact HR
    isplitl [HT5 HT]
    · isplitl [HT5]; · iexact HT5
      iexact HT
    isplitl [HRaw]; · iexact HRaw
    iexact HD

theorem step_mid (h3 : 3 ≤ k.val) (h5 : k.val + 5 < 100) :
    stateAt c XT arg0 arg1 arg3 gB gI gC k.val
      ⊢ wp frame (wpE (defs₀ (F := F)) 𝒱₀ (c : Thread nD τ) none) Set.univ (tripG arg0 harg0 arg1 harg1 arg3 harg3 k) (fun _ =>
        stateAt c XT arg0 arg1 arg3 gB gI gC (k.val + 1)) := by
  have hk : k.val < 100 := by omega
  unfold stateAt
  rw [slots_split k.val, slots_split k.val, slot_here c XT arg1 arg3 gI gC k.val hk, slot_gone, slot_five c XT arg1 arg3 gI gC k.val h3,
    slot_filled c XT arg1 arg3 gI gC k.val h5, rest_same,
    homeS_next k.val h5, bigSep_in (fun h => bk_not_home k.val hk (Finset.mem_of_mem_erase h)),
    bigSep_out (show bk (k.val + 5) ∈ homeS k.val by rw [homeS_out k.val h5]; exact Finset.mem_insert_self _ _),
    rawS_out k.val hk, bigSep_in (bk_not_raw k.val hk), doneS_next k.val h3 hk, bigSep_in (bk_not_done k.val h3 hk)]
  iintro ⟨HB, ⟨⟨HF, Hco⟩, ⟨HF5, Hci5⟩, HR⟩, ⟨HT5, HT⟩, ⟨HO, HRaw⟩, HD⟩
  iapply (wp_wand_r Idealize.ShloMosaic.frame (wpE (defs₀ (F := F)) 𝒱₀ (c : Thread nD τ) none) Set.univ)
  isplitl [HB HF Hco HF5 Hci5 HT5 HO]
  · iapply (trip_mid c XT arg0 harg0 arg1 harg1 arg3 harg3 gB gI gC k hS h3 h5)
    isplitl [HB]; · iexact HB
    isplitl [HF]; · iexact HF
    isplitl [Hco]; · iexact Hco
    isplitl [HO]; · iexact HO
    isplitl [HF5]; · iexact HF5
    isplitl [Hci5]; · iexact Hci5
    iexact HT5
  · iintro %_ ⟨HB, HF, Hci, HT5, HF5, Hco5, HN⟩
    isplitl [HB]; · iexact HB
    isplitl [HF Hci HF5 Hco5 HR]
    · isplitl [HF Hci]
      · isplitl [HF]; · iexact HF
        iexact Hci
      isplitl [HF5 Hco5]
      · isplitl [HF5]; · iexact HF5
        iexact Hco5
      iexact HR
    isplitl [HT5 HT]
    · isplitl [HT5]; · iexact HT5
      iexact HT
    isplitl [HRaw]; · iexact HRaw
    isplitl [HN]; · iexact HN
    iexact HD

theorem step_last (h5 : ¬ k.val + 5 < 100) :
    stateAt c XT arg0 arg1 arg3 gB gI gC k.val
      ⊢ wp frame (wpE (defs₀ (F := F)) 𝒱₀ (c : Thread nD τ) none) Set.univ (tripG arg0 harg0 arg1 harg1 arg3 harg3 k) (fun _ =>
        stateAt c XT arg0 arg1 arg3 gB gI gC (k.val + 1)) := by
  have hk : k.val < 100 := Nat.lt_of_lt_of_eq k.isLt trips1
  have h3 : 3 ≤ k.val := by omega
  unfold stateAt
  rw [slots_split k.val, slots_split k.val, slot_here c XT arg1 arg3 gI gC k.val hk, slot_gone, slot_five c XT arg1 arg3 gI gC k.val h3,
    slot_freed c XT arg1 arg3 gI gC k.val h5, rest_same,
    homeS_next_last k.val h5 hk, bigSep_in (bk_not_home k.val hk),
    rawS_out k.val hk, bigSep_in (bk_not_raw k.val hk), doneS_next k.val h3 hk, bigSep_in (bk_not_done k.val h3 hk)]
  unfold freeS
  iintro ⟨HB, ⟨⟨HF, Hco⟩, ⟨HF5, Hci5⟩, HR⟩, HT, ⟨HO, HRaw⟩, HD⟩
  iapply (wp_wand_r Idealize.ShloMosaic.frame (wpE (defs₀ (F := F)) 𝒱₀ (c : Thread nD τ) none) Set.univ)
  isplitl [HB HF Hco HF5 HO]
  · iapply (trip_last c XT arg0 harg0 arg1 harg1 arg3 harg3 gB gI gC k hS h5)
    isplitl [HB]; · iexact HB
    isplitl [HF]; · iexact HF
    isplitl [Hco]; · iexact Hco
    isplitl [HO]; · iexact HO
    iexact HF5
  · iintro %_ ⟨HB, HF, Hci, HT5, HS5, Hco5, HN⟩
    isplitl [HB]; · iexact HB
    isplitl [HF Hci HS5 Hci5 Hco5 HR]
    · isplitl [HF Hci]
      · isplitl [HF]; · iexact HF
        iexact Hci
      isplitl [HS5 Hci5 Hco5]
      · isplitl [HS5]; · iexact HS5
        isplitl [Hci5]; · iexact Hci5
        iexact Hco5
      iexact HR
    isplitl [HT5 HT]
    · isplitl [HT5]; · iexact HT5
      iexact HT
    isplitl [HRaw]; · iexact HRaw
    isplitl [HN]; · iexact HN
    iexact HD

theorem step_all :
    stateAt c XT arg0 arg1 arg3 gB gI gC k.val
      ⊢ wp frame (wpE (defs₀ (F := F)) 𝒱₀ (c : Thread nD τ) none) Set.univ (tripG arg0 harg0 arg1 harg1 arg3 harg3 k) (fun _ =>
        stateAt c XT arg0 arg1 arg3 gB gI gC (k.val + 1)) := by
  by_cases h3 : 3 ≤ k.val
  · by_cases h5 : k.val + 5 < 100
    · exact step_mid c XT arg0 harg0 arg1 harg1 arg3 harg3 gB gI gC k hS h3 h5
    · exact step_last c XT arg0 harg0 arg1 harg1 arg3 harg3 gB gI gC k hS h5
  · exact step_first c XT arg0 harg0 arg1 harg1 arg3 harg3 gB gI gC k hS h3

end Step

/-- The state together with the fact the trips rely on. -/
def invAt (k : ℕ) : sProp 𝕄 := iprop(⌜Starts c arg0 arg1 gB gI⌝ ∗ stateAt c XT arg0 arg1 arg3 gB gI gC k)
theorem invAt_intro (k : ℕ) (hS : Starts c arg0 arg1 gB gI) : stateAt c XT arg0 arg1 arg3 gB gI gC k ⊢ invAt c XT arg0 arg1 arg3 gB gI gC k := by
  unfold invAt; iintro H; isplitr; · ipureintro; exact hS
  iexact H
theorem invAt_elim (k : ℕ) : invAt c XT arg0 arg1 arg3 gB gI gC k ⊢ stateAt c XT arg0 arg1 arg3 gB gI gC k := by
  unfold invAt; iintro ⟨-, H⟩; iexact H

set_option warn.classDefReducibility false in
/-- The main loop: before trip `k` the state is `stateAt k`. -/
@[sl_loop] def loopInv1 :
    LoopInvTy_k0_t1 (F := F) Unit ℕ (UU nD τ) ℕ 𝒱₀ c none Set.univ arg0 harg0 arg1 harg1 tabM (Memref.isWhole_whole _) arg3 harg3 outM (Memref.isWhole_whole _) bufM (Memref.isWhole_whole _) cc0_scratch1 cc0_scratch2 where
  inv k _ := invAt c XT arg0 arg1 arg3 gB gI gC k
  step k a := by
    unfold invAt
    iintro ⟨%hS, H⟩
    iapply (wp_wand_r Idealize.ShloMosaic.frame (wpE (defs₀ (F := F)) 𝒱₀ (c : Thread nD τ) none) Set.univ)
    isplitl [H]
    · iapply (step_all c XT arg0 harg0 arg1 harg1 arg3 harg3 gB gI gC k hS); iexact H
    · iintro %_ H'
      isplitr; · ipureintro; exact hS
      iexact H'

end Loop

end Cert.Proof.Merge

end
-- ==== Proof.Merge.Body.lean ====
/- The merge's body: five blocks start filling, the main loop, the last three copies out are waited for. -/
module

public import proofs.«01_k».proof.Proof.Merge.Loop

@[expose] public section

noncomputable section

namespace Cert.Proof.Merge

open Cert.Merge Cert.Merge.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (XT : Buf (Elt F) (tabM.view.loc (c : Thread nD τ)))
  (arg0 : Memref sig .tc .smem S128 .i32) (harg0 : arg0.IsWhole) (arg1 : Memref sig .tc .smem S16384 .i32) (harg1 : arg1.IsWhole)
  (arg3 : Memref sig .tc .vmem S4096x128 .i32) (harg3 : arg3.IsWhole)
  (gB : Buf (Elt F) (arg0.view.loc (c : Thread nD τ)))
  (gI : Buf (Elt F) (arg1.view.loc (c : Thread nD τ))) (gC : Buf (Elt F) (arg3.view.loc (c : Thread nD τ)))

abbrev bodyG : Prog (TpuEff nD τ sig (Elt F) Λ₀ .tc) PUnit :=
  cc0_tc_merge (F := F) arg0 harg0 arg1 harg1 tabM (Memref.isWhole_whole _) arg3 harg3 outM (Memref.isWhole_whole _) bufM (Memref.isWhole_whole _) cc0_scratch1 cc0_scratch2

theorem bigSep_fin8 (P : Fin 8 → sProp 𝕄) : bigSep Finset.univ P = iprop(P 0 ∗ P 1 ∗ P 2 ∗ P 3 ∗ P 4 ∗ P 5 ∗ P 6 ∗ P 7) :=
  bigSep_univ_eq_bigSepL [(0 : Fin 8), 1, 2, 3, 4, 5, 6, 7] (by decide) (by decide) P

/-- The first five blocks and the rest. -/
theorem blocks_zero (P : Fin 100 → sProp 𝕄) :
    bigSep Finset.univ P = iprop(P 0 ∗ P 1 ∗ P 2 ∗ P 3 ∗ P 4 ∗ bigSep (homeS 0) P) := by
  have e : (Finset.univ : Finset (Fin 100)) = insert 0 (insert 1 (insert 2 (insert 3 (insert 4 (homeS 0))))) := by
    ext b
    simp only [homeS, Finset.mem_univ, Finset.mem_insert, Finset.mem_filter, true_and, true_iff, Fin.ext_iff]
    have := b.isLt
    show b.val = 0 ∨ b.val = 1 ∨ b.val = 2 ∨ b.val = 3 ∨ b.val = 4 ∨ _
    omega
  rw [e, bigSep_in (by decide), bigSep_in (by decide), bigSep_in (by decide), bigSep_in (by decide), bigSep_in (by decide)]

/-- The last three blocks and the rest. -/
theorem blocks_done (P : Fin 100 → sProp 𝕄) :
    bigSep Finset.univ P = iprop(P 97 ∗ P 98 ∗ P 99 ∗ bigSep (doneS 100) P) := by
  have e : (Finset.univ : Finset (Fin 100)) = insert 97 (insert 98 (insert 99 (doneS 100))) := by
    ext b
    simp only [doneS, Finset.mem_univ, Finset.mem_insert, Finset.mem_filter, true_and, true_iff, Fin.ext_iff]
    have := b.isLt
    show b.val = 97 ∨ b.val = 98 ∨ b.val = 99 ∨ _
    omega
  rw [e, bigSep_in (by decide), bigSep_in (by decide), bigSep_in (by decide)]

theorem raw_zero : rawS 0 = Finset.univ := by decide
theorem done_zero : doneS 0 = ∅ := by decide
theorem home_last : homeS 100 = Finset.univ := by decide

theorem slots_first : bigSep Finset.univ (slotS c XT arg1 arg3 gI gC 0)
    = iprop((inF c XT 0 0 ∗ coC c 0) ∗ (inF c XT 1 1 ∗ coC c 1) ∗ (inF c XT 2 2 ∗ coC c 2) ∗ (inF c XT 3 3 ∗ coC c 3) ∗ (inF c XT 4 4 ∗ coC c 4)
      ∗ freeS c 5 ∗ freeS c 6 ∗ freeS c 7) := bigSep_fin8 _
theorem slots_last : bigSep Finset.univ (slotS c XT arg1 arg3 gI gC 100)
    = iprop(freeS c 0 ∗ (outF c XT arg1 arg3 gI gC 1 97 ∗ ciC c 1) ∗ (outF c XT arg1 arg3 gI gC 2 98 ∗ ciC c 2) ∗ (outF c XT arg1 arg3 gI gC 3 99 ∗ ciC c 3)
      ∗ freeS c 4 ∗ freeS c 5 ∗ freeS c 6 ∗ freeS c 7) := bigSep_fin8 _

/-- What the loop leaves. -/
theorem invAt_last (k : ℕ) (hk : k = 100) : invAt c XT arg0 arg1 arg3 gB gI gC k
    ⊢ iprop(baseP c arg0 arg1 arg3 gB gI gC
      ∗ (freeS c 0 ∗ (outF c XT arg1 arg3 gI gC 1 97 ∗ ciC c 1) ∗ (outF c XT arg1 arg3 gI gC 2 98 ∗ ciC c 2) ∗ (outF c XT arg1 arg3 gI gC 3 99 ∗ ciC c 3)
        ∗ freeS c 4 ∗ freeS c 5 ∗ freeS c 6 ∗ freeS c 7)
      ∗ bigSep Finset.univ (tabP c XT) ∗ bigSep (rawS 100) (rawP c) ∗ bigSep (doneS 100) (doneP c XT arg1 arg3 gI gC)) := by
  subst hk
  refine (invAt_elim c XT arg0 arg1 arg3 gB gI gC 100).trans ?_
  unfold stateAt
  rw [slots_last, home_last]

/-- What the body is handed, -/
def bodyPre : sProp 𝕄 :=
  iprop(baseP c arg0 arg1 arg3 gB gI gC ∗ bigSep Finset.univ (freeS c) ∗ bigSep Finset.univ (tabP c XT) ∗ bigSep Finset.univ (rawP c))
/-- and what it hands back. -/
def bodyPost : sProp 𝕄 :=
  iprop(baseP c arg0 arg1 arg3 gB gI gC ∗ bigSep Finset.univ (freeS c) ∗ bigSep Finset.univ (tabP c XT) ∗ bigSep Finset.univ (doneP c XT arg1 arg3 gI gC))

attribute [local irreducible] invAt in
theorem bodyRun (hS : Starts c arg0 arg1 gB gI) :
    bodyPre c XT arg0 arg1 arg3 gB gI gC
      ⊢ wp frame (wpE (defs₀ (F := F)) 𝒱₀ (c : Thread nD τ) none) Set.univ (bodyG arg0 harg0 arg1 harg1 arg3 harg3) (fun _ =>
        bodyPost c XT arg0 arg1 arg3 gB gI gC) := by
  unfold bodyPre
  rw [bigSep_fin8, blocks_zero (tabP c XT)]
  unfold freeS
  iintro ⟨⟨HB, HI, HC, ⟨%W, HW⟩⟩, ⟨⟨⟨%f0, Hs0⟩, Hci0, Hco0⟩, ⟨⟨%f1, Hs1⟩, Hci1, Hco1⟩, ⟨⟨%f2, Hs2⟩, Hci2, Hco2⟩, ⟨⟨%f3, Hs3⟩, Hci3, Hco3⟩, ⟨⟨%f4, Hs4⟩, Hci4, Hco4⟩, HF5, HF6, HF7⟩, ⟨HT0, HT1, HT2, HT3, HT4, HT⟩, HO⟩
  dsimp only [bodyG]
  irw [cc0_tc_merge_eq_skeleton]
  sl_unfold [cc0_tc_merge_skel]
  irw [k0_part2_eq_skeleton]
  sl_unfold [k0_part2_skel]
  sl_exec
  ihave HP : invAt c XT arg0 arg1 arg3 gB gI gC 0 $$ [HB HI HC HW Hci0 Hco0 Hci1 Hco1 Hci2 Hco2 Hci3 Hco3 Hci4 Hco4 HF5 HF6 HF7 HT HO]
  · iapply (invAt_intro c XT arg0 arg1 arg3 gB gI gC 0 hS)
    unfold stateAt
    rw [slots_first, raw_zero, done_zero, bigSep_empty]
    unfold freeS inF
    isplitl [HB HI HC HW]
    · isplitl [HB]; · iexact HB
      isplitl [HI]; · iexact HI
      isplitl [HC]; · iexact HC
      iexists _; iexact HW
    isplitl [Hci0 Hco0 Hci1 Hco1 Hci2 Hco2 Hci3 Hco3 Hci4 Hco4 HF5 HF6 HF7]
    · isplitl [Hci0 Hco0]
      · isplitl [Hci0]; · iexists _; iexact Hci0
        iexact Hco0
      isplitl [Hci1 Hco1]
      · isplitl [Hci1]; · iexists _; iexact Hci1
        iexact Hco1
      isplitl [Hci2 Hco2]
      · isplitl [Hci2]; · iexists _; iexact Hci2
        iexact Hco2
      isplitl [Hci3 Hco3]
      · isplitl [Hci3]; · iexists _; iexact Hci3
        iexact Hco3
      isplitl [Hci4 Hco4]
      · isplitl [Hci4]; · iexists _; iexact Hci4
        iexact Hco4
      isplitl [HF5]; · iexact HF5
      isplitl [HF6]; · iexact HF6
      iexact HF7
    isplitl [HT]; · iexact HT
    isplitl [HO]; · iexact HO
    iempintro
  sl_exec
  ihave HP' := (invAt_last c XT arg0 arg1 arg3 gB gI gC _ trips1) $$ [HP]
  · iexact HP
  unfold freeS outF
  icases HP' with ⟨⟨HB, HI, HC, ⟨%W', HW⟩⟩, ⟨⟨HS0, Hci0, Hco0⟩, ⟨⟨%f1', %g1, %h1, Hco1⟩, Hci1⟩, ⟨⟨%f2', %g2, %h2, Hco2⟩, Hci2⟩, ⟨⟨%f3', %g3, %h3, Hco3⟩, Hci3⟩, HF4, HF5, HF6, HF7⟩, HT, -, HD⟩
  sl_exec
  sl_step
  unfold bodyPost
  rw [bigSep_fin8, blocks_done (doneP c XT arg1 arg3 gI gC)]
  unfold freeS
  isplitl [HB HI HC HW]
  · isplitl [HB]; · iexact HB
    isplitl [HI]; · iexact HI
    isplitl [HC]; · iexact HC
    iexists _; iexact HW
  isplitl [HS0 Hci0 Hco0 Hco1 Hco1_src Hci1 Hco2 Hco2_src Hci2 Hco3 Hco3_src Hci3 HF4 HF5 HF6 HF7]
  · isplitl [HS0 Hci0 Hco0]
    · isplitl [HS0]; · iexact HS0
      isplitl [Hci0]; · iexact Hci0
      iexact Hco0
    isplitl [Hco1 Hco1_src Hci1]
    · isplitl [Hco1_src]; · iexists _; iexact Hco1_src
      isplitl [Hci1]; · iexact Hci1
      iexact Hco1
    isplitl [Hco2 Hco2_src Hci2]
    · isplitl [Hco2_src]; · iexists _; iexact Hco2_src
      isplitl [Hci2]; · iexact Hci2
      iexact Hco2
    isplitl [Hco3 Hco3_src Hci3]
    · isplitl [Hco3_src]; · iexists _; iexact Hco3_src
      isplitl [Hci3]; · iexact Hci3
      iexact Hco3
    isplitl [HF4]; · iexact HF4
    isplitl [HF5]; · iexact HF5
    isplitl [HF6]; · iexact HF6
    iexact HF7
  isplitl [HT]; · iexact HT
  isplitl [Hco1_dst]; · iapply (ob_done c XT arg1 arg3 gI gC 1 97 g1 f1' h1); iexact Hco1_dst
  isplitl [Hco2_dst]; · iapply (ob_done c XT arg1 arg3 gI gC 2 98 g2 f2' h2); iexact Hco2_dst
  isplitl [Hco3_dst]; · iapply (ob_done c XT arg1 arg3 gI gC 3 99 g3 f3' h3); iexact Hco3_dst
  iexact HD

end Body

end Cert.Proof.Merge

end
-- ==== Proof.Merge.Launch.lean ====
/- The merge as launched: the table, the result and the ring cut into blocks and slots, the body's run, and what the run ends with. -/
module

public import proofs.«01_k».proof.Proof.Merge.Body
public import proofs.«01_k».proof.Proof.Gen.Merge.Frame

@[expose] public section

noncomputable section

namespace Cert.Proof.Merge

open Cert.Merge Cert.Merge.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

abbrev XT (c : Dev nD) : Buf (Elt F) (tabM.view.loc (c : Thread nD τ)) := m ((c : Thread nD τ).loc main_arg2)

/-! ## The cells -/

/-- The semaphores of the copies: eight for copies in, eight for copies out. -/
abbrev osem : Fin 16 → SemLoc sig := fun i => if h : i.val < 8 then .dma (ci ⟨i.val, h⟩).sem else .dma (co ⟨i.val - 8, by omega⟩).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(ciC c 0 ∗ ciC c 1 ∗ ciC c 2 ∗ ciC c 3 ∗ ciC c 4 ∗ ciC c 5 ∗ ciC c 6 ∗ ciC c 7 ∗ coC c 0 ∗ coC c 1 ∗ coC c 2 ∗ coC c 3 ∗ coC c 4 ∗ coC c 5 ∗ coC c 6 ∗ coC c 7) :=
  bigSep_univ_eq_bigSepL [(0 : Fin 16), 1, 2, 3, 4, 5, 6, 7, 8, 9, 10, 11, 12, 13, 14, 15] (by decide) (by decide) _

/-! ## Blocks and slots -/

abbrev B100 (b : Fin 100) : Finset S500000x128.Idx := (Rect.unit (s := S500000x128) (blkOff b) S5000x128.size (blkOff_inb b)).set
abbrev S8s (s : Fin 8) : Finset S8x5000x128.Idx := (Rect.unit (s := S8x5000x128) (slotOff s) S1x5000x128.size (slotOff_inb s)).set

theorem mem_B100 (b : Fin 100) (y : S500000x128.Idx) : y ∈ B100 b ↔ (y 0).val / 5000 = b.val := by
  rw [Rect.mem_set_unit]
  have h1 : (y 1).val < 128 := (y 1).isLt
  constructor
  · intro H; have a0 : 5000 * b.val ≤ (y 0).val ∧ (y 0).val < 5000 * b.val + 5000 := H 0; omega
  · intro H i; fin_cases i
    · show 5000 * b.val ≤ (y 0).val ∧ (y 0).val < 5000 * b.val + 5000; omega
    · show 0 ≤ (y 1).val ∧ (y 1).val < 0 + 128; omega
theorem mem_S8s (s : Fin 8) (y : S8x5000x128.Idx) : y ∈ S8s s ↔ (y 0).val = s.val := by
  rw [Rect.mem_set_unit]
  have h1 : (y 1).val < 5000 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 5000; omega
    · show 0 ≤ (y 2).val ∧ (y 2).val < 0 + 128; omega
theorem B100_disjoint : ∀ b b' : Fin 100, b ≠ b' → Disjoint (B100 b) (B100 b') := by
  intro b b' hne; rw [Finset.disjoint_left]; intro y hy hy'; rw [mem_B100] at hy hy'; exact hne (Fin.ext (hy.symm.trans hy'))
theorem B100_cover : (Finset.univ : Finset (Fin 100)).biUnion B100 = Finset.univ := by
  ext y; simp only [Finset.mem_biUnion, Finset.mem_univ, true_and, iff_true]
  have : (y 0).val < 500000 := (y 0).isLt
  exact ⟨⟨(y 0).val / 5000, by omega⟩, by rw [mem_B100]⟩
theorem S8s_disjoint : ∀ s s' : Fin 8, s ≠ s' → Disjoint (S8s s) (S8s s') := by
  intro s s' hne; rw [Finset.disjoint_left]; intro y hy hy'; rw [mem_S8s] at hy hy'; exact hne (Fin.ext (hy.symm.trans hy'))
theorem S8s_cover : (Finset.univ : Finset (Fin 8)).biUnion S8s = Finset.univ := by
  ext y; simp only [Finset.mem_biUnion, Finset.mem_univ, true_and, iff_true]
  have : (y 0).val < 8 := (y 0).isLt
  exact ⟨⟨(y 0).val, this⟩, by rw [mem_S8s]⟩

theorem tb_set (b : Fin 100) : (tb b).view.set = B100 b := View.set_slice_whole _ _
theorem ob_set (b : Fin 100) : (ob b).view.set = B100 b := View.set_slice_whole _ _
theorem rs_set (s : Fin 8) : (rs s).view.set = S8s s := (View.set_reshape _ _).trans (View.set_slice_whole _ _)

/-- The table whole is its blocks; -/
theorem tab_eq (c : Dev nD) (X : Buf (Elt F) (tabM.view.loc (c : Thread nD τ))) :
    (((c : Thread nD τ).loc main_arg2) ↦{fullShare} X : sProp 𝕄) = bigSep Finset.univ (tabP c X) := by
  rw [Ring.pointsTo_blocks (ℓ := (c : Thread nD τ).loc main_arg2) B100 B100_disjoint B100_cover]
  exact bigSep_congr fun b _ => by rw [← tb_set]; rfl
theorem out_eq (c : Dev nD) (X : Buf (Elt F) (outM.view.loc (c : Thread nD τ))) :
    (((c : Thread nD τ).loc main_v0) ↦{fullShare} X : sProp 𝕄) = bigSep Finset.univ (fun b => obP c b (show Buf (Elt F) ((ob b).view.loc (c : Thread nD τ)) from X)) := by
  rw [Ring.pointsTo_blocks (ℓ := (c : Thread nD τ).loc main_v0) B100 B100_disjoint B100_cover]
  exact bigSep_congr fun b _ => by rw [← ob_set]; rfl
theorem raw_of (c : Dev nD) (b : Fin 100) (X : Buf (Elt F) ((ob b).view.loc (c : Thread nD τ))) : (obP c b X : sProp 𝕄) ⊢ rawP c b := by
  iintro H; iexists X; iexact H
/-- so is the result, at anything; -/
theorem out_raw (c : Dev nD) (X : Buf (Elt F) (outM.view.loc (c : Thread nD τ))) :
    (((c : Thread nD τ).loc main_v0) ↦{fullShare} X : sProp 𝕄) ⊢ bigSep Finset.univ (rawP c) :=
  (entails_of_eq (out_eq c X)).trans (bigSep_mono fun b _ => raw_of c b _)
theorem slotP_eq (c : Dev nD) (s : Fin 8) (f) : slotP c s f = (((c : Thread nD τ).loc cc0_scratch0) ↦[S8s s]{fullShare} f : sProp 𝕄) :=
  congrArg (fun S => (_ ↦[S]{fullShare} f : sProp 𝕄)) (rs_set s)
/-- and the ring is its slots, at anything, and back. -/
abbrev someS (c : Dev nD) (s : Fin 8) : sProp 𝕄 := iprop(∃ f, slotP c s f)
theorem some_of (c : Dev nD) (s : Fin 8) (f) : (((c : Thread nD τ).loc cc0_scratch0) ↦[S8s s]{fullShare} f : sProp 𝕄) ⊢ someS c s := by
  iintro H; iexists f; iapply (entails_of_eq (slotP_eq c s f).symm); iexact H
theorem of_some (c : Dev nD) (s : Fin 8) : (someS c s : sProp 𝕄) ⊢ iprop(∃ f : Buf (Elt F) ((c : Thread nD τ).loc cc0_scratch0), ((c : Thread nD τ).loc cc0_scratch0) ↦[S8s s]{fullShare} f) := by
  iintro ⟨%f, H⟩; iexists f; iapply (entails_of_eq (slotP_eq c s f)); iexact H
theorem buf_split (c : Dev nD) :
    iprop(∃ f : Buf (Elt F) ((c : Thread nD τ).loc cc0_scratch0), ((c : Thread nD τ).loc cc0_scratch0) ↦{fullShare} f)
      ⊢ (bigSep Finset.univ (someS c) : sProp 𝕄) := by
  iintro ⟨%f, H⟩
  iapply ((entails_of_eq (Ring.pointsTo_blocks (Ix := Unit) (Name := ℕ) (U := UU nD τ) (Lvl := ℕ) (q := fullShare) (ℓ := (c : Thread nD τ).loc cc0_scratch0) S8s S8s_disjoint S8s_cover f)).trans
    (bigSep_mono fun s _ => some_of c s f))
  iexact H
theorem buf_join (c : Dev nD) :
    (bigSep Finset.univ (someS c) : sProp 𝕄)
      ⊢ iprop(∃ f : Buf (Elt F) ((c : Thread nD τ).loc cc0_scratch0), ((c : Thread nD τ).loc cc0_scratch0) ↦{fullShare} f) :=
  (bigSep_mono fun s _ => of_some c s).trans (Ring.pointsTo_blocks_join_exists (ℓ := (c : Thread nD τ).loc cc0_scratch0) S8s S8s_disjoint S8s_cover (fun _ => default))

theorem sep_eq_assoc (P Q R : sProp 𝕄) : iprop((P ∗ Q) ∗ R) = iprop(P ∗ Q ∗ R) := equiv_iff.mp ⟨BI.sep_assoc, BI.sep_assoc'⟩
/-- The free slots are the ring's slots and the cells. -/
theorem free_eq (c : Dev nD) : (bigSep Finset.univ (freeS c) : sProp 𝕄)
    = iprop(bigSep Finset.univ (someS c) ∗ Pipeline.ownSems0 osem c) := by
  have e1 : (bigSep Finset.univ (freeS c) : sProp 𝕄) = iprop(bigSep Finset.univ (someS c) ∗ bigSep Finset.univ (fun s => ciC c s) ∗ bigSep Finset.univ (fun s => coC c s)) :=
    (bigSep_sep Finset.univ (someS c) (fun s => iprop(ciC c s ∗ coC c s))).trans
      (congrArg (fun R : sProp 𝕄 => iprop(bigSep Finset.univ (someS c) ∗ R)) (bigSep_sep Finset.univ (fun s => ciC c s) (fun s => coC c s)))
  rw [e1, ownSems0_eq, bigSep_fin8 (fun s => ciC c s), bigSep_fin8 (fun s => coC c s)]
  simp only [sep_eq_assoc]

/-! ## The pipeline's proof data -/

abbrev st0 (t : Fin cfg0.N) : Memref sig .tc .smem S128 .i32 := win0_0.stage (cfg0.slots t 0)
abbrev st1 (t : Fin cfg0.N) : Memref sig .tc .smem S16384 .i32 := win0_1.stage (cfg0.slots t 1)
abbrev st2 (t : Fin cfg0.N) : Memref sig .tc .vmem S4096x128 .i32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

abbrev gB (c : Dev nD) (t : Fin cfg0.N) : Buf (Elt F) ((st0 t).view.loc (c : Thread nD τ)) := (st0 t).view.rep (iblk m c 0 t)
abbrev gI (c : Dev nD) (t : Fin cfg0.N) : Buf (Elt F) ((st1 t).view.loc (c : Thread nD τ)) := (st1 t).view.rep (iblk m c 1 t)
abbrev gC (c : Dev nD) (t : Fin cfg0.N) : Buf (Elt F) ((st2 t).view.loc (c : Thread nD τ)) := (st2 t).view.rep (iblk m c 2 t)

/-- The result. -/
def outAt (c : Dev nD) : Buf (Elt F) (outM.view.loc (c : Thread nD τ)) := outC c (XT m c) (st1 t0_0) (st2 t0_0) (gI m c t0_0) (gC m c t0_0)

/-- The starts split the ids, on every core. -/
def PreOK : Prop := ∀ c, Starts c (st0 t0_0) (st1 t0_0) (gB m c t0_0) (gI m c t0_0)

def PhiIn (c : Dev nD) : sProp 𝕄 := iprop(bigSep Finset.univ (freeS c) ∗ bigSep Finset.univ (tabP c (XT m c)) ∗ bigSep Finset.univ (rawP c))
def PhiOut (c : Dev nD) : sProp 𝕄 := iprop(bigSep Finset.univ (freeS c) ∗ bigSep Finset.univ (tabP c (XT m c))
  ∗ bigSep Finset.univ (doneP c (XT m c) (st1 t0_0) (st2 t0_0) (gI m c t0_0) (gC m c t0_0)))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := if t.val = 0 then PhiIn m c else PhiOut m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]

/-! ## The body -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

set_option backward.isDefEq.respectTransparency.types false in
theorem body_obligation (h : PreOK m) (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, after_w0, after_w1, after_w2]
  rw [show (dats m 0 c).Φ t0_0.castSucc = PhiIn m c from rfl, show (dats m 0 c).Φ t0_0.succ = PhiOut m c from rfl]
  unfold Dat.owesAt Pipeline.owesWithin
  rw [show (dats m 0 c).owed t0_0.castSucc = 0 from rfl, show (dats m 0 c).owed t0_0.succ = 0 from rfl]
  unfold owns PhiIn PhiOut
  iintro ⟨⟨HF, HT, HO⟩, ⟨%W, -, HW⟩, ⟨%d0, %g0, %hg0, H0⟩, ⟨%d1, %g1, %hg1, H1⟩, ⟨%d2, %g2, %hg2, H2⟩⟩
  ihave H0' := (pointsTo_rep_entails (c : Thread nD τ) (st0 t0_0) g0 fullShare) $$ H0
  ihave H1' := (pointsTo_rep_entails (c : Thread nD τ) (st1 t0_0) g1 fullShare) $$ H1
  ihave H2' := (pointsTo_rep_entails (c : Thread nD τ) (st2 t0_0) g2 fullShare) $$ H2
  rw [hg0, hg1, hg2]
  sl_rw [prog_eq t0_0]
  iapply (wp_wand_r Idealize.ShloMosaic.frame (wpE (defs₀ (F := F)) 𝒱₀ (c : Thread nD τ) none) Set.univ)
  isplitl [HF HT HO HW H0' H1' H2']
  · iapply (bodyRun c (XT m c) (st0 t0_0) (hst0 t0_0) (st1 t0_0) (hst1 t0_0) (st2 t0_0) (hst2 t0_0) (gB m c t0_0) (gI m c t0_0) (gC m c t0_0) (h c))
    unfold bodyPre
    isplitl [HW H0' H1' H2']
    · isplitl [H0']; · iexact H0'
      isplitl [H1']; · iexact H1'
      isplitl [H2']; · iexact H2'
      iexists W; iexact HW
    isplitl [HF]; · iexact HF
    isplitl [HT]; · iexact HT
    iexact HO
  · unfold bodyPost
    iintro %_ ⟨⟨H0, H1, H2, ⟨%W', HW⟩⟩, HF, HT, HO⟩
    isplitl [HF HT HO]
    · isplitl [HF]; · iexact HF
      isplitl [HT]; · iexact HT
      iexact HO
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr; · ipureintro; exact View.read_rep _ _
    iexact H2

/-! ## The run -/

def intoΦ (c : Dev nD) : sProp 𝕄 := iprop((bigSep Finset.univ (tabP c (XT m c)) ∗ bigSep Finset.univ (rawP c)) ∗ Pipeline.ownSems0 osem c)
def outOfΦ (c : Dev nD) : sProp 𝕄 := iprop((((c : Thread nD τ).loc main_arg2) ↦{fullShare} m ((c : Thread nD τ).loc main_arg2))
  ∗ (((c : Thread nD τ).loc main_v0) ↦{fullShare} outAt m c))
def u₀ : UU nD τ := (initOf (Pipeline.cells cfgs Cert.Merge.Gen.cellOf_inj) (Pipeline.launchToks cfgs Cert.Merge.Gen.cellOf_inj), 1)
def QY (c : Dev nD) (s : MemSt nD τ sig (Elt F)) : Prop :=
  s.mem ((c : Thread nD τ).loc main_arg2) = m ((c : Thread nD τ).loc main_arg2) ∧ s.mem ((c : Thread nD τ).loc main_v0) = outAt m c
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
/-- Every execution ends, with the table as it was, the result `outAt`, and every counter at zero. -/
theorem run_main (h : PreOK m) : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq, tab_eq c (XT m c)]
      unfold intoΦ
      iintro ⟨⟨H0, HV⟩, HS, -, -, -⟩; imodintro
      isplitl [H0 HV HS]
      · isplitl [H0 HV]
        · isplitl [H0]; · iexact H0
          iapply (out_raw c (m ((c : Thread nD τ).loc main_v0))); iexact HV
        iexact HS
      iempintro)
    (hin := fun c => by
      rw [scopedRest0_eq, show (dats m 0 c).Φ 0 = PhiIn m c from rfl]
      unfold intoΦ PhiIn; rw [free_eq]
      iintro ⟨⟨⟨H0, HV⟩, Hc⟩, Hb⟩
      ihave Hs := (buf_split c) $$ Hb
      isplitl [Hs Hc]
      · isplitl [Hs]; · iexact Hs
        iexact Hc
      isplitl [H0]; · iexact H0
      iexact HV)
    (hout := fun c => by
      rw [scopedRest0_eq, show (dats m 0 c).Φ (Fin.last cfg0.N) = PhiOut m c from rfl]
      unfold PhiOut outOfΦ; rw [free_eq, ← tab_eq c (XT m c)]
      iintro ⟨⟨Hs, Hc⟩, H0, HV⟩
      isplitl [H0 HV]
      · isplitl [H0]; · iexact H0
        iapply (entails_of_eq (out_eq c (outAt m c)).symm); iexact HV
      isplitl [Hc]; · iexact Hc
      iapply (buf_join c); iexact Hs)
    (QY := QY m)
    (hY := fun c s' => by
      unfold outOfΦ
      iintro ⟨⟨H0, HV⟩, -, HSI⟩
      icombine HSI H0 gives %h0
      icombine HSI HV gives %h1
      imodintro
      isplitr; · ipureintro; exact ⟨Buf.eq_of_forall_mem_univ h0, Buf.eq_of_forall_mem_univ h1⟩
      iexact HSI)
    (hQ := fun _ hh hz => ⟨hh, hz⟩)

/-- What the run ends with, array by array. -/
theorem run_all (h : PreOK m) : θ_run defs (onTc (τ := τ) (main (F := F))) (s₀ m ρ) (fun r => (∀ c : Dev nD,
      r.2.mem ((c.tc : Thread nD τ).loc main_v0) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ hh => ⟨fun c => ⟨(hh.1 c).2.2, ((hh.1 c).1 0).trans ((dats m 0 c).arrAt_in 0 rfl _), ((hh.1 c).1 1).trans ((dats m 0 c).arrAt_in 1 rfl _),
    (hh.1 c).2.1, ((hh.1 c).1 2).trans ((dats m 0 c).arrAt_in 2 rfl _)⟩, hh.2⟩) (run_main m ρ h)

end Launch

end Cert.Proof.Merge

end
-- ==== Proof.Merge.Pred.lean ====
/- The predicate on the starts read back: id `j` is below block `b`'s first row exactly when `j` is before the block's start. -/
module

public import proofs.«01_k».proof.Proof.Gen.Pre_block_starts
public import Idealize.ShloMosaic.Lib.Pointwise
public import Idealize.ShloMosaic.Lib.Affine

@[expose] public section

set_option maxRecDepth 16384

noncomputable section

namespace Cert.Pre_block_starts.Hand

open Cert.Pre_block_starts
open Idealize.ShloMosaic

attribute [local instance] Cert.Pre_block_starts.Gen.facts

variable {F : FTy → Type} [FloatOps F]
variable (x0 : IVec S128 32) (x1 : IVec S16384 32) (x2 : IVec S500000x128 32) (x3 : IVec S4096x128 32)

theorem and_one : ∀ p q : BitVec 1, IntOp.andi p q = 1#1 → p = 1#1 ∧ q = 1#1 := by decide
theorem eq_one : ∀ p q : Bool, IntOp.cmpi .eq (BitVec.ofBool p) (BitVec.ofBool q) = 1#1 → p = q := by decide
theorem bool_one : ∀ p : Bool, BitVec.ofBool p = 1#1 → p = true := by decide

/-- The predicate at one block and one id. -/
theorem of_word (s i : BitVec 32) (j b : ℕ) (hj : j < 16384) (hb : b < 101)
    (e : IntOp.andi (IntOp.andi (IntOp.andi (IntOp.cmpi .eq (IntOp.cmpi .slt (BitVec.ofNat 32 j) s) (IntOp.cmpi .slt i (IntOp.muli (BitVec.ofNat 32 b) 20000#32)))
      (IntOp.cmpi .sge i 0#32)) (IntOp.cmpi .sge s 0#32)) (IntOp.cmpi .sle s 16384#32) = 1#1) :
    s.toNat ≤ 16384 ∧ i.toNat < 2 ^ 31 ∧ (j < s.toNat ↔ i.toNat < 20000 * b) := by
  obtain ⟨e, h4⟩ := and_one _ _ e
  obtain ⟨e, h3⟩ := and_one _ _ e
  obtain ⟨h1, h2⟩ := and_one _ _ e
  have h4' : (BitVec.sle s 16384#32) = true := bool_one _ h4
  have h3' : (BitVec.sle 0#32 s) = true := bool_one _ h3
  have h2' : (BitVec.sle 0#32 i) = true := bool_one _ h2
  have h1' : BitVec.slt (BitVec.ofNat 32 j) s = BitVec.slt i (IntOp.muli (BitVec.ofNat 32 b) 20000#32) := eq_one _ _ h1
  have hm : IntOp.muli (BitVec.ofNat 32 b) 20000#32 = BitVec.ofNat 32 (20000 * b) := by
    show BitVec.ofNat 32 b * BitVec.ofNat 32 20000 = _
    rw [← BitVec.ofNat_mul, Nat.mul_comm]
  rw [hm] at h1'
  have hs := BitVec.toInt_eq_toNat_cond s
  have hi := BitVec.toInt_eq_toNat_cond i
  have hjn : (BitVec.ofNat 32 j).toNat = j := by rw [BitVec.toNat_ofNat]; omega
  have hbn : (BitVec.ofNat 32 (20000 * b)).toNat = 20000 * b := by rw [BitVec.toNat_ofNat]; omega
  have hjj := BitVec.toInt_eq_toNat_cond (BitVec.ofNat 32 j)
  have hbb := BitVec.toInt_eq_toNat_cond (BitVec.ofNat 32 (20000 * b))
  rw [hjn] at hjj
  rw [hbn] at hbb
  have h0 : (0#32 : BitVec 32).toInt = 0 := by decide
  have hU : (16384#32 : BitVec 32).toInt = 16384 := by decide
  rw [BitVec.sle_eq_decide, decide_eq_true_eq] at h4' h3' h2'
  rw [BitVec.slt_eq_decide, BitVec.slt_eq_decide, decide_eq_decide] at h1'
  have hs2 := s.isLt
  have hi2 := i.isLt
  split at hs <;> split at hi <;> split at hjj <;> split at hbb <;> omega

theorem starts (h : fn (F := F) x0 x1 x2 x3 = fun _ => 1#1) (b : Fin 101) (j : Fin 16384) :
    (x0 (ix1 (⟨b.val, by omega⟩ : Fin 128))).toNat ≤ 16384 ∧ (x1 (ix1 j)).toNat < 2 ^ 31
      ∧ (j.val < (x0 (ix1 (⟨b.val, by omega⟩ : Fin 128))).toNat ↔ (x1 (ix1 j)).toNat < 20000 * b.val) := by
  have e := congrFun h (ix2 b j)
  pointwise [fn, fn_part1] at e
  exact of_word _ _ _ _ j.isLt b.isLt e

end Cert.Pre_block_starts.Hand

end
-- ==== Proof.Merge.Starts.lean ====
/- The merge's arrays as the body reads them, and the predicate on the starts as the trips use it. -/
module

public import proofs.«01_k».proof.Proof.Merge.Launch
public import proofs.«01_k».proof.Proof.Merge.Pred

@[expose] public section

set_option maxRecDepth 16384

noncomputable section

namespace Cert.Proof.Merge

open Cert.Merge Cert.Merge.Gen
open Idealize.ShloMosaic
open Idealize.ShloMosaic.TcCoe
open Idealize.SL

variable {F : FTy → Type} [FloatOps F]

section Arrays
variable (m : (ℓ : Loc nD τ sig) → Buf (Elt F) ℓ)

/-- The arrays at launch. -/
abbrev aB (c : Dev nD) : IVec S128 32 := m ((c : Thread nD τ).loc main_arg0)
abbrev aI (c : Dev nD) : IVec S16384 32 := m ((c : Thread nD τ).loc main_arg1)
abbrev aT (c : Dev nD) : IVec S500000x128 32 := m ((c : Thread nD τ).loc main_arg2)
abbrev aC (c : Dev nD) : IVec S4096x128 32 := m ((c : Thread nD τ).loc main_arg3)

theorem blk0 (c : Dev nD) (n : Fin 128) : iblk m c 0 t0_0 (ix1 n) = aB m c (ix1 n) := by
  unfold iblk; rw [View.read_apply]
  refine congrArg (m ((c : Thread nD τ).loc main_arg0)) (funext fun a => Fin.ext ?_)
  fin_cases a; show 0 + 1 * n.val = n.val; omega
theorem blk1 (c : Dev nD) (n : Fin 16384) : iblk m c 1 t0_0 (ix1 n) = aI m c (ix1 n) := by
  unfold iblk; rw [View.read_apply]
  refine congrArg (m ((c : Thread nD τ).loc main_arg1)) (funext fun a => Fin.ext ?_)
  fin_cases a; show 0 + 1 * n.val = n.val; omega
theorem blk2 (c : Dev nD) (n : Fin 4096) (cc : Fin 128) : iblk m c 2 t0_0 (ix2 n cc) = aC m c (ix2 n cc) := by
  unfold iblk; rw [View.read_apply]
  refine congrArg (m ((c : Thread nD τ).loc main_arg3)) (funext fun a => Fin.ext ?_)
  fin_cases a
  · show 0 + 1 * n.val = n.val; omega
  · show 0 + 1 * cc.val = cc.val; omega

theorem start_eq (c : Dev nD) (n : Fin 128) : startAt c (st0 t0_0) (gB m c t0_0) n.val = aB m c (ix1 n) := by
  unfold startAt; rw [dif_pos n.isLt, View.read_rep]; exact blk0 m c n
theorem id_eq (c : Dev nD) (j : Fin 16384) : idAt c (st1 t0_0) (gI m c t0_0) j.val = aI m c (ix1 j) := by
  unfold idAt; rw [dif_pos j.isLt, View.read_rep]; exact blk1 m c j
theorem code_eq (c : Dev nD) (r : Fin 4096) (cc : Fin 128) : codeAt c (st2 t0_0) (gC m c t0_0) cc.val r.val = aC m c (ix2 r cc) := by
  unfold codeAt; rw [dif_pos ⟨r.isLt, cc.isLt⟩, View.read_rep]; exact blk2 m c r cc
theorem tab_at (c : Dev nD) (r : Fin 500000) (cc : Fin 128) : tabAt c (XT m c) cc.val r.val = aT m c (ix2 r cc) := by
  unfold tabAt; rw [dif_pos ⟨r.isLt, cc.isLt⟩]; rfl

theorem read_out (c : Dev nD) (g : Buf (Elt F) (outM.view.loc (c : Thread nD τ))) (i : S500000x128.Idx) : outM.view.read (Elt F) g i = g i := rfl
/-- One word of the result. -/
theorem out_at (c : Dev nD) (i : S500000x128.Idx) :
    outAt m c i = wordAt c (XT m c) (st1 t0_0) (st2 t0_0) (gI m c t0_0) (gC m c t0_0) 16384 (i 1).val (i 0).val := by
  have e := congrFun (View.read_writes_whole (Val := Elt F) outM.view outM.view.junk (fun i : S500000x128.Idx => wordAt c (XT m c) (st1 t0_0) (st2 t0_0) (gI m c t0_0) (gC m c t0_0) 16384 (i 1).val (i 0).val)) i
  exact (read_out c (outAt m c) i).symm.trans e

attribute [local instance] Cert.Pre_block_starts.Gen.facts in
/-- The predicate gives what the trips use, and that no id is negative. -/
theorem ok_of_pre (h : ∀ c, Cert.Pre_block_starts.fn (F := F) (aB m c) (aI m c) (aT m c) (aC m c) = fun _ => 1#1) :
    PreOK m ∧ ∀ c j, (aI m c (ix1 j)).toNat < 2 ^ 31 := by
  refine ⟨fun c b hb => ?_, fun c j => (Cert.Pre_block_starts.Hand.starts _ _ _ _ (h c) 0 j).2.1⟩
  have H : ∀ (b : ℕ) (hb : b < 101) (j : ℕ) (hj : j < 16384), (aB m c (ix1 (⟨b, by omega⟩ : Fin 128))).toNat ≤ 16384
      ∧ (aI m c (ix1 (⟨j, hj⟩ : Fin 16384))).toNat < 2 ^ 31
      ∧ (j < (aB m c (ix1 (⟨b, by omega⟩ : Fin 128))).toNat ↔ (aI m c (ix1 (⟨j, hj⟩ : Fin 16384))).toNat < 20000 * b) :=
    fun b hb j hj => Cert.Pre_block_starts.Hand.starts _ _ _ _ (h c) ⟨b, hb⟩ ⟨j, hj⟩
  have e0 := start_eq m c ⟨b, by omega⟩
  have e1 := start_eq m c ⟨b + 1, by omega⟩
  have ej := fun (j : ℕ) (hj : j < 16384) => id_eq m c ⟨j, hj⟩
  dsimp only at e0 e1 ej
  rw [e0, e1]
  have H0 := H b (by omega)
  have H1 := H (b + 1) (by omega)
  have hle : (aB m c (ix1 (⟨b, by omega⟩ : Fin 128))).toNat ≤ (aB m c (ix1 (⟨b + 1, by omega⟩ : Fin 128))).toNat := by
    by_contra hn
    have hlt := (H0 0 (by omega)).1
    have a := H0 (aB m c (ix1 (⟨b + 1, by omega⟩ : Fin 128))).toNat (by omega)
    have a' := H1 (aB m c (ix1 (⟨b + 1, by omega⟩ : Fin 128))).toNat (by omega)
    have p := a.2.2.1 (by omega)
    have q := a'.2.2.2 (by omega)
    omega
  refine ⟨hle, (H1 0 (by omega)).1, fun j hj => ?_⟩
  have a := (H0 j hj).2.2
  have a' := (H1 j hj).2.2
  rw [ej j hj]
  omega

end Arrays

end Cert.Proof.Merge

end
-- ==== Proof.Merge.Bytes.lean ====
/- The four bytes of a word, and what one put, or all the puts so far, does to each of them. -/
module

public import proofs.«01_k».proof.Proof.Merge.Words

@[expose] public section

noncomputable section

namespace Cert.Proof.Merge

open Cert.Merge Cert.Merge.Gen
open Idealize.ShloMosaic Idealize.ShloMosaic.ValueIdx

/-- Byte `q` of a word, as the reference takes it: an arithmetic shift, then the low eight bits. -/
def byte (q : ℕ) (w : BitVec 32) : BitVec 32 := IntOp.andi (IntOp.shrsi .host w (BitVec.ofNat 32 (8 * q))) 255#32

theorem shli_nat (u : ArithUnit) (x y : BitVec 32) (n : ℕ) (h : y.toNat = n) (hn : n < 32) : IntOp.shli u x y = x <<< n := by
  unfold IntOp.shli
  rw [if_pos (h ▸ hn), ← h]; rfl

theorem shrui_nat (u : ArithUnit) (x y : BitVec 32) (n : ℕ) (h : y.toNat = n) (hn : n < 32) : IntOp.shrui u x y = x >>> n := by
  unfold IntOp.shrui
  rw [if_pos (h ▸ hn), ← h]; rfl

theorem shrsi_nat (u : ArithUnit) (x y : BitVec 32) (n : ℕ) (h : y.toNat = n) (hn : n < 32) : IntOp.shrsi u x y = x.sshiftRight n := by
  unfold IntOp.shrsi
  rw [if_pos (h ▸ hn), ← h]; rfl

theorem bit255 (i : ℕ) : (255#32).getLsbD i = decide (i < 8) := by
  by_cases h : i < 32
  · have : ∀ i : Fin 32, (255#32).getLsbD i.val = decide (i.val < 8) := by decide
    exact this ⟨i, h⟩
  · rw [BitVec.getLsbD_of_ge _ _ (Nat.le_of_not_lt h), decide_eq_false (by omega)]

theorem bitTop (i : ℕ) : (4278190080#32).getLsbD i = (decide (24 ≤ i) && decide (i < 32)) := by
  by_cases h : i < 32
  · have : ∀ i : Fin 32, (4278190080#32).getLsbD i.val = (decide (24 ≤ i.val) && decide (i.val < 32)) := by decide
    exact this ⟨i, h⟩
  · rw [BitVec.getLsbD_of_ge _ _ (Nat.le_of_not_lt h), decide_eq_false h, Bool.and_false]

/-- Bit `i` of byte `q`. -/
theorem bit_byte (q : ℕ) (hq : q < 4) (w : BitVec 32) (i : ℕ) : (byte q w).getLsbD i = (w.getLsbD (8 * q + i) && decide (i < 8)) := by
  unfold byte IntOp.andi
  rw [shrsi_nat _ _ _ (8 * q) (by rw [BitVec.toNat_ofNat]; omega) (by omega), BitVec.getLsbD_and, bit255, BitVec.getLsbD_sshiftRight]
  by_cases h : i < 8
  · have h1 : ¬ 32 ≤ i := by omega
    have h2 : 8 * q + i < 32 := by omega
    simp [h, h1, h2]
  · simp [h]

/-- Bit `i` of a word with byte `a` replaced by byte `b` of another. -/
theorem bit_put (j id cw w : BitVec 32) (a b : ℕ) (ha : a < 4) (hb : b < 4) (hid : IntOp.andi id 3#32 = BitVec.ofNat 32 a)
    (hj : IntOp.andi j 3#32 = BitVec.ofNat 32 b) (i : ℕ) (hi : i < 32) :
    (put j id cw w).getLsbD i = if 8 * a ≤ i ∧ i < 8 * a + 8 then cw.getLsbD (8 * b + (i - 8 * a)) else w.getLsbD i := by
  have e3 : ∀ n < 4, IntOp.shli .scalar (BitVec.ofNat 32 n) 3#32 = BitVec.ofNat 32 (8 * n) := by
    intro n hn
    interval_cases n <;> rfl
  have es : ∀ n < 4, (IntOp.subi 24#32 (BitVec.ofNat 32 (8 * n))).toNat = 24 - 8 * n := by
    intro n hn
    interval_cases n <;> rfl
  unfold put Scalar.andi Scalar.shli Scalar.subi Scalar.xori
  rw [hid, hj, e3 a ha, e3 b hb, shli_nat _ _ _ (8 * a) (by rw [BitVec.toNat_ofNat]; omega) (by omega),
    shli_nat _ _ _ _ (es b hb) (by omega), shrui_nat _ _ _ _ (es a ha) (by omega)]
  unfold IntOp.ori IntOp.andi IntOp.xori
  have hall : (4294967295#32).getLsbD i = true := by
    have : ∀ i : Fin 32, (4294967295#32).getLsbD i.val = true := by decide
    exact this ⟨i, hi⟩
  rw [BitVec.getLsbD_or, BitVec.getLsbD_and, BitVec.getLsbD_xor, hall, BitVec.getLsbD_shiftLeft, bit255, BitVec.getLsbD_ushiftRight, BitVec.getLsbD_and,
    bitTop, BitVec.getLsbD_shiftLeft]
  by_cases h : 8 * a ≤ i ∧ i < 8 * a + 8
  · have h1 : ¬ i < 8 * a := by omega
    have h2 : i - 8 * a < 8 := by omega
    have h3 : 24 - 8 * a + i < 32 := by omega
    have h4 : 24 ≤ 24 - 8 * a + i := by omega
    have h5 : ¬ 24 - 8 * a + i < 24 - 8 * b := by omega
    have h6 : 24 - 8 * a + i - (24 - 8 * b) = 8 * b + (i - 8 * a) := by omega
    rw [if_pos h, h6]
    simp only [hi, h1, h2, h3, h4, h5, decide_true, decide_false, Bool.not_false, Bool.not_true, Bool.and_true, Bool.true_and, Bool.xor_true, Bool.and_false, Bool.false_or]
  · rw [if_neg h]
    have h7 : (decide (24 ≤ 24 - 8 * a + i) && decide (24 - 8 * a + i < 32)) = false := by
      rw [Bool.and_eq_false_iff, decide_eq_false_iff_not, decide_eq_false_iff_not]; omega
    have h8 : (!decide (i < 8 * a) && decide (i - 8 * a < 8)) = false := by
      rw [Bool.and_eq_false_iff, Bool.not_eq_false', decide_eq_true_eq, decide_eq_false_iff_not]; omega
    rw [h7, Bool.and_assoc, h8, Bool.and_false, Bool.and_false, Bool.or_false, Bool.false_xor, Bool.and_true]

/-- Byte `q` after one put: byte `b` of the code word if the put is at byte `q`, else as it was. -/
theorem byte_put (j id cw w : BitVec 32) (a b q : ℕ) (ha : a < 4) (hb : b < 4) (hq : q < 4) (hid : IntOp.andi id 3#32 = BitVec.ofNat 32 a)
    (hj : IntOp.andi j 3#32 = BitVec.ofNat 32 b) : byte q (put j id cw w) = if q = a then byte b cw else byte q w := by
  refine BitVec.eq_of_getLsbD_eq fun i hi => ?_
  by_cases h8 : i < 8
  · have hp := bit_put j id cw w a b ha hb hid hj (8 * q + i) (by omega)
    by_cases e : q = a
    · subst e
      rw [if_pos rfl, bit_byte q hq, bit_byte b hb, hp, if_pos (by omega), Nat.add_sub_cancel_left]
    · rw [if_neg e, bit_byte q hq, bit_byte q hq, hp, if_neg (by omega)]
  · have hn : decide (i < 8) = false := decide_eq_false h8
    split
    · rw [bit_byte q hq, bit_byte b hb, hn, Bool.and_false, Bool.and_false]
    · rw [bit_byte q hq, bit_byte q hq, hn, Bool.and_false, Bool.and_false]

/-- The low two bits of a word are its remainder by four. -/
theorem and3 (x : BitVec 32) : IntOp.andi x 3#32 = BitVec.ofNat 32 (x.toNat % 4) := by
  refine BitVec.eq_of_toNat_eq ?_
  unfold IntOp.andi
  rw [BitVec.toNat_and, BitVec.toNat_ofNat]
  show x.toNat &&& 3 = _
  rw [show (3 : ℕ) = 2 ^ 2 - 1 from rfl, Nat.and_two_pow_sub_one_eq_mod]
  have : x.toNat % 2 ^ 2 < 4 := Nat.mod_lt _ (by decide)
  show _ = (x.toNat % 4) % _
  omega

/-- The bytes of byte row `R` after the first `n` puts: each put at `R` replaces them by its own byte. -/
def byteAfter (ids : ℕ → ℕ) (cb : ℕ → BitVec 32) (R : ℕ) (b : BitVec 32) : ℕ → BitVec 32
  | 0 => b
  | n + 1 => if ids n = R then cb n else byteAfter ids cb R b n

/-- Byte `q` of a word of row `r` after `n` puts is the byte of byte row `4 r + q` after them. -/
theorem byte_after (ids : ℕ → BitVec 32) (cw : ℕ → BitVec 32) (r q : ℕ) (hq : q < 4) (w : BitVec 32) (n : ℕ) (hn : n < 2 ^ 32) :
    byte q (after ids cw r w n) = byteAfter (fun j => (ids j).toNat) (fun j => byte (j % 4) (cw (j / 4))) (4 * r + q) (byte q w) n := by
  induction n with
  | zero => rfl
  | succ n ih =>
    have ih' := ih (by omega)
    have hj : IntOp.andi (BitVec.ofNat 32 n) 3#32 = BitVec.ofNat 32 (n % 4) := by
      rw [and3, BitVec.toNat_ofNat, Nat.mod_eq_of_lt (a := n) (b := 2 ^ 32) (by omega)]
    show byte q (if (ids n).toNat / 4 = r then put (BitVec.ofNat 32 n) (ids n) (cw (n / 4)) (after ids cw r w n) else after ids cw r w n)
      = if (ids n).toNat = 4 * r + q then byte (n % 4) (cw (n / 4)) else byteAfter _ _ _ _ n
    by_cases h : (ids n).toNat / 4 = r
    · rw [if_pos h, byte_put _ _ _ _ ((ids n).toNat % 4) (n % 4) q (Nat.mod_lt _ (by decide)) (Nat.mod_lt _ (by decide)) hq (and3 _) hj]
      by_cases e : q = (ids n).toNat % 4
      · rw [if_pos e, if_pos (by omega)]
      · rw [if_neg e, if_neg (by omega), ih']
    · rw [if_neg h, if_neg (by omega), ih']

/-- A word is its four bytes put together. -/
theorem word_of_bytes (w : BitVec 32) :
    IntOp.ori (IntOp.ori (IntOp.ori (byte 0 w) (IntOp.shli .host (byte 1 w) 8#32)) (IntOp.shli .host (byte 2 w) 16#32)) (IntOp.shli .host (byte 3 w) 24#32) = w := by
  rw [shli_nat _ _ 8#32 8 rfl (by decide), shli_nat _ _ 16#32 16 rfl (by decide), shli_nat _ _ 24#32 24 rfl (by decide)]
  unfold IntOp.ori
  refine BitVec.eq_of_getLsbD_eq fun i hi => ?_
  rw [BitVec.getLsbD_or, BitVec.getLsbD_or, BitVec.getLsbD_or, BitVec.getLsbD_shiftLeft, BitVec.getLsbD_shiftLeft, BitVec.getLsbD_shiftLeft,
    bit_byte 0 (by decide), bit_byte 1 (by decide), bit_byte 2 (by decide), bit_byte 3 (by decide)]
  interval_cases i <;> simp

end Cert.Proof.Merge

end
-- ==== Proof.Merge.Scatter.lean ====
/- A scatter of whole rows that sets, read at an element: the rows in order, each replacing the row its index names. -/
module

public import proofs.«01_k».proof.Proof.Merge.Bytes
public import Idealize.ShloMosaic.Lib.Routing.OpsSet

@[expose] public section

noncomputable section

namespace Cert.Proof.Merge

open Idealize.ShloMosaic Idealize.ShloMosaic.ValueIdx Idealize.ShloMosaic.Routing

/-- Element `q` of row `i` of the updates lands at `(R, C)` exactly when its row's index word, read signed, is `R` and `q` is `C`. -/
theorem scatter_row_lands {M N K : ℕ} (d : ScatterDims (shape2 M K) (shape2 N 1) (shape2 N K)) (huw : d.updateWindowDims = [1])
    (hiw : d.insertedWindowDims = [0]) (hsd : d.scatterDimsToOperandDims = [0]) (hivd : d.indexVectorDim = 1) (idx : IVec (shape2 N 1) 32)
    (i : Fin N) (q : Fin K) (R : Fin M) (C : Fin K) :
    d.resultIdx? (ix2 i q) idx = some (ix2 R C) ↔ (idx (ix2 i (0 : Fin 1))).toInt = (R.val : Int) ∧ q.val = C.val := by
  have hm : (0 : Fin 2) ∈ d.scatterDimsToOperandDims := by rw [hsd]; exact List.mem_singleton.2 rfl
  have hk : d.sKept = [1] := by
    show (shape2 M K).kept d.insertedWindowDims = _
    rw [hiw]; rfl
  have hu : d.uScatter = [0] := by
    show (shape2 N K).kept d.updateWindowDims = _
    rw [huw]; rfl
  have hs : d.siKept = [0] := by
    show (List.finRange 2).filter (fun x => decide (x.val ≠ d.indexVectorDim)) = _
    rw [hivd]; rfl
  have one : ∀ (l : List (Fin 2)) (e : Fin 2) (n : ℕ) (h : n < l.length), l = [e] → l[n]'h = e := by
    intro l e n h hl
    subst hl
    have h' : n < 1 := h
    obtain rfl : n = 0 := by omega
    rfl
  have hw0 : d.window (ix2 i q) 0 = 0 := by
    unfold ScatterDims.window
    rw [dif_neg (by rw [hk]; exact fun h => absurd (congrArg Fin.val (List.mem_singleton.1 h)) Nat.zero_ne_one)]
  have hw1 : d.window (ix2 i q) 1 = q.val := by
    unfold ScatterDims.window
    rw [dif_pos (by rw [hk]; exact List.mem_singleton.2 rfl), one _ 1 _ _ huw]
  have hs1 : d.start (ix2 i q) idx 1 = 0 := by
    unfold ScatterDims.start
    rw [dif_neg (by rw [hsd]; exact fun h => absurd (congrArg Fin.val (List.mem_singleton.1 h)) Nat.one_ne_zero)]
  have hs0 : d.start (ix2 i q) idx 0 = (idx (ix2 i (0 : Fin 1))).toInt := by
    unfold ScatterDims.start
    rw [dif_pos hm]
    refine congrArg (fun x => (idx x).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      rw [one _ 0 _ _ hu]
    | ⟨1, _⟩ =>
      unfold ScatterDims.siIdx
      rw [dif_pos (by rw [hivd])]
      show List.idxOf (0 : Fin 2) d.scatterDimsToOperandDims = 0
      rw [hsd]; simp
  rw [resultIdx?_ix2, hs0, hs1, hw0, hw1]
  omega

/-- The last hit in a row-major walk over rows of `K` in which a row can be hit at `C` alone: that of the rows. -/
theorem lastHit_rows {α : Type} (p : ℕ → Prop) [DecidablePred p] (v : ℕ → α) (x : α) (K C : ℕ) (hC : C < K) (n : ℕ) :
    LaneScatter.lastHit (fun e => p (e / K) ∧ e % K = C) (fun e => v (e / K)) x (n * K) = LaneScatter.lastHit p v x n := by
  induction n with
  | zero => rw [Nat.zero_mul]; rfl
  | succ n ih =>
    have step : ∀ m ≤ K, LaneScatter.lastHit (fun e => p (e / K) ∧ e % K = C) (fun e => v (e / K)) x (n * K + m)
        = if p n ∧ C < m then v n else LaneScatter.lastHit p v x n := by
      intro m
      induction m with
      | zero => intro _; rw [if_neg (by omega)]; exact ih
      | succ m ihm =>
        intro hm
        have hd : (n * K + m) / K = n := by
          rw [Nat.mul_comm, Nat.mul_add_div (by omega), Nat.div_eq_of_lt hm, Nat.add_zero]
        have hr : (n * K + m) % K = m := by
          rw [Nat.mul_comm, Nat.mul_add_mod, Nat.mod_eq_of_lt hm]
        rw [← Nat.add_assoc, LaneScatter.lastHit, ihm (by omega), hd, hr]
        by_cases h1 : p n
        · by_cases h2 : m = C
          · rw [if_pos ⟨h1, h2⟩, if_pos ⟨h1, by omega⟩]
          · rw [if_neg (fun h => h2 h.2)]
            by_cases h3 : C < m
            · rw [if_pos ⟨h1, h3⟩, if_pos ⟨h1, by omega⟩]
            · rw [if_neg (fun h => h3 h.2), if_neg (by omega)]
        · rw [if_neg (fun h => h1 h.1), if_neg (fun h => h1 h.1), if_neg (fun h => h1 h.1)]
    rw [Nat.succ_mul, step K (Nat.le_refl K), LaneScatter.lastHit]
    by_cases h1 : p n
    · rw [if_pos ⟨h1, hC⟩, if_pos h1]
    · rw [if_neg (fun h => h1 h.1), if_neg h1]

theorem byteAfter_eq (ids : ℕ → ℕ) (cb : ℕ → BitVec 32) (R : ℕ) (b : BitVec 32) (n : ℕ) :
    byteAfter ids cb R b n = LaneScatter.lastHit (fun j => ids j = R) cb b n := by
  induction n with
  | zero => rfl
  | succ n ih => rw [byteAfter, LaneScatter.lastHit, ih]

/-- Rows scattered by one index word each, below 2³¹, read at `(R, C)`: each row in order whose index is `R` replaces the element. -/
theorem scatter_rows {M N K : ℕ} (d : ScatterDims (shape2 M K) (shape2 N 1) (shape2 N K)) (huw : d.updateWindowDims = [1])
    (hiw : d.insertedWindowDims = [0]) (hsd : d.scatterDimsToOperandDims = [0]) (hivd : d.indexVectorDim = 1)
    (x0 : (shape2 M K).Idx → BitVec 32) (idx : IVec (shape2 N 1) 32) (upd : (shape2 N K).Idx → BitVec 32)
    (R : Fin M) (C : Fin K) (ids : ℕ → ℕ) (hids : ∀ j : Fin N, (idx (ix2 j (0 : Fin 1))).toInt = (ids j.val : Int))
    (cb : ℕ → BitVec 32) (hcb : ∀ j : Fin N, upd (ix2 j C) = cb j.val) :
    Host.scatter d (fun _ b => b) x0 idx upd (ix2 R C) = byteAfter ids cb R.val (x0 (ix2 R C)) N := by
  have hnum : (shape2 N K).numel = N * K := by
    show ∏ a : Fin 2, (![N, K] : Fin 2 → Nat) a = N * K
    rw [Fin.prod_univ_two]; rfl
  rw [byteAfter_eq, ← lastHit_rows (fun j => ids j = R.val) cb _ K C.val C.isLt N, ← foldl_finRange_lastHit, scatter_at]
  have key : ∀ (A : ℕ) (hA : A = N * K) (g : BitVec 32 → Fin A → BitVec 32) (g' : BitVec 32 → Fin (N * K) → BitVec 32),
      (∀ a n, g a n = g' a (n.cast hA)) → ∀ a, (List.finRange A).foldl g a = (List.finRange (N * K)).foldl g' a := by
    intro A hA g g' hg a
    subst hA
    exact congrArg (fun f => (List.finRange (N * K)).foldl f a) (funext fun a => funext fun n => hg a n)
  refine key _ hnum _ _ (fun a n => ?_) _
  have hK : 0 < K := Nat.lt_of_le_of_lt (Nat.zero_le _) C.isLt
  have hn : n.val < N * K := hnum ▸ n.isLt
  have ha : n.val / K < N := (Nat.div_lt_iff_lt_mul hK).2 hn
  have hb : n.val % K < K := Nat.mod_lt _ hK
  rw [symm22 n ha hb]
  show _ = if ids (n.val / K) = R.val ∧ n.val % K = C.val then cb (n.val / K) else a
  have hl := scatter_row_lands d huw hiw hsd hivd idx ⟨n.val / K, ha⟩ ⟨n.val % K, hb⟩ R C
  rw [hids] at hl
  by_cases h : ids (n.val / K) = R.val ∧ n.val % K = C.val
  · have e : (⟨n.val % K, hb⟩ : Fin K) = C := Fin.ext h.2
    rw [if_pos (hl.2 ⟨congrArg Nat.cast h.1, h.2⟩), if_pos h, e, hcb]
  · rw [if_neg (fun c => h ⟨Int.ofNat.inj (hl.1 c).1, (hl.1 c).2⟩), if_neg h]

end Cert.Proof.Merge

end
-- ==== Proof.Merge.Reference.lean ====
/- The reference's rows of words, read at an element: each byte of it is the table's, then that of each row set there in order. -/
module

public import proofs.«01_k».proof.Proof.Merge.Scatter
public import proofs.«01_k».proof.Proof.Gen.MergeReference.Read

@[expose] public section

set_option maxRecDepth 16384

noncomputable section

namespace Cert.Proof.Merge

open Cert.MergeReference Cert.MergeReference.Gen Cert.MergeReference.Read
open Idealize.ShloMosaic Idealize.ShloMosaic.ValueIdx Idealize.ShloMosaic.Routing

variable {F : FTy → Type} [FloatOps F]

/-- Four layers laid side by side, read at an element: the layer its middle coordinate names. -/
theorem layers_at {N : ℕ} (x0 x1 x2 x3 : (shape3 N 1 128).Idx → BitVec 32)
    (h : Shape.Concatenates [shape3 N 1 128, shape3 N 1 128, shape3 N 1 128, shape3 N 1 128] (shape3 N 4 128) 1) (j : (shape3 N 4 128).Idx)
    (r : Fin N) (q : Fin 4) (C : Fin 128) (h0 : (j 0).val = r.val) (h1 : (j 1).val = q.val) (h2 : (j 2).val = C.val) :
    concatenate (shape3 N 4 128) 1 [⟨shape3 N 1 128, x0⟩, ⟨shape3 N 1 128, x1⟩, ⟨shape3 N 1 128, x2⟩, ⟨shape3 N 1 128, x3⟩] h j
      = (![x0, x1, x2, x3] : Fin 4 → (shape3 N 1 128).Idx → BitVec 32) q (ix3 r (0 : Fin 1) C) :=
  concatenate_ofFn_unit_apply (s₁ := shape3 N 1 128) (t := shape3 N 4 128) 1 (![x0, x1, x2, x3] : Fin 4 → (shape3 N 1 128).Idx → BitVec 32) h rfl rfl j q h1
    (ix3 r (0 : Fin 1) C) (fun b hb => by
      match b with
      | ⟨0, _⟩ => exact h0.symm
      | ⟨1, _⟩ => exact (hb rfl).elim
      | ⟨2, _⟩ => exact h2.symm)

/-- The table's byte rows: byte row `R` holds byte `R % 4` of the words of row `R / 4`. -/
theorem table_at (x2 : IVec S500000x128 32) (R : Fin 2000000) (C : Fin 128) (r : Fin 500000) (hr : r.val = R.val / 4) :
    val_main_v21 (F := F) x2 (ix2 R C) = byte (R.val % 4) (x2 (ix2 r C)) := by
  have hR := R.isLt
  have hC := C.isLt
  have hq : R.val % 4 < 4 := Nat.mod_lt _ (by decide)
  rw [val_main_v21_apply]
  unfold val_main_v20
  refine (layers_at (N := 500000) _ _ _ _ _ _ r ⟨R.val % 4, hq⟩ C (by show (R.val * 128 + C.val) / 512 = _; omega)
    (by show (R.val * 128 + C.val) / 128 % 4 = R.val % 4; omega) (by show (R.val * 128 + C.val) % 128 = _; omega)).trans ?_
  generalize R.val % 4 = q at hq
  interval_cases q
  · show val_main_v16 (F := F) x2 _ = _
    rw [val_main_v16_apply, val_main_v3_apply, val_main_v1_apply, val_main_v0_apply, val_main_v2_apply, val_main_c_apply, val_main_c_0_apply]
    unfold byte
    exact congrArg (fun i => IntOp.andi (IntOp.shrsi .host (x2 i) 0#32) 255#32) (funext fun a => by fin_cases a <;> rfl)
  · show val_main_v17 (F := F) x2 _ = _
    rw [val_main_v17_apply, val_main_v7_apply, val_main_v5_apply, val_main_v4_apply, val_main_v6_apply, val_main_c_1_apply, val_main_c_2_apply]
    unfold byte
    exact congrArg (fun i => IntOp.andi (IntOp.shrsi .host (x2 i) 8#32) 255#32) (funext fun a => by fin_cases a <;> rfl)
  · show val_main_v18 (F := F) x2 _ = _
    rw [val_main_v18_apply, val_main_v11_apply, val_main_v9_apply, val_main_v8_apply, val_main_v10_apply, val_main_c_3_apply, val_main_c_4_apply]
    unfold byte
    exact congrArg (fun i => IntOp.andi (IntOp.shrsi .host (x2 i) 16#32) 255#32) (funext fun a => by fin_cases a <;> rfl)
  · show val_main_v19 (F := F) x2 _ = _
    rw [val_main_v19_apply, val_main_v15_apply, val_main_v13_apply, val_main_v12_apply, val_main_v14_apply, val_main_c_5_apply, val_main_c_6_apply]
    unfold byte
    exact congrArg (fun i => IntOp.andi (IntOp.shrsi .host (x2 i) 24#32) 255#32) (funext fun a => by fin_cases a <;> rfl)

/-- The updates' byte rows: byte row `j` holds byte `j % 4` of the words of row `j / 4`. -/
theorem codes_at (x3 : IVec S4096x128 32) (j : Fin 16384) (C : Fin 128) (r : Fin 4096) (hr : r.val = j.val / 4) :
    val_main_v43 (F := F) x3 (ix2 j C) = byte (j.val % 4) (x3 (ix2 r C)) := by
  have hR := j.isLt
  have hC := C.isLt
  have hq : j.val % 4 < 4 := Nat.mod_lt _ (by decide)
  rw [val_main_v43_apply]
  unfold val_main_v42
  refine (layers_at (N := 4096) _ _ _ _ _ _ r ⟨j.val % 4, hq⟩ C (by show (j.val * 128 + C.val) / 512 = _; omega)
    (by show (j.val * 128 + C.val) / 128 % 4 = j.val % 4; omega) (by show (j.val * 128 + C.val) % 128 = _; omega)).trans ?_
  generalize j.val % 4 = q at hq
  interval_cases q
  · show val_main_v38 (F := F) x3 _ = _
    rw [val_main_v38_apply, val_main_v25_apply, val_main_v23_apply, val_main_v22_apply, val_main_v24_apply, val_main_c_7_apply, val_main_c_8_apply]
    unfold byte
    exact congrArg (fun i => IntOp.andi (IntOp.shrsi .host (x3 i) 0#32) 255#32) (funext fun a => by fin_cases a <;> rfl)
  · show val_main_v39 (F := F) x3 _ = _
    rw [val_main_v39_apply, val_main_v29_apply, val_main_v27_apply, val_main_v26_apply, val_main_v28_apply, val_main_c_9_apply, val_main_c_10_apply]
    unfold byte
    exact congrArg (fun i => IntOp.andi (IntOp.shrsi .host (x3 i) 8#32) 255#32) (funext fun a => by fin_cases a <;> rfl)
  · show val_main_v40 (F := F) x3 _ = _
    rw [val_main_v40_apply, val_main_v33_apply, val_main_v31_apply, val_main_v30_apply, val_main_v32_apply, val_main_c_11_apply, val_main_c_12_apply]
    unfold byte
    exact congrArg (fun i => IntOp.andi (IntOp.shrsi .host (x3 i) 16#32) 255#32) (funext fun a => by fin_cases a <;> rfl)
  · show val_main_v41 (F := F) x3 _ = _
    rw [val_main_v41_apply, val_main_v37_apply, val_main_v35_apply, val_main_v34_apply, val_main_v36_apply, val_main_c_13_apply, val_main_c_14_apply]
    unfold byte
    exact congrArg (fun i => IntOp.andi (IntOp.shrsi .host (x3 i) 24#32) 255#32) (funext fun a => by fin_cases a <;> rfl)

/-- The index words: an id below 2³¹ is its own. -/
theorem ids_at (x1 : IVec S16384 32) (j : Fin 16384) (h : (x1 (ix1 j)).toNat < 2 ^ 31) :
    (val_main_v49 (F := F) x1 (ix2 j (0 : Fin 1))).toInt = ((x1 (ix1 j)).toNat : Int) := by
  have e : idx_main_v49 (ix2 j (0 : Fin 1)) = ix1 j := funext fun a => by fin_cases a; rfl
  rw [val_main_v49_apply, e, val_main_v48_apply, val_main_v45_apply, val_main_v44_apply, val_main_c_15_apply,
    Routing.wrap_of_lt _ _ h, toInt_small h]

/-- A byte row after the rows are set. -/
theorem rows_at (x1 : IVec S16384 32) (x2 : IVec S500000x128 32) (x3 : IVec S4096x128 32) (ids cw : ℕ → BitVec 32) (C : Fin 128)
    (hids : ∀ j : Fin 16384, x1 (ix1 j) = ids j.val) (hlt : ∀ j : Fin 16384, (x1 (ix1 j)).toNat < 2 ^ 31)
    (hcw : ∀ r : Fin 4096, x3 (ix2 r C) = cw r.val) (r : Fin 500000) (q : ℕ) (hq : q < 4) (i : S2000000x128.Idx)
    (h0 : (i 0).val = 4 * r.val + q) (h1 : (i 1).val = C.val) :
    val_main_v50 (F := F) x1 x2 x3 i = byte q (after ids cw r.val (x2 (ix2 r C)) 16384) := by
  have hr := r.isLt
  have hi : i = ix2 (⟨4 * r.val + q, by omega⟩ : Fin 2000000) C := funext fun a => Fin.ext (by
    match a with
    | ⟨0, _⟩ => exact h0
    | ⟨1, _⟩ => exact h1)
  rw [hi, byte_after ids cw r.val q hq _ 16384 (by decide)]
  unfold val_main_v50
  refine (scatter_rows (M := 2000000) (N := 16384) (K := 128) scatter_S2000000x128_S16384x1_S16384x128_1_0_0_1 rfl rfl rfl rfl _ _ _ _ C
    (fun j => (ids j).toNat) (fun j => (ids_at x1 j (hlt j)).trans (by rw [hids])) (fun j => byte (j % 4) (cw (j / 4))) (fun j => ?_)).trans ?_
  · have hj := j.isLt
    rw [codes_at x3 j C ⟨j.val / 4, by omega⟩ rfl, hcw]
  · rw [table_at x2 _ C r (by show r.val = (4 * r.val + q) / 4; omega)]
    show byteAfter _ _ _ (byte ((4 * r.val + q) % 4) _) _ = _
    rw [show (4 * r.val + q) % 4 = q by omega]

/-- The reference's result at an element: the table's word after the puts. -/
theorem result_at (x1 : IVec S16384 32) (x2 : IVec S500000x128 32) (x3 : IVec S4096x128 32) (ids cw : ℕ → BitVec 32) (r : Fin 500000) (C : Fin 128)
    (hids : ∀ j : Fin 16384, x1 (ix1 j) = ids j.val) (hlt : ∀ j : Fin 16384, (x1 (ix1 j)).toNat < 2 ^ 31)
    (hcw : ∀ r : Fin 4096, x3 (ix2 r C) = cw r.val) :
    val_main_v68 (F := F) x1 x2 x3 (ix2 r C) = after ids cw r.val (x2 (ix2 r C)) 16384 := by
  have hr := r.isLt
  have hC := C.isLt
  have key := rows_at (F := F) x1 x2 x3 ids cw C hids hlt hcw r
  have l0 : val_main_v53 (F := F) x1 x2 x3 (ix2 r C) = byte 0 (after ids cw r.val (x2 (ix2 r C)) 16384) := by
    rw [val_main_v53_apply, val_main_v52_apply, val_main_v51_apply]
    exact key 0 (by decide) _ (by show (((r.val * 128 + C.val) / 128 * 4 + 0) * 128 + (r.val * 128 + C.val) % 128) / 128 = 4 * r.val + 0; omega)
      (by show (((r.val * 128 + C.val) / 128 * 4 + 0) * 128 + (r.val * 128 + C.val) % 128) % 128 = C.val; omega)
  have l1 : val_main_v55 (F := F) x1 x2 x3 (ix2 r C) = byte 1 (after ids cw r.val (x2 (ix2 r C)) 16384) := by
    rw [val_main_v55_apply, val_main_v54_apply, val_main_v51_apply]
    exact key 1 (by decide) _ (by show (((r.val * 128 + C.val) / 128 * 4 + (1 + 0)) * 128 + (r.val * 128 + C.val) % 128) / 128 = 4 * r.val + 1; omega)
      (by show (((r.val * 128 + C.val) / 128 * 4 + (1 + 0)) * 128 + (r.val * 128 + C.val) % 128) % 128 = C.val; omega)
  have l2 : val_main_v60 (F := F) x1 x2 x3 (ix2 r C) = byte 2 (after ids cw r.val (x2 (ix2 r C)) 16384) := by
    rw [val_main_v60_apply, val_main_v59_apply, val_main_v51_apply]
    exact key 2 (by decide) _ (by show (((r.val * 128 + C.val) / 128 * 4 + (2 + 0)) * 128 + (r.val * 128 + C.val) % 128) / 128 = 4 * r.val + 2; omega)
      (by show (((r.val * 128 + C.val) / 128 * 4 + (2 + 0)) * 128 + (r.val * 128 + C.val) % 128) % 128 = C.val; omega)
  have l3 : val_main_v65 (F := F) x1 x2 x3 (ix2 r C) = byte 3 (after ids cw r.val (x2 (ix2 r C)) 16384) := by
    rw [val_main_v65_apply, val_main_v64_apply, val_main_v51_apply]
    exact key 3 (by decide) _ (by show (((r.val * 128 + C.val) / 128 * 4 + (3 + 0)) * 128 + (r.val * 128 + C.val) % 128) / 128 = 4 * r.val + 3; omega)
      (by show (((r.val * 128 + C.val) / 128 * 4 + (3 + 0)) * 128 + (r.val * 128 + C.val) % 128) % 128 = C.val; omega)
  rw [val_main_v68_apply, val_main_v67_apply, val_main_v63_apply, val_main_v62_apply, val_main_v58_apply, val_main_v57_apply, l0, l1, l2, l3,
    val_main_v56_apply, val_main_v61_apply, val_main_v66_apply, val_main_c_17_apply, val_main_c_18_apply, val_main_c_19_apply, word_of_bytes]

end Cert.Proof.Merge

end
-- ==== Proof.Merge.Value.lean ====
/- What the merge leaves in the table is the reference's rows of words, from the same arrays. -/
module

public import proofs.«01_k».proof.Proof.Merge.Starts
public import proofs.«01_k».proof.Proof.Merge.Reference

@[expose] public section

set_option maxRecDepth 16384

noncomputable section

namespace Cert.Proof.Merge

open Idealize.ShloMosaic
open Idealize.ShloMosaic.TcCoe

variable {F : FTy → Type} [FloatOps F]

theorem value_eq (m : (ℓ : Loc Cert.Merge.nD Cert.Merge.τ Cert.Merge.sig) → Buf (Elt F) ℓ) (c : Dev Cert.Merge.nD)
    (hlt : ∀ j : Fin 16384, (aI m c (ValueIdx.ix1 j)).toNat < 2 ^ 31) :
    outAt m c = Cert.MergeReference.Read.val_main_v68 (F := F) (aI m c) (aT m c) (aC m c) := by
  funext i
  have hi : i = ValueIdx.ix2 (⟨(i 0).val, (i 0).isLt⟩ : Fin 500000) (⟨(i 1).val, (i 1).isLt⟩ : Fin 128) := funext fun a => by
    match a with
    | ⟨0, _⟩ => rfl
    | ⟨1, _⟩ => rfl
  refine (out_at m c i).trans ?_
  refine Eq.trans ?_ (congrArg (Cert.MergeReference.Read.val_main_v68 (F := F) (aI m c) (aT m c) (aC m c)) hi).symm
  refine Eq.trans ?_ (result_at (F := F) (aI m c) (aT m c) (aC m c)
    (idAt c (st1 Cert.Merge.Gen.t0_0) (gI m c Cert.Merge.Gen.t0_0)) (codeAt c (st2 Cert.Merge.Gen.t0_0) (gC m c Cert.Merge.Gen.t0_0) (i 1).val)
    ⟨(i 0).val, (i 0).isLt⟩ ⟨(i 1).val, (i 1).isLt⟩ (fun j => (id_eq m c j).symm) hlt (fun r => (code_eq m c r ⟨(i 1).val, (i 1).isLt⟩).symm)).symm
  exact congrArg (fun w => after (idAt c (st1 Cert.Merge.Gen.t0_0) (gI m c Cert.Merge.Gen.t0_0))
    (codeAt c (st2 Cert.Merge.Gen.t0_0) (gC m c Cert.Merge.Gen.t0_0) (i 1).val) (i 0).val w 16384)
    (tab_at m c ⟨(i 0).val, (i 0).isLt⟩ ⟨(i 1).val, (i 1).isLt⟩)

end Cert.Proof.Merge

end
-- ==== Proof.Merge.Claims.lean ====
/- The claims about the merge: it and its reference run and leave their arguments alone, and they leave the same words. -/
module

public import proofs.«01_k».proof.Defs
public import proofs.«01_k».proof.Proof.Gen.Merge
public import proofs.«01_k».proof.Proof.Gen.MergeReference
public import proofs.«01_k».proof.Proof.Gen.MergeReference.Run
public import proofs.«01_k».proof.Proof.Gen.Pre_block_starts
public import proofs.«01_k».proof.Proof.Merge.Value
public import Idealize.ShloMosaic.Adequacy
public import Idealize.ShloMosaic.Init

@[expose] public section

noncomputable section

namespace Cert.Proof.Merge

open Idealize.ShloMosaic Idealize.SL.Sem

/-- The merge runs, leaves its arguments alone and its counters at zero. -/
theorem merge_frame : Cert.quiescent_Merge (hMerge := Cert.Merge.Gen.facts) (hPre_block_starts := Cert.Pre_block_starts.Gen.facts) := fun m g h =>
  (θ_run Cert.Merge.defs _ _).mono (fun _ h => ⟨fun c => (h.1 c).2, h.2⟩) (run_all m g (ok_of_pre m h).1)

/-- Its reference runs, leaves its arguments alone, and uses no counter. -/
theorem reference_frame : Cert.quiescent_MergeReference (hMergeReference := Cert.MergeReference.Gen.facts) := fun m g _ =>
  (θ_run Cert.MergeReference.defs _ _).mono
    (fun r h => ⟨fun c => (h c).2, Idealize.ShloMosaic.sem_eq_zero_of_no_sems (by decide) r.2⟩)
    (Cert.MergeReference.Value.run (F := Bits) m g)

/-- From equal arguments that satisfy the precondition, the merge leaves the words its reference does. -/
theorem same_words : Cert.bitexact_Merge_MergeReference (hMerge := Cert.Merge.Gen.facts) (hMergeReference := Cert.MergeReference.Gen.facts)
    (hPre_block_starts := Cert.Pre_block_starts.Gen.facts) := by
  intro m g m' g' hpre hargs
  obtain ⟨hok, hlt⟩ := ok_of_pre m hpre
  refine ⟨outAt m, (θ_run Cert.Merge.defs _ _).mono (fun _ h c => h.1 c) (run_all m g hok),
    (θ_run Cert.MergeReference.defs _ _).mono (fun r h c => ?_) (Cert.MergeReference.Value.run (F := Bits) m' g')⟩
  obtain ⟨h68, hrest⟩ := h c
  obtain ⟨_, e1, e2, e3⟩ := hargs c
  refine ⟨h68.trans ((Cert.MergeReference.Read.val_main_v68_eq m' c).trans ?_), hrest⟩
  rw [e1, e2, e3]
  exact (value_eq m c (hlt c)).symm

end Cert.Proof.Merge

end
-- ==== Proof.lean ====
/- The claim: both readings of the kernel and the reference run and leave their arguments alone, the named constant is
   the one the original bits stand for, and over the extended reals the kernel's four results are the reference's. And
   the merge and its reference run, leave their arguments alone and leave the same words. -/
module

public import proofs.«01_k».proof.Defs
public import proofs.«01_k».proof.Proof.Gen.Kernel
public import proofs.«01_k».proof.Proof.Gen.KernelIdeal
public import proofs.«01_k».proof.Proof.Gen.Pre_segments_contiguous
public import proofs.«01_k».proof.Proof.Gen.ReferenceIdeal.Read
public import proofs.«01_k».proof.Proof.Gen.ReferenceIdeal
public import proofs.«01_k».proof.Proof.Gen.ReferenceIdeal.Run
public import proofs.«01_k».proof.Proof.Gen.Pre_block_starts
public import proofs.«01_k».proof.Proof.Gen.Merge
public import proofs.«01_k».proof.Proof.Gen.Merge.Launch
public import proofs.«01_k».proof.Proof.Gen.Merge.Skeleton
public import proofs.«01_k».proof.Proof.Gen.Merge.Loops
public import proofs.«01_k».proof.Proof.Gen.Merge.Points
public import proofs.«01_k».proof.Proof.Gen.Merge.Frame
public import proofs.«01_k».proof.Proof.Gen.MergeReference
public import proofs.«01_k».proof.Proof.Gen.MergeReference.Run
public import proofs.«01_k».proof.Proof.Gen.MergeReference.Read
public import proofs.«01_k».proof.Proof.Kernel.Launch
public import proofs.«01_k».proof.Proof.KernelIdeal.Launch
public import proofs.«01_k».proof.Proof.KernelIdeal.Arrays
public import proofs.«01_k».proof.Proof.Pre
public import proofs.«01_k».proof.Proof.Reference.Results
public import proofs.«01_k».proof.Proof.Merge.Claims
public import Idealize.ShloMosaic.Adequacy
public import Idealize.ShloMosaic.Init

@[expose] public section

noncomputable section

namespace Cert.Proof

open Idealize.ShloMosaic Idealize.SL.Sem

/-- The reference runs, leaves its arguments alone, and uses no counter. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The named constant 1/127 is the one the float literal stands for. -/
theorem preserves : Cert.preserves_Kernel_KernelIdeal :=
  IdealRules.named_const.statement Cert.KernelIdeal.κ "inv_127" .f32 0x3C010204#32 ((1 / 127 : ℝ) : EReal) rfl

section Reference

open Cert.ReferenceIdeal Cert.ReferenceIdeal.Read Cert.ReferenceIdeal.Hand
open Cert.KernelIdeal.Hand (tableRow tableNo)

variable (x0 : Vec Ideal S1 .i32) (x1 : Vec Ideal S512 .i32) (x2 : Vec Ideal S16448x128 .f32) (x3 : Vec Ideal S16384x128 .i32)
  (x4 : Vec Ideal S128x128 .f32) (x5 : Vec Ideal S128x128 .i32)

/-- The reference's new values, as an array of the table's rows. -/
theorem new_values : val_main_v35 (F := Ideal) x1 x2 x3 x4 x5 = fun i => (tableRow x0 x1 x2 x3 x4 x5 (i (0 : Fin 2))).w (i (1 : Fin 2)) :=
  funext fun i => (congrArg _ (eq_ix2 i)).trans (w_eq x0 x1 x2 x3 x4 x5 (i (0 : Fin 2)) (i (1 : Fin 2)))

/-- The reference's rounding errors. -/
theorem errors : val_main_v91 (F := Ideal) x0 x1 x2 x3 x4 x5 = fun i => (tableRow x0 x1 x2 x3 x4 x5 (i (0 : Fin 2))).err (i (1 : Fin 2)) :=
  funext fun i => (congrArg _ (eq_ix2 i)).trans (err_eq x0 x1 x2 x3 x4 x5 (i (0 : Fin 2)) (i (1 : Fin 2)))

/-- The reference's new signed bytes. -/
theorem new_codes : val_main_v85 (F := Ideal) x0 x1 x2 x3 x4 x5 = fun i => (tableRow x0 x1 x2 x3 x4 x5 (i (0 : Fin 2))).codes (i (1 : Fin 2)) :=
  funext fun i => (congrArg _ (eq_ix2 i)).trans (codes_eq x0 x1 x2 x3 x4 x5 (i (0 : Fin 2)) (i (1 : Fin 2)))

/-- The reference's new scales, packed. -/
theorem new_scales : val_main_v92 (F := Ideal) x1 x2 x3 x4 x5 = fun i => (tableRow x0 x1 x2 x3 x4 x5 (tableNo (i (0 : Fin 2)) (i (1 : Fin 2)))).scale :=
  funext fun i => (congrArg _ (eq_ix2 i)).trans (scales_eq x0 x1 x2 x3 x4 x5 (i (1 : Fin 2)) (i (0 : Fin 2)))

end Reference

/-- Over the extended reals, from equal arguments that satisfy the precondition, the kernel's four results are the
    reference's. -/
theorem algebraic : Cert.algebraic_KernelIdeal_ReferenceIdeal_pre_segments_contiguous
    (hKernelIdeal := Cert.KernelIdeal.Gen.facts) (hReferenceIdeal := Cert.ReferenceIdeal.Gen.facts)
    (hPre_segments_contiguous := Cert.Pre_segments_contiguous.Gen.facts) := by
  intro m g m' g' hpre hargs
  refine ⟨Cert.KernelIdeal.Hand.G7 m, Cert.KernelIdeal.Hand.G8 m, Cert.KernelIdeal.Hand.G9 m, Cert.KernelIdeal.Hand.G10 m,
    Cert.KernelIdeal.Hand.run m g fun c => Cert.Pre_segments_contiguous.Hand.contiguous _ _ _ _ _ _ (hpre c),
    (θ_run Cert.ReferenceIdeal.defs _ _).mono (fun r h c => ?_) (Cert.ReferenceIdeal.Value.run (F := Ideal) m' g')⟩
  obtain ⟨h35, h91, h85, h92, hrest⟩ := h c
  obtain ⟨e0, e1, e2, e3, e4, e5⟩ := hargs c
  refine ⟨h35.trans ?_, h91.trans ?_, h85.trans ?_, h92.trans ?_, hrest⟩
  · rw [e1, e2, e3, e4, e5]
    exact (Cert.ReferenceIdeal.Read.val_main_v35_eq _ _ _ _ _).trans (new_values _ _ _ _ _ _)
  · rw [Cert.ReferenceIdeal.Read.val_main_v91_eq, e0, e1, e2, e3, e4, e5]
    exact errors _ _ _ _ _ _
  · rw [Cert.ReferenceIdeal.Read.val_main_v85_eq, e0, e1, e2, e3, e4, e5]
    exact new_codes _ _ _ _ _ _
  · rw [Cert.ReferenceIdeal.Read.val_main_v92_eq, e1, e2, e3, e4, e5]
    exact new_scales _ _ _ _ _ _

/-- Everything the certificate claims. -/
theorem claim : Cert.Claim :=
  ⟨Cert.Kernel.Gen.facts, Cert.KernelIdeal.Gen.facts, Cert.ReferenceIdeal.Gen.facts, Cert.Merge.Gen.facts, Cert.MergeReference.Gen.facts,
    Cert.Pre_segments_contiguous.Gen.facts, Cert.Pre_block_starts.Gen.facts,
    fun m g _ => Cert.Kernel.Hand.frames m g, fun m g _ => Cert.KernelIdeal.Hand.frames m g, fun m g _ => Cert.KernelIdeal.Hand.frames m g,
    reference_frame, fun m g _ => reference_frame m g trivial, Merge.merge_frame, Merge.reference_frame,
    fun m g _ => Merge.reference_frame m g trivial, preserves, algebraic, Merge.same_words⟩

end Cert.Proof

end
